-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_scores [hPre_finite_scores : Cert.Pre_finite_scores.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_scores.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_scores [hPre_finite_scores : Cert.Pre_finite_scores.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_scores.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Kernel12Ideal_pre_finite_scores [hKernel12Ideal : Cert.Kernel12Ideal.Facts] [hPre_finite_scores : Cert.Pre_finite_scores.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_scores m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Reference12Ideal_pre_finite_scores [hReference12Ideal : Cert.Reference12Ideal.Facts] [hPre_finite_scores : Cert.Pre_finite_scores.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_scores m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)) (v2 : (c : Dev Cert.Kernel8Ideal.nD) → Buf (Elt Ideal) ((c.tc : Thread Cert.Kernel8Ideal.nD Cert.Kernel8Ideal.τ).loc Cert.Kernel8Ideal.main_v9_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_v9_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v35) = v0 c
          ∧ r.2.mem ((c.tc : Thread Cert.Reference8Ideal.nD Cert.Reference8Ideal.τ).loc Cert.Reference8Ideal.main_v11) = v1 c
          ∧ r.2.mem ((c.tc : Thread Cert.Reference8Ideal.nD Cert.Reference8Ideal.τ).loc Cert.Reference8Ideal.main_v36) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v9_0)) (v1 : (c : Dev Cert.Kernel11Ideal.nD) → Buf (Elt Ideal) ((c.tc : Thread Cert.Kernel11Ideal.nD Cert.Kernel11Ideal.τ).loc Cert.Kernel11Ideal.main_v9_1)) (v2 : (c : Dev Cert.Kernel11Ideal.nD) → Buf (Elt Ideal) ((c.tc : Thread Cert.Kernel11Ideal.nD Cert.Kernel11Ideal.τ).loc Cert.Kernel11Ideal.main_v9_2)) (v3 : (c : Dev Cert.Kernel11Ideal.nD) → Buf (Elt Ideal) ((c.tc : Thread Cert.Kernel11Ideal.nD Cert.Kernel11Ideal.τ).loc Cert.Kernel11Ideal.main_v9_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v9_0) = v0 c
          ∧ r.2.mem ((c.tc : Thread Cert.Kernel11Ideal.nD Cert.Kernel11Ideal.τ).loc Cert.Kernel11Ideal.main_v9_1) = v1 c
          ∧ r.2.mem ((c.tc : Thread Cert.Kernel11Ideal.nD Cert.Kernel11Ideal.τ).loc Cert.Kernel11Ideal.main_v9_2) = v2 c
          ∧ r.2.mem ((c.tc : Thread Cert.Kernel11Ideal.nD Cert.Kernel11Ideal.τ).loc Cert.Kernel11Ideal.main_v9_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v50) = v0 c
          ∧ r.2.mem ((c.tc : Thread Cert.Reference11Ideal.nD Cert.Reference11Ideal.τ).loc Cert.Reference11Ideal.main_v11) = v1 c
          ∧ r.2.mem ((c.tc : Thread Cert.Reference11Ideal.nD Cert.Reference11Ideal.τ).loc Cert.Reference11Ideal.main_v51) = v2 c
          ∧ r.2.mem ((c.tc : Thread Cert.Reference11Ideal.nD Cert.Reference11Ideal.τ).loc Cert.Reference11Ideal.main_v52) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal_pre_finite_scores [hKernel12Ideal : Cert.Kernel12Ideal.Facts] [hReference12Ideal : Cert.Reference12Ideal.Facts] [hPre_finite_scores : Cert.Pre_finite_scores.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_scores m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v12_0)) (v1 : (c : Dev Cert.Kernel12Ideal.nD) → Buf (Elt Ideal) ((c.tc : Thread Cert.Kernel12Ideal.nD Cert.Kernel12Ideal.τ).loc Cert.Kernel12Ideal.main_v12_1)) (v2 : (c : Dev Cert.Kernel12Ideal.nD) → Buf (Elt Ideal) ((c.tc : Thread Cert.Kernel12Ideal.nD Cert.Kernel12Ideal.τ).loc Cert.Kernel12Ideal.main_v12_2)) (v3 : (c : Dev Cert.Kernel12Ideal.nD) → Buf (Elt Ideal) ((c.tc : Thread Cert.Kernel12Ideal.nD Cert.Kernel12Ideal.τ).loc Cert.Kernel12Ideal.main_v12_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v12_0) = v0 c
          ∧ r.2.mem ((c.tc : Thread Cert.Kernel12Ideal.nD Cert.Kernel12Ideal.τ).loc Cert.Kernel12Ideal.main_v12_1) = v1 c
          ∧ r.2.mem ((c.tc : Thread Cert.Kernel12Ideal.nD Cert.Kernel12Ideal.τ).loc Cert.Kernel12Ideal.main_v12_2) = v2 c
          ∧ r.2.mem ((c.tc : Thread Cert.Kernel12Ideal.nD Cert.Kernel12Ideal.τ).loc Cert.Kernel12Ideal.main_v12_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v50) = v0 c
          ∧ r.2.mem ((c.tc : Thread Cert.Reference12Ideal.nD Cert.Reference12Ideal.τ).loc Cert.Reference12Ideal.main_v26) = v1 c
          ∧ r.2.mem ((c.tc : Thread Cert.Reference12Ideal.nD Cert.Reference12Ideal.τ).loc Cert.Reference12Ideal.main_v51) = v2 c
          ∧ r.2.mem ((c.tc : Thread Cert.Reference12Ideal.nD Cert.Reference12Ideal.τ).loc Cert.Reference12Ideal.main_v52) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel14 : Cert.Kernel14.Facts) (hKernel14Ideal : Cert.Kernel14Ideal.Facts) (hReference14Ideal : Cert.Reference14Ideal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite_scores (hKernel12Ideal := hKernel12Ideal) (hPre_finite_scores := hPre_finite_scores)
    ∧ quiescent_Reference12Ideal (hReference12Ideal := hReference12Ideal)
    ∧ quiescent_Reference12Ideal_pre_finite_scores (hReference12Ideal := hReference12Ideal) (hPre_finite_scores := hPre_finite_scores)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite_scores (hKernel12Ideal := hKernel12Ideal) (hReference12Ideal := hReference12Ideal) (hPre_finite_scores := hPre_finite_scores)
    ∧ preserves_Kernel14_Kernel14Ideal
    ∧ algebraic_Kernel14Ideal_Reference14Ideal (hKernel14Ideal := hKernel14Ideal) (hReference14Ideal := hReference14Ideal)
-- ==== Pre_finite.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg6 : FVec F S16384x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S16384x1024 .f32 := Host.absf main_arg6
  let main_cst_8 : FVec F S_ .f32 := constant S_ .f32 0x7F800000#32
  let main_v25 : FVec F S16384x1024 .f32 := broadcastInDim S16384x1024 ![] bcast_S_S16384x1024 main_cst_8
  let main_v26 : IVec S16384x1024 1 := cmpf .olt main_v24 main_v25
  let main_c_9 : IVec S_ 1 := constantI S_ 1 1#1
  let main_v27 : IVec S_ 1 := (fun x v => Host.reduce IntOp.andi x v reducesTo_S16384x1024_S_d0_1 h_S_) main_v26 main_c_9
  let main_v28 : IVec S_ 1 := andi main_v23 main_v27
  main_v28

def fn {F : FTy → Type} [FloatOps F] (main_arg0 : FVec F S16384x1024 .f32) (main_arg1 : FVec F S1024x2816 .f32) (main_arg2 : FVec F S1024x2816 .f32) (main_arg3 : FVec F S2816x1024 .f32) (main_arg4 : FVec F S1024 .f32) (main_arg5 : FVec F S1024 .f32) (main_arg6 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_arg6 main_v13 main_v16
-- ==== Pre_finite_scores.lean ====
abbrev S16384x1024 : Shape := ⟨2, ![16384, 1024]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S16384x1024 .f32) (main_arg1 : FVec F S256x1024 .f32) (main_arg2 : FVec F S1024x1024 .f32) (main_arg3 : FVec F S1024x1024 .f32) (main_arg4 : FVec F S1024x1024 .f32) (main_arg5 : FVec F S1024x1024 .f32) (main_arg6 : FVec F S1024 .f32) (main_arg7 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S16384x2816 : Shape := ⟨2, ![16384, 2816]⟩
abbrev S_ : Shape := ⟨0, ![]⟩
abbrev S16384x5632 : Shape := ⟨2, ![16384, 5632]⟩
abbrev S24x1024 : Shape := ⟨2, ![24, 1024]⟩
abbrev S1 : Shape := ⟨1, ![1]⟩
abbrev S2x1024 : Shape := ⟨2, ![2, 1024]⟩
abbrev S256x1024 : Shape := ⟨2, ![256, 1024]⟩
abbrev S256x5632 : Shape := ⟨2, ![256, 5632]⟩
abbrev S1x1024 : Shape := ⟨2, ![1, 1024]⟩
abbrev S256 : Shape := ⟨1, ![256]⟩
abbrev S256x1 : Shape := ⟨2, ![256, 1]⟩
abbrev S256x2816 : Shape := ⟨2, ![256, 2816]⟩
abbrev S256x256 : Shape := ⟨2, ![256, 256]⟩

abbrev nBuf : Space → Nat
  | .hbm => 43
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x1024, .f32⟩
  | .hbm, ⟨23, _⟩ => ⟨S16384x1024, .f32⟩
  | .hbm, ⟨24, _⟩ => ⟨S16384x5632, .f32⟩
  | .hbm, ⟨25, _⟩ => ⟨S_, .f32⟩
  | .hbm, ⟨26, _⟩ => ⟨S24x1024, .f32⟩
  | .hbm, ⟨27, _⟩ => ⟨S_, .i32⟩
  | .hbm, ⟨28, _⟩ => ⟨S1, .i32⟩
  | .hbm, ⟨29, _⟩ => ⟨S24x1024, .f32⟩
  | .hbm, ⟨30, _⟩ => ⟨S_, .i32⟩
  | .hbm, ⟨31, _⟩ => ⟨S1, .i32⟩
  | .hbm, ⟨32, _⟩ => ⟨S24x1024, .f32⟩
  | .hbm, ⟨33, _⟩ => ⟨S1024x2816, .f32⟩
  | .hbm, ⟨34, _⟩ => ⟨S1024x2816, .bf16⟩
  | .hbm, ⟨35, _⟩ => ⟨S2816x1024, .f32⟩
  | .hbm, ⟨36, _⟩ => ⟨S2816x1024, .bf16⟩
  | .hbm, ⟨37, _⟩ => ⟨S2816x1024, .f32⟩
  | .hbm, ⟨38, _⟩ => ⟨S2816x1024, .bf16⟩
  | .hbm, ⟨39, _⟩ => ⟨S16384x1024, .f32⟩
  | .hbm, ⟨40, _⟩ => ⟨S16384x1024, .bf16⟩
  | .hbm, ⟨41, _⟩ => ⟨S16384x5632, .bf16⟩
  | .hbm, ⟨42, _⟩ => ⟨S2x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x5632, .f32⟩
  | .local _ .vmem, ⟨5, _⟩ => ⟨S256x5632, .f32⟩
  | .local _ .vmem, ⟨6, _⟩ => ⟨S1024x2816, .bf16⟩
  | .local _ .vmem, ⟨7, _⟩ => ⟨S2816x1024, .bf16⟩
  | .local _ .vmem, ⟨8, _⟩ => ⟨S2816x1024, .bf16⟩
  | .local _ .vmem, ⟨9, _⟩ => ⟨S24x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x5632, .bf16⟩
  | .local _ .vmem, ⟨15, _⟩ => ⟨S256x5632, .bf16⟩
  | .local _ .vmem, ⟨16, _⟩ => ⟨S2x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20_0 : Ref sig .tc := ⟨.hbm, 39, rfl⟩
abbrev main_v20_1 : Ref sig .tc := ⟨.hbm, 40, rfl⟩
abbrev main_v20_2 : Ref sig .tc := ⟨.hbm, 41, rfl⟩
abbrev main_v20_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S2x1024 : Shape := ⟨2, ![2, 1024]⟩

abbrev nBuf : Space → Nat
  | .hbm => 170
  | .vmem => 0
  | .smem => 0
  | _ => 0

abbrev hbmTy0_0 (i : Nat) : BufTy := match i % 128 with
  | 0 => ⟨S16384x1024, .f32⟩
  | 1 => ⟨S1024x2816, .f32⟩
  | 2 => ⟨S1024x2816, .f32⟩
  | 3 => ⟨S2816x1024, .f32⟩
  | 4 => ⟨S1024, .f32⟩
  | 5 => ⟨S1024, .f32⟩
  | 6 => ⟨S16384x1024, .f32⟩
  | 7 => ⟨S16384x2816, .f32⟩
  | 8 => ⟨S16384x2816, .f32⟩
  | 9 => ⟨S_, .f32⟩
  | 10 => ⟨S16384x1024, .f32⟩
  | 11 => ⟨S16384x1024, .f32⟩
  | 12 => ⟨S16384x2816, .f32⟩
  | 13 => ⟨S16384x2816, .f32⟩
  | 14 => ⟨S16384x2816, .f32⟩
  | 15 => ⟨S_, .f32⟩
  | 16 => ⟨S16384x2816, .f32⟩
  | 17 => ⟨S16384x2816, .f32⟩
  | 18 => ⟨S_, .f32⟩
  | 19 => ⟨S16384x2816, .f32⟩
  | 20 => ⟨S16384x2816, .f32⟩
  | 21 => ⟨S16384x2816, .f32⟩
  | 22 => ⟨S16384x2816, .f32⟩
  | 23 => ⟨S16384x2816, .f32⟩
  | 24 => ⟨S16384x1024, .f32⟩
  | 25 => ⟨S16384x1024, .f32⟩
  | 26 => ⟨S_, .f32⟩
  | 27 => ⟨S16384, .f32⟩
  | 28 => ⟨S16384x1, .f32⟩
  | 29 => ⟨S_, .f32⟩
  | 30 => ⟨S16384x1, .f32⟩
  | 31 => ⟨S16384x1, .f32⟩
  | 32 => ⟨S16384x1024, .f32⟩
  | 33 => ⟨S16384x1024, .f32⟩
  | 34 => ⟨S16384x1024, .f32⟩
  | 35 => ⟨S_, .f32⟩
  | 36 => ⟨S16384x1024, .f32⟩
  | 37 => ⟨S16384x1024, .f32⟩
  | 38 => ⟨S_, .f32⟩
  | 39 => ⟨S16384, .f32⟩
  | 40 => ⟨S16384x1, .f32⟩
  | 41 => ⟨S_, .f32⟩
  | 42 => ⟨S16384x1, .f32⟩
  | 43 => ⟨S16384x1, .f32⟩
  | 44 => ⟨S16384x1024, .f32⟩
  | 45 => ⟨S16384x1024, .f32⟩
  | 46 => ⟨S_, .f32⟩
  | 47 => ⟨S16384x1, .f32⟩
  | 48 => ⟨S16384x1, .f32⟩
  | 49 => ⟨S16384x1, .f32⟩
  | 50 => ⟨S16384x1, .f32⟩
  | 51 => ⟨S_, .f32⟩
  | 52 => ⟨S16384x1, .f32⟩
  | 53 => ⟨S16384x1, .f32⟩
  | 54 => ⟨S16384x1024, .f32⟩
  | 55 => ⟨S16384x1024, .f32⟩
  | 56 => ⟨S1x1024, .f32⟩
  | 57 => ⟨S16384x1024, .f32⟩
  | 58 => ⟨S16384x1024, .f32⟩
  | 59 => ⟨S1x1024, .f32⟩
  | 60 => ⟨S16384x1024, .f32⟩
  | 61 => ⟨S16384x1024, .f32⟩
  | 62 => ⟨S16384x1024, .f32⟩
  | 63 => ⟨S_, .f32⟩
  | 64 => ⟨S1024, .f32⟩
  | 65 => ⟨S1x1024, .f32⟩
  | 66 => ⟨S_, .f32⟩
  | 67 => ⟨S1024, .f32⟩
  | 68 => ⟨S16384x1024, .f32⟩
  | 69 => ⟨S_, .f32⟩
  | 70 => ⟨S1024, .f32⟩
  | 71 => ⟨S1x1024, .f32⟩
  | 72 => ⟨S16384x1024, .f32⟩
  | 73 => ⟨S16384x1024, .f32⟩
  | 74 => ⟨S_, .f32⟩
  | 75 => ⟨S1024, .f32⟩
  | 76 => ⟨S16384x1024, .f32⟩
  | 77 => ⟨S_, .f32⟩
  | 78 => ⟨S16384, .f32⟩
  | 79 => ⟨S16384x1, .f32⟩
  | 80 => ⟨S16384x1024, .f32⟩
  | 81 => ⟨S16384x1024, .f32⟩
  | 82 => ⟨S16384x1, .f32⟩
  | 83 => ⟨S16384x1024, .f32⟩
  | 84 => ⟨S_, .f32⟩
  | 85 => ⟨S16384, .f32⟩
  | 86 => ⟨S16384x1, .f32⟩
  | 87 => ⟨S_, .f32⟩
  | 88 => ⟨S16384x1, .f32⟩
  | 89 => ⟨S16384x1, .f32⟩
  | 90 => ⟨S_, .f32⟩
  | 91 => ⟨S16384, .f32⟩
  | 92 => ⟨S16384x1024, .f32⟩
  | 93 => ⟨S16384x1024, .f32⟩
  | 94 => ⟨S16384x1024, .f32⟩
  | 95 => ⟨S_, .f32⟩
  | 96 => ⟨S16384, .f32⟩
  | 97 => ⟨S16384x1, .f32⟩
  | 98 => ⟨S16384x1024, .f32⟩
  | 99 => ⟨S16384x1, .f32⟩
  | 100 => ⟨S_, .f32⟩
  | 101 => ⟨S16384x1, .f32⟩
  | 102 => ⟨S16384x1, .f32⟩
  | 103 => ⟨S_, .f32⟩
  | 104 => ⟨S16384, .f32⟩
  | 105 => ⟨S16384x1024, .f32⟩
  | 106 => ⟨S16384x1024, .f32⟩
  | 107 => ⟨S_, .f32⟩
  | 108 => ⟨S16384x1024, .f32⟩
  | 109 => ⟨S16384x1024, .f32⟩
  | 110 => ⟨S16384x2816, .f32⟩
  | 111 => ⟨S16384x2816, .f32⟩
  | 112 => ⟨S16384x2816, .f32⟩
  | 113 => ⟨S_, .f32⟩
  | 114 => ⟨S16384x2816, .f32⟩
  | 115 => ⟨S16384x2816, .f32⟩
  | 116 => ⟨S_, .f32⟩
  | 117 => ⟨S16384x2816, .f32⟩
  | 118 => ⟨S16384x2816, .f32⟩
  | 119 => ⟨S_, .f32⟩
  | 120 => ⟨S16384x2816, .f32⟩
  | 121 => ⟨S16384x2816, .f32⟩
  | 122 => ⟨S16384x2816, .f32⟩
  | 123 => ⟨S16384x2816, .f32⟩
  | 124 => ⟨S16384x2816, .f32⟩
  | 125 => ⟨S16384x2816, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x2816, .f32⟩
  | 1 => ⟨S16384x2816, .f32⟩
  | 2 => ⟨S16384x2816, .f32⟩
  | 3 => ⟨S16384x1024, .f32⟩
  | 4 => ⟨S16384x2816, .f32⟩
  | 5 => ⟨S16384x2816, .f32⟩
  | 6 => ⟨S16384x2816, .f32⟩
  | 7 => ⟨S16384x2816, .f32⟩
  | 8 => ⟨S16384x1024, .f32⟩
  | 9 => ⟨S16384x1024, .f32⟩
  | 10 => ⟨S_, .f32⟩
  | 11 => ⟨S16384x1024, .f32⟩
  | 12 => ⟨S16384x1024, .f32⟩
  | 13 => ⟨S16384x1024, .f32⟩
  | 14 => ⟨S16384x2816, .f32⟩
  | 15 => ⟨S16384x2816, .f32⟩
  | 16 => ⟨S_, .f32⟩
  | 17 => ⟨S16384x2816, .f32⟩
  | 18 => ⟨S16384x2816, .f32⟩
  | 19 => ⟨S_, .f32⟩
  | 20 => ⟨S16384x2816, .f32⟩
  | 21 => ⟨S16384x2816, .f32⟩
  | 22 => ⟨S_, .f32⟩
  | 23 => ⟨S16384x2816, .f32⟩
  | 24 => ⟨S16384x2816, .f32⟩
  | 25 => ⟨S16384x2816, .f32⟩
  | 26 => ⟨S16384x2816, .f32⟩
  | 27 => ⟨S16384x2816, .f32⟩
  | 28 => ⟨S16384x1024, .f32⟩
  | 29 => ⟨S16384x2816, .f32⟩
  | 30 => ⟨S16384x2816, .f32⟩
  | 31 => ⟨S16384x2816, .f32⟩
  | 32 => ⟨S16384x2816, .f32⟩
  | 33 => ⟨S16384x2816, .f32⟩
  | 34 => ⟨S16384x2816, .f32⟩
  | 35 => ⟨S16384x2816, .f32⟩
  | 36 => ⟨S16384x1024, .bf16⟩
  | 37 => ⟨S16384x5632, .f32⟩
  | 38 => ⟨S16384x5632, .bf16⟩
  | 39 => ⟨S1x1024, .f32⟩
  | 40 => ⟨S1x1024, .f32⟩
  | 41 => ⟨S2x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_v57 : Ref sig .tc := ⟨.hbm, 86, rfl⟩
abbrev main_cst_13 : Ref sig .tc := ⟨.hbm, 87, rfl⟩
abbrev main_v58 : Ref sig .tc := ⟨.hbm, 88, rfl⟩
abbrev main_v59 : Ref sig .tc := ⟨.hbm, 89, rfl⟩
abbrev main_cst_14 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_15 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_16 : Ref sig .tc := ⟨.hbm, 100, rfl⟩
abbrev main_v68 : Ref sig .tc := ⟨.hbm, 101, rfl⟩
abbrev main_v69 : Ref sig .tc := ⟨.hbm, 102, rfl⟩
abbrev main_cst_17 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_18 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_call1_v0 : Ref sig .tc := ⟨.hbm, 111, rfl⟩
abbrev main_call1_v1 : Ref sig .tc := ⟨.hbm, 112, rfl⟩
abbrev main_call1_cst : Ref sig .tc := ⟨.hbm, 113, rfl⟩
abbrev main_call1_v2 : Ref sig .tc := ⟨.hbm, 114, rfl⟩
abbrev main_call1_v3 : Ref sig .tc := ⟨.hbm, 115, rfl⟩
abbrev main_call1_cst_0 : Ref sig .tc := ⟨.hbm, 116, rfl⟩
abbrev main_call1_v4 : Ref sig .tc := ⟨.hbm, 117, rfl⟩
abbrev main_v76_2 : Ref sig .tc := ⟨.hbm, 118, rfl⟩
abbrev main_call1_cst_1 : Ref sig .tc := ⟨.hbm, 119, rfl⟩
abbrev main_call1_v6 : Ref sig .tc := ⟨.hbm, 120, rfl⟩
abbrev main_call1_v7 : Ref sig .tc := ⟨.hbm, 121, rfl⟩
abbrev main_v76_1 : Ref sig .tc := ⟨.hbm, 122, rfl⟩
abbrev main_v76_0 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_call2_v0 : Ref sig .tc := ⟨.hbm, 132, rfl⟩
abbrev main_call2_v1 : Ref sig .tc := ⟨.hbm, 133, rfl⟩
abbrev main_call2_v2 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_cst_19 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_call3_v0 : Ref sig .tc := ⟨.hbm, 142, rfl⟩
abbrev main_call3_v1 : Ref sig .tc := ⟨.hbm, 143, rfl⟩
abbrev main_call3_cst : Ref sig .tc := ⟨.hbm, 144, rfl⟩
abbrev main_call3_v2 : Ref sig .tc := ⟨.hbm, 145, rfl⟩
abbrev main_call3_v3 : Ref sig .tc := ⟨.hbm, 146, rfl⟩
abbrev main_call3_cst_0 : Ref sig .tc := ⟨.hbm, 147, rfl⟩
abbrev main_call3_v4 : Ref sig .tc := ⟨.hbm, 148, rfl⟩
abbrev main_v91_2 : Ref sig .tc := ⟨.hbm, 149, rfl⟩
abbrev main_call3_cst_1 : Ref sig .tc := ⟨.hbm, 150, rfl⟩
abbrev main_call3_v6 : Ref sig .tc := ⟨.hbm, 151, rfl⟩
abbrev main_call3_v7 : Ref sig .tc := ⟨.hbm, 152, rfl⟩
abbrev main_v91_1 : Ref sig .tc := ⟨.hbm, 153, rfl⟩
abbrev main_v91_0 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_call4_v0 : Ref sig .tc := ⟨.hbm, 160, rfl⟩
abbrev main_call4_v1 : Ref sig .tc := ⟨.hbm, 161, rfl⟩
abbrev main_call4_v2 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩

abbrev nD : Nat := 1
abbrev τ : Topo := Topo.v7x

variable {F : FTy → Type} [FloatOps F]
-- ==== Kernel2.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩
abbrev S1x2816x1024 : Shape := ⟨3, ![1, 2816, 1024]⟩
abbrev S1024x1024 : Shape := ⟨2, ![1024, 1024]⟩

abbrev nBuf : Space → Nat
  | .hbm => 20
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .bf16⟩
  | .hbm, ⟨18, _⟩ => ⟨S16384x1024, .bf16⟩
  | .hbm, ⟨19, _⟩ => ⟨S1x2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S1x2816x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference2Ideal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩
abbrev S1x2816x1024 : Shape := ⟨3, ![1, 2816, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x1024, .f32⟩
  | .hbm, ⟨18, _⟩ => ⟨S1024x2816, .f32⟩
  | .hbm, ⟨19, _⟩ => ⟨S2816x1024, .f32⟩
  | .hbm, ⟨20, _⟩ => ⟨S1x2816x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Kernel3.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩
abbrev S16384x5632 : Shape := ⟨2, ![16384, 5632]⟩
abbrev S1x5632x1024 : Shape := ⟨3, ![1, 5632, 1024]⟩
abbrev S1024x1024 : Shape := ⟨2, ![1024, 1024]⟩
abbrev S1x2816x1024 : Shape := ⟨3, ![1, 2816, 1024]⟩

abbrev nBuf : Space → Nat
  | .hbm => 32
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x5632, .f32⟩
  | .hbm, ⟨30, _⟩ => ⟨S16384x5632, .bf16⟩
  | .hbm, ⟨31, _⟩ => ⟨S1x5632x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S1x2816x1024, .f32⟩
  | .local _ .vmem, ⟨5, _⟩ => ⟨S1x2816x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2816x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩
abbrev S5632x1024 : Shape := ⟨2, ![5632, 1024]⟩
abbrev S1x5632x1024 : Shape := ⟨3, ![1, 5632, 1024]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S2816x1024, .f32⟩
  | .hbm, ⟨26, _⟩ => ⟨S1024x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S2816x1024, .f32⟩
  | .hbm, ⟨32, _⟩ => ⟨S1024x2816, .f32⟩
  | .hbm, ⟨33, _⟩ => ⟨S2816x1024, .f32⟩
  | .hbm, ⟨34, _⟩ => ⟨S2816x1024, .f32⟩
  | .hbm, ⟨35, _⟩ => ⟨S5632x1024, .f32⟩
  | .hbm, ⟨36, _⟩ => ⟨S1x5632x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩

abbrev nD : Nat := 1
abbrev τ : Topo := Topo.v7x

variable {F : FTy → Type} [FloatOps F]
-- ==== Kernel4.lean ====
abbrev S16384x1024 : Shape := ⟨2, ![16384, 1024]⟩
abbrev S1024x1024 : Shape := ⟨2, ![1024, 1024]⟩
abbrev S1x1024x1024 : Shape := ⟨3, ![1, 1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S16384x1024, .bf16⟩
  | .hbm, ⟨5, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S1024x1024 : Shape := ⟨2, ![1024, 1024]⟩
abbrev S1x1024x1024 : Shape := ⟨3, ![1, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S1x1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S16384x1024 : Shape := ⟨2, ![16384, 1024]⟩
abbrev S1024x8192 : Shape := ⟨2, ![1024, 8192]⟩
abbrev S8192 : Shape := ⟨1, ![8192]⟩
abbrev S16384x8192 : Shape := ⟨2, ![16384, 8192]⟩
abbrev S8x1024x1024 : Shape := ⟨3, ![8, 1024, 1024]⟩
abbrev S1024x1024 : Shape := ⟨2, ![1024, 1024]⟩
abbrev S1x1024x1024 : Shape := ⟨3, ![1, 1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x8192, .f32⟩
  | .hbm, ⟨2, _⟩ => ⟨S8192, .f32⟩
  | .hbm, ⟨3, _⟩ => ⟨S16384x8192, .f32⟩
  | .hbm, ⟨4, _⟩ => ⟨S16384x8192, .bf16⟩
  | .hbm, ⟨5, _⟩ => ⟨S8x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x1024 : Shape := ⟨2, ![16384, 1024]⟩
abbrev S1024x8192 : Shape := ⟨2, ![1024, 8192]⟩
abbrev S8192 : Shape := ⟨1, ![8192]⟩
abbrev S16384x8192 : Shape := ⟨2, ![16384, 8192]⟩
abbrev S1x8192 : Shape := ⟨2, ![1, 8192]⟩
abbrev S8192x1024 : Shape := ⟨2, ![8192, 1024]⟩
abbrev S1024x8x1024 : Shape := ⟨3, ![1024, 8, 1024]⟩
abbrev S8x1024x1024 : Shape := ⟨3, ![8, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x8192, .f32⟩
  | .hbm, ⟨2, _⟩ => ⟨S8192, .f32⟩
  | .hbm, ⟨3, _⟩ => ⟨S16384x8192, .f32⟩
  | .hbm, ⟨4, _⟩ => ⟨S16384x8192, .f32⟩
  | .hbm, ⟨5, _⟩ => ⟨S1x8192, .f32⟩
  | .hbm, ⟨6, _⟩ => ⟨S16384x8192, .f32⟩
  | .hbm, ⟨7, _⟩ => ⟨S16384x8192, .f32⟩
  | .hbm, ⟨8, _⟩ => ⟨S8192x1024, .f32⟩
  | .hbm, ⟨9, _⟩ => ⟨S1024x8192, .f32⟩
  | .hbm, ⟨10, _⟩ => ⟨S1024x8x1024, .f32⟩
  | .hbm, ⟨11, _⟩ => ⟨S8x1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel6.lean ====
abbrev S16384x1024 : Shape := ⟨2, ![16384, 1024]⟩
abbrev S1024x8192 : Shape := ⟨2, ![1024, 8192]⟩
abbrev S8192 : Shape := ⟨1, ![8192]⟩
abbrev S16384x8192 : Shape := ⟨2, ![16384, 8192]⟩
abbrev S8192x1024 : Shape := ⟨2, ![8192, 1024]⟩
abbrev S1x8192x1024 : Shape := ⟨3, ![1, 8192, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 10
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x8192, .f32⟩
  | .hbm, ⟨2, _⟩ => ⟨S8192, .f32⟩
  | .hbm, ⟨3, _⟩ => ⟨S16384x8192, .f32⟩
  | .hbm, ⟨4, _⟩ => ⟨S16384x1024, .f32⟩
  | .hbm, ⟨5, _⟩ => ⟨S8192x1024, .f32⟩
  | .hbm, ⟨6, _⟩ => ⟨S8192x1024, .bf16⟩
  | .hbm, ⟨7, _⟩ => ⟨S1x8192x1024, .bf16⟩
  | .hbm, ⟨8, _⟩ => ⟨S16384x8192, .bf16⟩
  | .hbm, ⟨9, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 16, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S16384x1024 : Shape := ⟨2, ![16384, 1024]⟩
abbrev S1024x8192 : Shape := ⟨2, ![1024, 8192]⟩
abbrev S8192 : Shape := ⟨1, ![8192]⟩
abbrev S16384x8192 : Shape := ⟨2, ![16384, 8192]⟩
abbrev S_ : Shape := ⟨0, ![]⟩
abbrev S1x8192 : Shape := ⟨2, ![1, 8192]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x8192, .f32⟩
  | .hbm, ⟨2, _⟩ => ⟨S8192, .f32⟩
  | .hbm, ⟨3, _⟩ => ⟨S16384x8192, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x8192, .f32⟩
  | .hbm, ⟨9, _⟩ => ⟨S1x8192, .f32⟩
  | .hbm, ⟨10, _⟩ => ⟨S16384x8192, .f32⟩
  | .hbm, ⟨11, _⟩ => ⟨S16384x8192, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel7.lean ====
abbrev S16384x1024 : Shape := ⟨2, ![16384, 1024]⟩
abbrev S1024x2816 : Shape := ⟨2, ![1024, 2816]⟩
abbrev S1x1024x2816 : Shape := ⟨3, ![1, 1024, 2816]⟩
abbrev S2x1024x2816 : Shape := ⟨3, ![2, 1024, 2816]⟩
abbrev S16384x5632 : Shape := ⟨2, ![16384, 5632]⟩
abbrev S512x1024 : Shape := ⟨2, ![512, 1024]⟩
abbrev S512x2816 : Shape := ⟨2, ![512, 2816]⟩

abbrev nBuf : Space → Nat
  | .hbm => 8
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S1x1024x2816, .f32⟩
  | .hbm, ⟨4, _⟩ => ⟨S1x1024x2816, .f32⟩
  | .hbm, ⟨5, _⟩ => ⟨S2x1024x2816, .f32⟩
  | .hbm, ⟨6, _⟩ => ⟨S2x1024x2816, .bf16⟩
  | .hbm, ⟨7, _⟩ => ⟨S16384x5632, .f32⟩
  | .local _ .vmem, ⟨0, _⟩ => ⟨S512x1024, .f32⟩
  | .local _ .vmem, ⟨1, _⟩ => ⟨S512x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S512x2816, .f32⟩
  | .local _ .vmem, ⟨5, _⟩ => ⟨S512x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S16384x1024 : Shape := ⟨2, ![16384, 1024]⟩
abbrev S1024x2816 : Shape := ⟨2, ![1024, 2816]⟩
abbrev S16384x2816 : Shape := ⟨2, ![16384, 2816]⟩
abbrev S16384x5632 : Shape := ⟨2, ![16384, 5632]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S16384x2816, .f32⟩
  | .hbm, ⟨4, _⟩ => ⟨S16384x2816, .f32⟩
  | .hbm, ⟨5, _⟩ => ⟨S16384x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S16384x2816 : Shape := ⟨2, ![16384, 2816]⟩
abbrev S16384x5632 : Shape := ⟨2, ![16384, 5632]⟩
abbrev S_ : Shape := ⟨0, ![]⟩
abbrev S24x1024 : Shape := ⟨2, ![24, 1024]⟩
abbrev S1 : Shape := ⟨1, ![1]⟩
abbrev S256x1024 : Shape := ⟨2, ![256, 1024]⟩
abbrev S256x5632 : Shape := ⟨2, ![256, 5632]⟩
abbrev S256x2816 : Shape := ⟨2, ![256, 2816]⟩
abbrev S256x256 : Shape := ⟨2, ![256, 256]⟩
abbrev S1x1024 : Shape := ⟨2, ![1, 1024]⟩
abbrev S256 : Shape := ⟨1, ![256]⟩
abbrev S256x1 : Shape := ⟨2, ![256, 1]⟩

abbrev nBuf : Space → Nat
  | .hbm => 21
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16384x2816, .f32⟩
  | .hbm, ⟨7, _⟩ => ⟨S16384x2816, .f32⟩
  | .hbm, ⟨8, _⟩ => ⟨S16384x5632, .f32⟩
  | .hbm, ⟨9, _⟩ => ⟨S_, .f32⟩
  | .hbm, ⟨10, _⟩ => ⟨S24x1024, .f32⟩
  | .hbm, ⟨11, _⟩ => ⟨S_, .i32⟩
  | .hbm, ⟨12, _⟩ => ⟨S1, .i32⟩
  | .hbm, ⟨13, _⟩ => ⟨S24x1024, .f32⟩
  | .hbm, ⟨14, _⟩ => ⟨S_, .i32⟩
  | .hbm, ⟨15, _⟩ => ⟨S1, .i32⟩
  | .hbm, ⟨16, _⟩ => ⟨S24x1024, .f32⟩
  | .hbm, ⟨17, _⟩ => ⟨S2816x1024, .bf16⟩
  | .hbm, ⟨18, _⟩ => ⟨S16384x1024, .f32⟩
  | .hbm, ⟨19, _⟩ => ⟨S16384x1024, .f32⟩
  | .hbm, ⟨20, _⟩ => ⟨S16384x2816, .bf16⟩
  | .local _ .vmem, ⟨0, _⟩ => ⟨S256x1024, .f32⟩
  | .local _ .vmem, ⟨1, _⟩ => ⟨S256x1024, .f32⟩
  | .local _ .vmem, ⟨2, _⟩ => ⟨S256x5632, .f32⟩
  | .local _ .vmem, ⟨3, _⟩ => ⟨S256x5632, .f32⟩
  | .local _ .vmem, ⟨4, _⟩ => ⟨S2816x1024, .bf16⟩
  | .local _ .vmem, ⟨5, _⟩ => ⟨S24x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x2816, .bf16⟩
  | .local _ .vmem, ⟨11, _⟩ => ⟨S256x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_0 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_2 : Ref sig .tc := ⟨.hbm, 44, rfl⟩
abbrev main_v19 : Ref sig .tc := ⟨.hbm, 45, rfl⟩
abbrev main_v20 : Ref sig .tc := ⟨.hbm, 46, rfl⟩
abbrev main_cst_3 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_4 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩

abbrev nD : Nat := 1
abbrev τ : Topo := Topo.v7x

variable {F : FTy → Type} [FloatOps F]
-- ==== Kernel9.lean ====
abbrev S16384x1024 : Shape := ⟨2, ![16384, 1024]⟩
abbrev S1024x1024 : Shape := ⟨2, ![1024, 1024]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S16384x1024 : Shape := ⟨2, ![16384, 1024]⟩
abbrev S1024x1024 : Shape := ⟨2, ![1024, 1024]⟩
abbrev S1x1024x1024 : Shape := ⟨3, ![1, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S1x1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S16384x1024 : Shape := ⟨2, ![16384, 1024]⟩
abbrev S1024x1024 : Shape := ⟨2, ![1024, 1024]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S16384x1024 : Shape := ⟨2, ![16384, 1024]⟩
abbrev S1024x1024 : Shape := ⟨2, ![1024, 1024]⟩
abbrev S1x1024x1024 : Shape := ⟨3, ![1, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S1x1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S16384x2816 : Shape := ⟨2, ![16384, 2816]⟩
abbrev S16384x5632 : Shape := ⟨2, ![16384, 5632]⟩
abbrev S_ : Shape := ⟨0, ![]⟩
abbrev S24x1024 : Shape := ⟨2, ![24, 1024]⟩
abbrev S1 : Shape := ⟨1, ![1]⟩
abbrev S1x1 : Shape := ⟨2, ![1, 1]⟩
abbrev S256x1024 : Shape := ⟨2, ![256, 1024]⟩
abbrev S256x5632 : Shape := ⟨2, ![256, 5632]⟩
abbrev S256x2816 : Shape := ⟨2, ![256, 2816]⟩
abbrev S256x256 : Shape := ⟨2, ![256, 256]⟩
abbrev S1x1024 : Shape := ⟨2, ![1, 1024]⟩
abbrev S256 : Shape := ⟨1, ![256]⟩
abbrev S256x1 : Shape := ⟨2, ![256, 1]⟩

abbrev nBuf : Space → Nat
  | .hbm => 23
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S16384x2816, .f32⟩
  | .hbm, ⟨8, _⟩ => ⟨S16384x2816, .f32⟩
  | .hbm, ⟨9, _⟩ => ⟨S16384x5632, .f32⟩
  | .hbm, ⟨10, _⟩ => ⟨S_, .f32⟩
  | .hbm, ⟨11, _⟩ => ⟨S24x1024, .f32⟩
  | .hbm, ⟨12, _⟩ => ⟨S_, .i32⟩
  | .hbm, ⟨13, _⟩ => ⟨S1, .i32⟩
  | .hbm, ⟨14, _⟩ => ⟨S24x1024, .f32⟩
  | .hbm, ⟨15, _⟩ => ⟨S_, .i32⟩
  | .hbm, ⟨16, _⟩ => ⟨S1, .i32⟩
  | .hbm, ⟨17, _⟩ => ⟨S24x1024, .f32⟩
  | .hbm, ⟨18, _⟩ => ⟨S2816x1024, .bf16⟩
  | .hbm, ⟨19, _⟩ => ⟨S16384x1024, .f32⟩
  | .hbm, ⟨20, _⟩ => ⟨S16384x1024, .f32⟩
  | .hbm, ⟨21, _⟩ => ⟨S16384x2816, .bf16⟩
  | .hbm, ⟨22, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S256x5632, .f32⟩
  | .local _ .vmem, ⟨3, _⟩ => ⟨S256x5632, .f32⟩
  | .local _ .vmem, ⟨4, _⟩ => ⟨S2816x1024, .bf16⟩
  | .local _ .vmem, ⟨5, _⟩ => ⟨S24x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x2816, .bf16⟩
  | .local _ .vmem, ⟨13, _⟩ => ⟨S256x2816, .bf16⟩
  | .local _ .vmem, ⟨14, _⟩ => ⟨S1x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference11Ideal.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S16384x2816, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x1024, .f32⟩
  | .hbm, ⟨58, _⟩ => ⟨S16384x1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384, .f32⟩
  | .hbm, ⟨72, _⟩ => ⟨S_, .f32⟩
  | .hbm, ⟨73, _⟩ => ⟨S16384, .f32⟩
  | .hbm, ⟨74, _⟩ => ⟨S16384, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S16384, .f32⟩
  | .hbm, ⟨83, _⟩ => ⟨S_, .f32⟩
  | .hbm, ⟨84, _⟩ => ⟨S16384, .f32⟩
  | .hbm, ⟨85, _⟩ => ⟨S16384, .f32⟩
  | .hbm, ⟨86, _⟩ => ⟨S16384x1024, .f32⟩
  | .hbm, ⟨87, _⟩ => ⟨S16384x1024, .f32⟩
  | .hbm, ⟨88, _⟩ => ⟨S16384x2816, .bf16⟩
  | .hbm, ⟨89, _⟩ => ⟨S1x1, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_0 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_2 : Ref sig .tc := ⟨.hbm, 45, rfl⟩
abbrev main_v19 : Ref sig .tc := ⟨.hbm, 46, rfl⟩
abbrev main_v20 : Ref sig .tc := ⟨.hbm, 47, rfl⟩
abbrev main_cst_3 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_4 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_5 : Ref sig .tc := ⟨.hbm, 67, rfl⟩
abbrev main_v38 : Ref sig .tc := ⟨.hbm, 68, rfl⟩
abbrev main_v39 : Ref sig .tc := ⟨.hbm, 69, rfl⟩
abbrev main_cst_6 : Ref sig .tc := ⟨.hbm, 70, rfl⟩
abbrev main_v40 : Ref sig .tc := ⟨.hbm, 71, rfl⟩
abbrev main_cst_7 : Ref sig .tc := ⟨.hbm, 72, rfl⟩
abbrev main_v41 : Ref sig .tc := ⟨.hbm, 73, rfl⟩
abbrev main_v42 : Ref sig .tc := ⟨.hbm, 74, rfl⟩
abbrev main_cst_8 : Ref sig .tc := ⟨.hbm, 75, rfl⟩
abbrev main_v43 : Ref sig .tc := ⟨.hbm, 76, rfl⟩
abbrev main_cst_9 : Ref sig .tc := ⟨.hbm, 77, rfl⟩
abbrev main_v44 : Ref sig .tc := ⟨.hbm, 78, rfl⟩
abbrev main_cst_10 : Ref sig .tc := ⟨.hbm, 79, rfl⟩
abbrev main_cst_11 : Ref sig .tc := ⟨.hbm, 80, rfl⟩
abbrev main_v45 : Ref sig .tc := ⟨.hbm, 81, rfl⟩
abbrev main_v46 : Ref sig .tc := ⟨.hbm, 82, rfl⟩
abbrev main_cst_12 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩

abbrev nD : Nat := 1
abbrev τ : Topo := Topo.v7x

variable {F : FTy → Type} [FloatOps F]
-- ==== Kernel12.lean ====
abbrev S16384x1024 : Shape := ⟨2, ![16384, 1024]⟩
abbrev S256x1024 : Shape := ⟨2, ![256, 1024]⟩
abbrev S1024x1024 : Shape := ⟨2, ![1024, 1024]⟩
abbrev S1024 : Shape := ⟨1, ![1024]⟩
abbrev S1024x256 : Shape := ⟨2, ![1024, 256]⟩
abbrev S_ : Shape := ⟨0, ![]⟩
abbrev S24x1024 : Shape := ⟨2, ![24, 1024]⟩
abbrev S1 : Shape := ⟨1, ![1]⟩
abbrev S256x256 : Shape := ⟨2, ![256, 256]⟩
abbrev S1024x1 : Shape := ⟨2, ![1024, 1]⟩
abbrev S1x1024 : Shape := ⟨2, ![1, 1024]⟩

abbrev nBuf : Space → Nat
  | .hbm => 27
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S256x1024, .f32⟩
  | .hbm, ⟨9, _⟩ => ⟨S256x1024, .bf16⟩
  | .hbm, ⟨10, _⟩ => ⟨S1024x256, .bf16⟩
  | .hbm, ⟨11, _⟩ => ⟨S_, .f32⟩
  | .hbm, ⟨12, _⟩ => ⟨S24x1024, .f32⟩
  | .hbm, ⟨13, _⟩ => ⟨S_, .i32⟩
  | .hbm, ⟨14, _⟩ => ⟨S1, .i32⟩
  | .hbm, ⟨15, _⟩ => ⟨S24x1024, .f32⟩
  | .hbm, ⟨16, _⟩ => ⟨S_, .i32⟩
  | .hbm, ⟨17, _⟩ => ⟨S1, .i32⟩
  | .hbm, ⟨18, _⟩ => ⟨S24x1024, .f32⟩
  | .hbm, ⟨19, _⟩ => ⟨S1024x1024, .bf16⟩
  | .hbm, ⟨20, _⟩ => ⟨S1024x1024, .bf16⟩
  | .hbm, ⟨21, _⟩ => ⟨S256x1024, .f32⟩
  | .hbm, ⟨22, _⟩ => ⟨S256x1024, .bf16⟩
  | .hbm, ⟨23, _⟩ => ⟨S16384x1024, .f32⟩
  | .hbm, ⟨24, _⟩ => ⟨S16384x1024, .f32⟩
  | .hbm, ⟨25, _⟩ => ⟨S16384x1024, .bf16⟩
  | .hbm, ⟨26, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x256, .bf16⟩
  | .local _ .vmem, ⟨5, _⟩ => ⟨S256x1024, .bf16⟩
  | .local _ .vmem, ⟨6, _⟩ => ⟨S24x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference12Ideal.lean ====
abbrev S16384x1024 : Shape := ⟨2, ![16384, 1024]⟩
abbrev S256x1024 : Shape := ⟨2, ![256, 1024]⟩
abbrev S1024x1024 : Shape := ⟨2, ![1024, 1024]⟩
abbrev S1024 : Shape := ⟨1, ![1024]⟩
abbrev S16384x4x256 : Shape := ⟨3, ![16384, 4, 256]⟩
abbrev S256x4x256 : Shape := ⟨3, ![256, 4, 256]⟩
abbrev S4x16384x256 : Shape := ⟨3, ![4, 16384, 256]⟩
abbrev S_ : Shape := ⟨0, ![]⟩
abbrev S4x16384 : Shape := ⟨2, ![4, 16384]⟩
abbrev S4x16384x1 : Shape := ⟨3, ![4, 16384, 1]⟩
abbrev S4x256x16384 : Shape := ⟨3, ![4, 256, 16384]⟩
abbrev S16384 : Shape := ⟨1, ![16384]⟩
abbrev S16384x1 : Shape := ⟨2, ![16384, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S16384x1024, .f32⟩
  | .hbm, ⟨9, _⟩ => ⟨S256x1024, .f32⟩
  | .hbm, ⟨10, _⟩ => ⟨S256x1024, .f32⟩
  | .hbm, ⟨11, _⟩ => ⟨S16384x4x256, .f32⟩
  | .hbm, ⟨12, _⟩ => ⟨S256x4x256, .f32⟩
  | .hbm, ⟨13, _⟩ => ⟨S256x4x256, .f32⟩
  | .hbm, ⟨14, _⟩ => ⟨S4x16384x256, .f32⟩
  | .hbm, ⟨15, _⟩ => ⟨S_, .f32⟩
  | .hbm, ⟨16, _⟩ => ⟨S4x16384x256, .f32⟩
  | .hbm, ⟨17, _⟩ => ⟨S4x16384x256, .f32⟩
  | .hbm, ⟨18, _⟩ => ⟨S_, .f32⟩
  | .hbm, ⟨19, _⟩ => ⟨S4x16384, .f32⟩
  | .hbm, ⟨20, _⟩ => ⟨S_, .f32⟩
  | .hbm, ⟨21, _⟩ => ⟨S4x16384, .f32⟩
  | .hbm, ⟨22, _⟩ => ⟨S4x16384, .f32⟩
  | .hbm, ⟨23, _⟩ => ⟨S4x16384x1, .f32⟩
  | .hbm, ⟨24, _⟩ => ⟨S4x16384x256, .f32⟩
  | .hbm, ⟨25, _⟩ => ⟨S4x16384x256, .f32⟩
  | .hbm, ⟨26, _⟩ => ⟨S4x16384x256, .f32⟩
  | .hbm, ⟨27, _⟩ => ⟨S_, .f32⟩
  | .hbm, ⟨28, _⟩ => ⟨S4x16384, .f32⟩
  | .hbm, ⟨29, _⟩ => ⟨S4x16384x1, .f32⟩
  | .hbm, ⟨30, _⟩ => ⟨S4x16384x256, .f32⟩
  | .hbm, ⟨31, _⟩ => ⟨S4x16384x256, .f32⟩
  | .hbm, ⟨32, _⟩ => ⟨S4x256x16384, .f32⟩
  | .hbm, ⟨33, _⟩ => ⟨S16384x4x256, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S1x1024, .f32⟩
  | .hbm, ⟨64, _⟩ => ⟨S16384x1024, .f32⟩
  | .hbm, ⟨65, _⟩ => ⟨S16384x1024, .f32⟩
  | .hbm, ⟨66, _⟩ => ⟨S1x1024, .f32⟩
  | .hbm, ⟨67, _⟩ => ⟨S16384x1024, .f32⟩
  | .hbm, ⟨68, _⟩ => ⟨S16384x1024, .f32⟩
  | .hbm, ⟨69, _⟩ => ⟨S16384x1024, .bf16⟩
  | .hbm, ⟨70, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel14.lean ====
abbrev S8x1056x1024 : Shape := ⟨3, ![8, 1056, 1024]⟩
abbrev S1056x1024 : Shape := ⟨2, ![1056, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x1056x1024, .bf16⟩
  | .hbm, ⟨1, _⟩ => ⟨S1056x1024, .f32⟩
  | .hbm, ⟨2, _⟩ => ⟨S1056x1024, .f32⟩
  | .hbm, ⟨3, _⟩ => ⟨S1056x1024, .f32⟩
  | .hbm, ⟨4, _⟩ => ⟨S1056x1024, .f32⟩
  | .hbm, ⟨5, _⟩ => ⟨S1056x1024, .f32⟩
  | .hbm, ⟨6, _⟩ => ⟨S1056x1024, .f32⟩
  | .hbm, ⟨7, _⟩ => ⟨S1056x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x1056x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S8x1056x1024 : Shape := ⟨3, ![8, 1056, 1024]⟩
abbrev S1056x1024 : Shape := ⟨2, ![1056, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1056x1024, .bf16⟩
  | .hbm, ⟨1, _⟩ => ⟨S1056x1024, .f32⟩
  | .hbm, ⟨2, _⟩ => ⟨S1056x1024, .f32⟩
  | .hbm, ⟨3, _⟩ => ⟨S1056x1024, .f32⟩
  | .hbm, ⟨4, _⟩ => ⟨S8x1056x1024, .f32⟩
  | .hbm, ⟨5, _⟩ => ⟨S_, .f32⟩
  | .hbm, ⟨6, _⟩ => ⟨S1056x1024, .f32⟩
  | .hbm, ⟨7, _⟩ => ⟨S_, .f32⟩
  | .hbm, ⟨8, _⟩ => ⟨S1056x1024, .f32⟩
  | .hbm, ⟨9, _⟩ => ⟨S1056x1024, .f32⟩
  | .hbm, ⟨10, _⟩ => ⟨S_, .f32⟩
  | .hbm, ⟨11, _⟩ => ⟨S1056x1024, .f32⟩
  | .hbm, ⟨12, _⟩ => ⟨S1056x1024, .f32⟩
  | .hbm, ⟨13, _⟩ => ⟨S1056x1024, .f32⟩
  | .hbm, ⟨14, _⟩ => ⟨S_, .f32⟩
  | .hbm, ⟨15, _⟩ => ⟨S1056x1024, .f32⟩
  | .hbm, ⟨16, _⟩ => ⟨S1056x1024, .f32⟩
  | .hbm, ⟨17, _⟩ => ⟨S1056x1024, .f32⟩
  | .hbm, ⟨18, _⟩ => ⟨S_, .f32⟩
  | .hbm, ⟨19, _⟩ => ⟨S1056x1024, .f32⟩
  | .hbm, ⟨20, _⟩ => ⟨S1056x1024, .f32⟩
  | .hbm, ⟨21, _⟩ => ⟨S1056x1024, .f32⟩
  | .hbm, ⟨22, _⟩ => ⟨S_, .f32⟩
  | .hbm, ⟨23, _⟩ => ⟨S1056x1024, .f32⟩
  | .hbm, ⟨24, _⟩ => ⟨S1056x1024, .f32⟩
  | .hbm, ⟨25, _⟩ => ⟨S_, .f32⟩
  | .hbm, ⟨26, _⟩ => ⟨S1056x1024, .f32⟩
  | .hbm, ⟨27, _⟩ => ⟨S1056x1024, .f32⟩
  | .hbm, ⟨28, _⟩ => ⟨S1056x1024, .f32⟩
  | .hbm, ⟨29, _⟩ => ⟨S_, .f32⟩
  | .hbm, ⟨30, _⟩ => ⟨S1056x1024, .f32⟩
  | .hbm, ⟨31, _⟩ => ⟨S1056x1024, .f32⟩
  | .hbm, ⟨32, _⟩ => ⟨S1056x1024, .f32⟩
  | .hbm, ⟨33, _⟩ => ⟨S_, .f32⟩
  | .hbm, ⟨34, _⟩ => ⟨S1056x1024, .f32⟩
  | .hbm, ⟨35, _⟩ => ⟨S1056x1024, .f32⟩
  | .hbm, ⟨36, _⟩ => ⟨S1056x1024, .f32⟩
  | .hbm, ⟨37, _⟩ => ⟨S_, .f32⟩
  | .hbm, ⟨38, _⟩ => ⟨S1056x1024, .f32⟩
  | .hbm, ⟨39, _⟩ => ⟨S1056x1024, .f32⟩
  | _, _ => ⟨S8x1056x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Reals.lean ====
/- Real arithmetic shared by the value proofs: finite sums and scalar operations of extended reals on reals, the literals
   of the programs as reals, the logistic function, and the backward pass of a layer norm on one row. -/
module

public import Idealize.ShloMosaic.Lib.IdealHost

@[expose] public section

noncomputable section

namespace Cert.Reals

open Idealize.ShloMosaic

/-- A finite sum of reals, taken among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The deep-norm factor, as the rational the literal stands for. -/
def alpha : ℝ := 11863283 / 8388608
/-- The layer norm's epsilon, as the rational the literal stands for. -/
def eps : ℝ := 10995116 / 1099511627776

theorem eps_pos : 0 < eps := by unfold eps; norm_num

theorem lit_alpha : Ideal.ofBits .f32 0x3FB504F3#32 = ((alpha : ℝ) : EReal) := by
  unfold alpha
  simp [Ideal.ofBits, Ideal.ieee]
  rw [← EReal.coe_mul]; norm_num
theorem lit_eps : Ideal.ofBits .f32 0x3727C5AC#32 = ((eps : ℝ) : EReal) := by
  unfold eps
  simp [Ideal.ofBits, Ideal.ieee]
  rw [← EReal.coe_mul]; norm_num
theorem lit_1024 : Ideal.ofBits .f32 0x44800000#32 = ((1024 : ℝ) : EReal) := by
  simp [Ideal.ofBits, Ideal.ieee]
  rw [← EReal.coe_mul]; norm_num
theorem lit_half : Ideal.ofBits .f32 0x3F000000#32 = ((1 / 2 : ℝ) : EReal) := by
  simp [Ideal.ofBits, Ideal.ieee]
  rw [← EReal.coe_mul]; norm_num
theorem lit_neg_half : Ideal.ofBits .f32 0xBF000000#32 = ((-(1 / 2) : ℝ) : EReal) := by
  simp [Ideal.ofBits, Ideal.ieee]
  rw [← EReal.coe_mul]; norm_num
theorem lit_two : Ideal.ofBits .f32 0x40000000#32 = ((2 : ℝ) : EReal) := by
  simp [Ideal.ofBits, Ideal.ieee]
  rw [← EReal.coe_mul]; norm_num
theorem lit_one : Ideal.ofBits .f32 0x3F800000#32 = ((1 : ℝ) : EReal) := by
  rw [Ideal.ofBits_one_f32]; rfl
theorem lit_zero : Ideal.ofBits .f32 0x00000000#32 = ((0 : ℝ) : EReal) := by
  rw [Ideal.ofBits_zero_f32]; rfl
theorem lit_top : Ideal.ofBits .f32 0x7F800000#32 = ⊤ := by
  simp [Ideal.ofBits, Ideal.ieee]

theorem div_real (a : ℝ) {b : ℝ} (h : b ≠ 0) : Ideal.div (a : EReal) (b : EReal) = ((a / b : ℝ) : EReal) := by
  rw [Ideal.div_coe h, ← EReal.coe_mul]; congr 1; field_simp

theorem div_1024 (a : ℝ) : Ideal.div (a : EReal) ((1024 : ℝ) : EReal) = ((a / 1024 : ℝ) : EReal) := div_real a (by norm_num)

theorem rsqrt_real {a : ℝ} (h : 0 < a) : Ideal.rsqrt (a : EReal) = (((Real.sqrt a)⁻¹ : ℝ) : EReal) := by
  rw [Ideal.rsqrt_coe, if_neg (not_lt.mpr h.le), if_neg h.ne']

/-- The logistic function. -/
def sig (x : ℝ) : ℝ := (1 + Real.exp (-x))⁻¹

theorem one_add_exp_pos (x : ℝ) : 0 < 1 + Real.exp (-x) := by positivity

/-- The logistic function through the hyperbolic tangent. -/
theorem sig_tanh (x : ℝ) : 1 / 2 * Real.tanh (1 / 2 * x) + 1 / 2 = sig x := by
  unfold sig
  rw [Real.tanh_eq_sinh_div_cosh, Real.sinh_eq, Real.cosh_eq]
  have h1 : Real.exp (-(1 / 2 * x)) ≠ 0 := (Real.exp_pos _).ne'
  have h2 : Real.exp (-x) = Real.exp (-(1 / 2 * x)) * Real.exp (-(1 / 2 * x)) := by
    rw [← Real.exp_add]; congr 1; ring
  have h3 : Real.exp (1 / 2 * x) = (Real.exp (-(1 / 2 * x)))⁻¹ := by rw [← Real.exp_neg]; congr 1; ring
  have h4 := Real.exp_pos (-(1 / 2 * x))
  rw [h2, h3]
  generalize Real.exp (-(1 / 2 * x)) = e at *
  have h5 : e⁻¹ + e ≠ 0 := by positivity
  have h6 : 1 + e * e ≠ 0 := by positivity
  field_simp
  ring

/-! ## The backward pass of a layer norm on one row of 1024 -/

/-- The mean of a row. -/
def mean (f : Fin 1024 → ℝ) : ℝ := (∑ k, f k) / 1024
/-- The variance of a row with the epsilon added. -/
def vareps (r : Fin 1024 → ℝ) : ℝ := (∑ k, (r k - mean r) * (r k - mean r)) / 1024 + eps
/-- The reciprocal standard deviation. -/
def rstd (r : Fin 1024 → ℝ) : ℝ := (Real.sqrt (vareps r))⁻¹
/-- The normalised row. -/
def yhat (r : Fin 1024 → ℝ) (k : Fin 1024) : ℝ := (r k - mean r) * rstd r
/-- The gradient of the row, given the gradient `d` of the normalised row. -/
def lnDx (r d : Fin 1024 → ℝ) (k : Fin 1024) : ℝ :=
  rstd r * (d k - mean d - yhat r k * mean (fun j => d j * yhat r j))

theorem vareps_pos (r : Fin 1024 → ℝ) : 0 < vareps r := by
  unfold vareps
  have : 0 ≤ (∑ k, (r k - mean r) * (r k - mean r)) / 1024 :=
    div_nonneg (Finset.sum_nonneg fun k _ => mul_self_nonneg _) (by norm_num)
  linarith [eps_pos]

theorem sum_centred (r : Fin 1024 → ℝ) : ∑ k, (r k - mean r) = 0 := by
  rw [Finset.sum_sub_distrib, Finset.sum_const, Finset.card_univ, Fintype.card_fin]
  unfold mean; simp; ring

theorem rstd_sq (r : Fin 1024 → ℝ) : rstd r * rstd r * vareps r = 1 := by
  unfold rstd
  have h := vareps_pos r
  have hs : Real.sqrt (vareps r) * Real.sqrt (vareps r) = vareps r := Real.mul_self_sqrt h.le
  have hn : Real.sqrt (vareps r) ≠ 0 := (Real.sqrt_pos.mpr h).ne'
  calc _ = (Real.sqrt (vareps r))⁻¹ * (Real.sqrt (vareps r))⁻¹ * (Real.sqrt (vareps r) * Real.sqrt (vareps r)) := by rw [hs]
    _ = 1 := by field_simp

/-- The reverse sweep through mean, variance and reciprocal root adds up to the closed form. -/
theorem lnDx_sweep (r d : Fin 1024 → ℝ) (k : Fin 1024) :
    d k * rstd r
        + ((∑ j, (r j - mean r) * d j) * (-(1 / 2) * (rstd r / vareps r)) / 1024) * (2 * (r k - mean r))
        + ((∑ j, -(d j * rstd r))
            + ∑ j, -(((∑ j, (r j - mean r) * d j) * (-(1 / 2) * (rstd r / vareps r)) / 1024) * (2 * (r j - mean r)))) / 1024
      = lnDx r d k := by
  have hv := (vareps_pos r).ne'
  have hq : rstd r / vareps r = rstd r * rstd r * rstd r := by
    rw [div_eq_iff hv]
    calc rstd r = rstd r * (rstd r * rstd r * vareps r) := by rw [rstd_sq, mul_one]
      _ = _ := by ring
  rw [Finset.sum_neg_distrib, Finset.sum_neg_distrib, ← Finset.mul_sum, ← Finset.mul_sum, sum_centred, ← Finset.sum_mul]
  unfold lnDx
  have hm : mean (fun j => d j * yhat r j) = (∑ j, (r j - mean r) * d j) * rstd r / 1024 := by
    unfold mean yhat
    rw [Finset.sum_mul]
    congr 1
    exact Finset.sum_congr rfl fun j _ => by unfold mean; ring
  rw [hm, hq]
  unfold yhat
  generalize (∑ j, (r j - mean r) * d j) = A
  have hd : mean d = (∑ j, d j) / 1024 := rfl
  rw [hd]
  ring

/-- A sum over `A` tiles of `n` rows each is the sum over all rows. -/
theorem sum_tiles (A n N : ℕ) (hN : N = A * n) (f : Fin N → ℝ) (g : Fin A → Fin n → Fin N)
    (hg : ∀ t r, (g t r).val = t.val * n + r.val) : ∑ t : Fin A, ∑ r : Fin n, f (g t r) = ∑ s, f s := by
  subst hN
  rw [← Fintype.sum_prod_type' (fun (t : Fin A) (r : Fin n) => f (g t r))]
  refine Fintype.sum_equiv finProdFinEquiv _ _ fun x => congrArg f (Fin.ext ((hg _ _).trans ?_))
  show x.1.val * n + x.2.val = x.2.val + n * x.1.val
  rw [Nat.mul_comm, Nat.add_comm]

end Cert.Reals

end
-- ==== Proof.FfnReal.lean ====
/- The backward pass of the feed-forward sub-layer on one row, over the reals. -/
module

public import proofs.«01_k».proof.Proof.Reals

@[expose] public section

noncomputable section

namespace Cert.Reals.Ffn

open Cert.Reals

/-- The derivative of `h * sig h` at `h`. -/
def dsilu (h : ℝ) : ℝ := sig h * (1 + h * (1 - sig h))

/-- One column of the gated pair's gradient: the gate's columns first, then the up projection's. `A` is the gradient of the
    gated product, `H` the pair of pre-activations. -/
def gate (A : Fin 2816 → ℝ) (H : Fin 5632 → ℝ) (j : Fin 5632) : ℝ :=
  if h : j.val < 2816 then A ⟨j.val, h⟩ * H ⟨j.val + 2816, by omega⟩ * dsilu (H j)
  else A ⟨j.val - 2816, by omega⟩ * H ⟨j.val - 2816, by omega⟩ * sig (H ⟨j.val - 2816, by omega⟩)

theorem gate_lo (A : Fin 2816 → ℝ) (H : Fin 5632 → ℝ) (j p q : Fin 5632) (a : Fin 2816) (ha : a.val = j.val)
    (hp : p.val = j.val) (hq : q.val = j.val + 2816) :
    A a * H q * (sig (H p) * (1 + H p * (1 - sig (H p)))) = gate A H j := by
  have hj : j.val < 2816 := ha ▸ a.isLt
  unfold gate dsilu
  rw [dif_pos hj]
  have e1 : p = j := Fin.ext hp
  have e2 : a = ⟨j.val, hj⟩ := Fin.ext ha
  have e3 : q = ⟨j.val + 2816, by omega⟩ := Fin.ext hq
  rw [e1, e2, e3]

theorem gate_hi (A : Fin 2816 → ℝ) (H : Fin 5632 → ℝ) (j p : Fin 5632) (a : Fin 2816) (ha : a.val + 2816 = j.val)
    (hp : p.val + 2816 = j.val) : A a * H p * sig (H p) = gate A H j := by
  have hj : ¬ j.val < 2816 := by omega
  unfold gate
  rw [dif_neg hj]
  have b1 : j.val - 2816 < 2816 := by have := j.isLt; omega
  have b2 : j.val - 2816 < 5632 := by have := j.isLt; omega
  have e1 : a = ⟨j.val - 2816, b1⟩ := Fin.ext (by simp; omega)
  have e2 : p = ⟨j.val - 2816, b2⟩ := Fin.ext (by simp; omega)
  rw [e1, e2]

theorem gate_lo_row {n : ℕ} (A : Fin n → Fin 2816 → ℝ) (H : Fin n → Fin 5632 → ℝ) (r r' : Fin n) (j p q : Fin 5632) (a : Fin 2816)
    (hr : r'.val = r.val) (ha : a.val = j.val) (hp : p.val = j.val) (hq : q.val = j.val + 2816) :
    A r' a * H r' q * (sig (H r' p) * (1 + H r' p * (1 - sig (H r' p)))) = gate (A r) (H r) j := by
  obtain rfl : r' = r := Fin.ext hr
  exact gate_lo _ _ j p q a ha hp hq

theorem gate_hi_row {n : ℕ} (A : Fin n → Fin 2816 → ℝ) (H : Fin n → Fin 5632 → ℝ) (r r' : Fin n) (j p : Fin 5632) (a : Fin 2816)
    (hr : r'.val = r.val) (ha : a.val + 2816 = j.val) (hp : p.val + 2816 = j.val) :
    A r' a * H r' p * sig (H r' p) = gate (A r) (H r) j := by
  obtain rfl : r' = r := Fin.ext hr
  exact gate_hi _ _ j p a ha hp

/-- The gradient of the gated product. -/
def dact (dr : Fin 1024 → ℝ) (Wd : Fin 2816 → Fin 1024 → ℝ) (j : Fin 2816) : ℝ := ∑ k, dr k * Wd j k

/-- The gradient of the sub-layer's input. -/
def dx (dr : Fin 1024 → ℝ) (A : Fin 2816 → ℝ) (H : Fin 5632 → ℝ) (Wg Wu : Fin 1024 → Fin 2816 → ℝ) (k : Fin 1024) : ℝ :=
  alpha * dr k + (∑ j : Fin 2816, gate A H ⟨j.val, by omega⟩ * Wg k j)
    + ∑ j : Fin 2816, gate A H ⟨2816 + j.val, by omega⟩ * Wu k j

/-- A pre-activation. -/
def pre (x : Fin 1024 → ℝ) (W : Fin 1024 → Fin 2816 → ℝ) (j : Fin 2816) : ℝ := ∑ k, x k * W k j

/-- The pair of pre-activations, the gate's first. -/
def pair (x : Fin 1024 → ℝ) (Wg Wu : Fin 1024 → Fin 2816 → ℝ) (j : Fin 5632) : ℝ :=
  if h : j.val < 2816 then pre x Wg ⟨j.val, h⟩ else pre x Wu ⟨j.val - 2816, by omega⟩

/-- The row that the layer norm reads. -/
def res (x : Fin 1024 → ℝ) (Wg Wu : Fin 1024 → Fin 2816 → ℝ) (Wd : Fin 2816 → Fin 1024 → ℝ) (k : Fin 1024) : ℝ :=
  alpha * x k + ∑ j, pre x Wg j * sig (pre x Wg j) * pre x Wu j * Wd j k

/-- The gradient of the rows that the layer norm reads. -/
abbrev drow (X : Fin 16384 → Fin 1024 → ℝ) (Wg Wu : Fin 1024 → Fin 2816 → ℝ) (Wd : Fin 2816 → Fin 1024 → ℝ)
    (G : Fin 1024 → ℝ) (D : Fin 16384 → Fin 1024 → ℝ) (r : Fin 16384) : Fin 1024 → ℝ :=
  lnDx (res (X r) Wg Wu Wd) fun k => D r k * G k

end Cert.Reals.Ffn

end
-- ==== Proof.FfnPay.lean ====
/- What one grid point of the feed-forward backward call leaves in its four output blocks, on blocks of reals: the gradient
   of the sub-layer's input, the gradient of the normalised row, the gated pair's gradient, and the sums for the norm's
   scale and shift. -/
module

public import proofs.«01_k».proof.Proof.Gen.KernelIdeal.Value
public import proofs.«01_k».proof.Proof.FfnReal
public import Idealize.ShloMosaic.Lib.Pipeline.ValueKit
public import Idealize.ShloMosaic.Lib.Pipeline.ReadBack
public import Idealize.ShloMosaic.Lib.Claim

@[expose] public section

set_option maxRecDepth 16384

noncomputable section

namespace Cert.KernelIdeal.Ffn

open Cert.KernelIdeal Cert.KernelIdeal.Gen Idealize.ShloMosaic Idealize.ShloMosaic.ValueIdx Cert.Reals Cert.Reals.Ffn

variable {R D : Fin 256 → Fin 1024 → ℝ} {G : Fin 1024 → ℝ} {H : Fin 256 → Fin 5632 → ℝ}
variable {Wd : Fin 2816 → Fin 1024 → ℝ} {Wg Wu : Fin 1024 → Fin 2816 → ℝ}

theorem pay4_apply (v4 : Vec Ideal S256x1024 .f32) (h : ∀ i, v4 i = ((R (i 0) (i 1) : ℝ) : EReal)) (y : S256x1024.Idx) :
    k0_pay4 (F := Ideal) v4 y = ((R (y 0) (y 1) - mean (R (y 0)) : ℝ) : EReal) := by
  pointwise [k0_pay4]
  simp only [h, lit_1024, coe_sum, div_1024, ← EReal.coe_sub]
  rfl

theorem pay5_apply (v4 : Vec Ideal S256x1024 .f32) (h : ∀ i, v4 i = ((R (i 0) (i 1) : ℝ) : EReal)) (y : S256x1.Idx) :
    k0_pay5 (F := Ideal) v4 y = ((rstd (R (y 0)) : ℝ) : EReal) := by
  pointwise [k0_pay5]
  simp only [pay4_apply v4 h, lit_1024, lit_eps, ← EReal.coe_mul, coe_sum, div_1024, ← EReal.coe_add]
  exact rsqrt_real (vareps_pos (R (y 0)))

theorem pay6_apply (v4 : Vec Ideal S256x1024 .f32) (h : ∀ i, v4 i = ((R (i 0) (i 1) : ℝ) : EReal)) (y : S256x1024.Idx) :
    k0_pay6 (F := Ideal) v4 y = ((yhat (R (y 0)) (y 1) : ℝ) : EReal) := by
  pointwise [k0_pay6]
  simp only [pay4_apply v4 h, pay5_apply v4 h, ← EReal.coe_mul]
  rfl

theorem pay7_apply (v3 v4 : Vec Ideal S256x1024 .f32) (v6 : Vec Ideal S1x1024 .f32)
    (h3 : ∀ i, v3 i = ((D (i 0) (i 1) : ℝ) : EReal)) (h4 : ∀ i, v4 i = ((R (i 0) (i 1) : ℝ) : EReal))
    (h6 : ∀ i, v6 i = ((G (i 1) : ℝ) : EReal)) (y : S256x1024.Idx) :
    k0_pay7 (F := Ideal) v3 v4 v6 y
      = (((D (y 0) (y 1) * G (y 1) - mean (fun k => D (y 0) k * G k)
          - yhat (R (y 0)) (y 1) * mean (fun k => D (y 0) k * G k * yhat (R (y 0)) k)) : ℝ) : EReal) := by
  pointwise [k0_pay7]
  simp only [h3, h6, pay6_apply v4 h4, lit_1024, ← EReal.coe_mul, coe_sum, div_1024, ← EReal.coe_sub]
  rfl

theorem pay9_apply (v3 v4 : Vec Ideal S256x1024 .f32) (v6 : Vec Ideal S1x1024 .f32)
    (h3 : ∀ i, v3 i = ((D (i 0) (i 1) : ℝ) : EReal)) (h4 : ∀ i, v4 i = ((R (i 0) (i 1) : ℝ) : EReal))
    (h6 : ∀ i, v6 i = ((G (i 1) : ℝ) : EReal)) (y : S256x1024.Idx) :
    k0_pay9 (F := Ideal) (k0_pay7 v3 v4 v6) (k0_pay8 v4) y
      = ((lnDx (R (y 0)) (fun k => D (y 0) k * G k) (y 1) : ℝ) : EReal) := by
  pointwise [k0_pay9, k0_pay8]
  simp only [pay7_apply v3 v4 v6 h3 h4 h6, pay5_apply v4 h4, ← EReal.coe_mul]
  rfl

/-- The gradient of the gated product, of block row `r`. -/
def blkAct (R D : Fin 256 → Fin 1024 → ℝ) (G : Fin 1024 → ℝ) (Wd : Fin 2816 → Fin 1024 → ℝ) (r : Fin 256) : Fin 2816 → ℝ :=
  dact (lnDx (R r) (fun k => D r k * G k)) Wd

theorem pay13_apply (v3 v4 : Vec Ideal S256x1024 .f32) (v6 : Vec Ideal S1x1024 .f32) (x3 : Vec Ideal S1024x2816 .bf16)
    (h3 : ∀ i, v3 i = ((D (i 0) (i 1) : ℝ) : EReal)) (h4 : ∀ i, v4 i = ((R (i 0) (i 1) : ℝ) : EReal))
    (h6 : ∀ i, v6 i = ((G (i 1) : ℝ) : EReal)) (hx3 : ∀ i, x3 i = ((Wd (i 1) (i 0) : ℝ) : EReal)) (y : S256x2816.Idx) :
    k0_pay13 (F := Ideal) (k0_pay7 v3 v4 v6) (k0_pay8 v4) x3 y = ((blkAct R D G Wd (y 0) (y 1) : ℝ) : EReal) := by
  pointwise [k0_pay13]
  simp only [pay9_apply v3 v4 v6 h3 h4 h6, hx3, ← EReal.coe_mul, coe_sum]
  rfl

/-- The load of the norm's scale out of the block of small vectors. -/
theorem ld6_apply (x6 : Vec Ideal S24x1024 .f32) (hx6 : ∀ i, (i 0).val = 14 → x6 i = ((G (i 1) : ℝ) : EReal)) (i : S1x1024.Idx) :
    View.ld x6 (Rect.unit ![14, 0] ![1, 1024] inb_S24x1024_S1x1024_14_0) i = ((G (i 1) : ℝ) : EReal) := by
  pointwise
  exact hx6 _ rfl

section
variable (c : Dev nD) (i : grid0.Coords) (a1 : Memref sig .tc .vmem S256x1024 .f32) (w1 : a1.IsWhole) (a2 : Memref sig .tc .vmem S256x1024 .f32) (w2 : a2.IsWhole) (a3 : Memref sig .tc .vmem S256x5632 .f32) (w3 : a3.IsWhole) (a4 : Memref sig .tc .vmem S1024x2816 .bf16) (w4 : a4.IsWhole) (a5 : Memref sig .tc .vmem S2816x1024 .bf16) (w5 : a5.IsWhole) (a6 : Memref sig .tc .vmem S2816x1024 .bf16) (w6 : a6.IsWhole) (a7 : Memref sig .tc .vmem S24x1024 .f32) (w7 : a7.IsWhole) (a8 : Memref sig .tc .vmem S256x1024 .f32) (w8 : a8.IsWhole) (a9 : Memref sig .tc .vmem S256x1024 .bf16) (w9 : a9.IsWhole) (a10 : Memref sig .tc .vmem S256x5632 .bf16) (w10 : a10.IsWhole) (a11 : Memref sig .tc .vmem S2x1024 .f32) (w11 : a11.IsWhole)
variable (x0 : Vec Ideal S256x1024 .f32) (x1 : Vec Ideal S256x1024 .f32) (x2 : Vec Ideal S256x5632 .f32) (x3 : Vec Ideal S1024x2816 .bf16) (x4 : Vec Ideal S2816x1024 .bf16) (x5 : Vec Ideal S2816x1024 .bf16) (x6 : Vec Ideal S24x1024 .f32)

/-- A piece under two that cover the buffer is not read. -/
theorem canon_drop {S : Shape} {e : EltTy} (p q r : View.Piece (Elt Ideal) S e) (y : S.Idx) (h : ∃ t ∈ [p, q], y ∈ t.1.set) :
    View.canon [p, q, r] y = View.canon [p, q] y := by
  by_cases hp : y ∈ p.1.set
  · obtain ⟨x, -, rfl⟩ := Finset.mem_map.mp (p.1.map_emb_univ ▸ hp)
    rw [View.canon_cons_emb, View.canon_cons_emb]
  · rw [View.canon_cons_of_not_mem _ _ hp, View.canon_cons_of_not_mem _ _ hp]
    have hq : y ∈ q.1.set := by
      obtain ⟨t, ht, hy⟩ := h
      rcases List.mem_cons.mp ht with rfl | ht
      · exact absurd hy hp
      · rcases List.mem_cons.mp ht with rfl | ht
        · exact hy
        · exact absurd ht List.not_mem_nil
    obtain ⟨x, -, rfl⟩ := Finset.mem_map.mp (q.1.map_emb_univ ▸ hq)
    rw [View.canon_cons_emb, View.canon_cons_emb]

/-- An index of the sums' block by its row. -/
theorem row_of {i : Fin 2} {j : Fin 1024} {y : S2x1024.Idx} (h0 : (y 0).val = i.val) (h1 : (y 1).val = j.val) : y = Idealize.ShloMosaic.ix2 i j := by
  funext k
  match k with
  | ⟨0, _⟩ => exact Fin.ext h0
  | ⟨1, _⟩ => exact Fin.ext h1

theorem out8_A (hc : cond0_0 i)
    (hx0 : ∀ i, x0 i = ((D (i 0) (i 1) : ℝ) : EReal)) (hx1 : ∀ i, x1 i = ((R (i 0) (i 1) : ℝ) : EReal)) (hx6 : ∀ i, (i 0).val = 14 → x6 i = ((G (i 1) : ℝ) : EReal))
    (y : S256x1024.Idx) :
    out0_A_8 c i a1 w1 a2 w2 a3 w3 a4 w4 a5 w5 a6 w6 a7 w7 a8 w8 a9 w9 a10 w10 a11 w11 hc x0 x1 x2 x3 x4 x5 x6 y = ((lnDx (R (y 0)) (fun k => D (y 0) k * G k) (y 1) : ℝ) : EReal) := by
  frame_out
  pointwise [k0_pay12]
  exact pay9_apply x0 x1 _ hx0 hx1 (ld6_apply x6 hx6) y

theorem out9_A (hc : cond0_0 i)
    (hx0 : ∀ i, x0 i = ((D (i 0) (i 1) : ℝ) : EReal)) (hx1 : ∀ i, x1 i = ((R (i 0) (i 1) : ℝ) : EReal))
    (hx2 : ∀ i, x2 i = ((H (i 0) (i 1) : ℝ) : EReal)) (hx3 : ∀ i, x3 i = ((Wd (i 1) (i 0) : ℝ) : EReal)) (hx6 : ∀ i, (i 0).val = 14 → x6 i = ((G (i 1) : ℝ) : EReal))
    (y : S256x5632.Idx) :
    out0_A_9 c i a1 w1 a2 w2 a3 w3 a4 w4 a5 w5 a6 w6 a7 w7 a8 w8 a9 w9 a10 w10 a11 w11 hc x0 x1 x2 x3 x4 x5 x6 y = ((gate (blkAct R D G Wd (y 0)) (H (y 0)) (y 1) : ℝ) : EReal) := by
  frame_out
  canon_tiles x h
  all_goals
    pointwise [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75]
    simp only [pay13_apply x0 x1 _ x3 hx0 hx1 (ld6_apply x6 hx6) hx3, hx2, lit_half, ← EReal.coe_one, ← EReal.coe_mul,
      ← EReal.coe_add, ← EReal.coe_sub, Ideal.tanh_coe, sig_tanh]
    congr 1
    first
      | refine gate_lo_row (blkAct R D G Wd) H (y 0) _ (y 1) _ _ _ h0.symm ?_ ?_ ?_
      | refine gate_hi_row (blkAct R D G Wd) H (y 0) _ (y 1) _ _ h0.symm ?_ ?_
    all_goals
      first
        | exact h1.symm
        | rw [h1]; exact Nat.add_right_comm _ _ _
        | rw [h1]; exact Nat.add_comm _ _
        | rw [h1]; exact Eq.symm (by exact Nat.add_right_comm _ _ _)
        | rw [h1]; exact Eq.symm (by exact Nat.add_comm _ _)

theorem out7_A (hc : cond0_0 i)
    (hx0 : ∀ i, x0 i = ((D (i 0) (i 1) : ℝ) : EReal)) (hx1 : ∀ i, x1 i = ((R (i 0) (i 1) : ℝ) : EReal))
    (hx2 : ∀ i, x2 i = ((H (i 0) (i 1) : ℝ) : EReal)) (hx3 : ∀ i, x3 i = ((Wd (i 1) (i 0) : ℝ) : EReal))
    (hx4 : ∀ i, x4 i = ((Wg (i 1) (i 0) : ℝ) : EReal)) (hx5 : ∀ i, x5 i = ((Wu (i 1) (i 0) : ℝ) : EReal)) (hx6 : ∀ i, (i 0).val = 14 → x6 i = ((G (i 1) : ℝ) : EReal))
    (y : S256x1024.Idx) :
    out0_A_7 c i a1 w1 a2 w2 a3 w3 a4 w4 a5 w5 a6 w6 a7 w7 a8 w8 a9 w9 a10 w10 a11 w11 hc x0 x1 x2 x3 x4 x5 x6 y
      = ((dx (lnDx (R (y 0)) (fun k => D (y 0) k * G k)) (blkAct R D G Wd (y 0)) (H (y 0)) Wg Wu (y 1) : ℝ) : EReal) := by
  have h9 := fun j => out9_A c i a1 w1 a2 w2 a3 w3 a4 w4 a5 w5 a6 w6 a7 w7 a8 w8 a9 w9 a10 w10 a11 w11 x0 x1 x2 x3 x4 x5 x6 hc hx0 hx1 hx2 hx3 hx6 j
  frame_out at h9
  frame_out
  simp only [View.readCov_eq_canon', h9]
  pointwise [k0_pay2]
  simp only [pay9_apply x0 x1 _ hx0 hx1 (ld6_apply x6 hx6), hx4, hx5, lit_alpha, ← EReal.coe_mul, ← EReal.coe_add, coe_sum]
  rfl

theorem out10_A (hc : cond0_0 i)
    (hx0 : ∀ i, x0 i = ((D (i 0) (i 1) : ℝ) : EReal)) (hx1 : ∀ i, x1 i = ((R (i 0) (i 1) : ℝ) : EReal)) (y : S2x1024.Idx) :
    out0_A_10 c i a1 w1 a2 w2 a3 w3 a4 w4 a5 w5 a6 w6 a7 w7 a8 w8 a9 w9 a10 w10 a11 w11 hc x0 x1 x2 x3 x4 x5 x6 y
      = (((if (y 0).val = 0 then ∑ r, D r (y 1) * yhat (R r) (y 1) else ∑ r, D r (y 1)) : ℝ) : EReal) := by
  frame_out
  simp (disch := decide) only [↓ View.readCov_skip, ↓ View.readCov_cons_toLoadRect, ↓ View.readCov_fill]
  rw [canon_drop _ _ _ y (View.cover_of_tiled_head _ _ _ (by rfl) y)]
  canon_tiles x h
  · pointwise [k0_pay11, k0_pay3]
    obtain rfl := row_of (i := 1) (j := x 1) (by rw [h0]; show _ = _; simp; try omega) h1
    simp only [hx0, coe_sum, lit_zero, zero_add]
    exact congrArg (fun t : ℝ => (t : EReal)) (if_neg (show ¬ ((1 : Fin 2).val = 0) by decide)).symm
  · pointwise [k0_pay10, k0_pay3]
    obtain rfl := row_of (i := 0) (j := x 1) (by rw [h0]; show _ = _; simp; try omega) h1
    simp only [hx0, pay6_apply x1 hx1, ← EReal.coe_mul, coe_sum, lit_zero, zero_add]
    exact congrArg (fun t : ℝ => (t : EReal)) (if_pos (show (0 : Fin 2).val = 0 by decide)).symm

theorem out8_B (hc : ¬ cond0_0 i) (xo : Vec Ideal S2x1024 .f32)
    (hx0 : ∀ i, x0 i = ((D (i 0) (i 1) : ℝ) : EReal)) (hx1 : ∀ i, x1 i = ((R (i 0) (i 1) : ℝ) : EReal)) (hx6 : ∀ i, (i 0).val = 14 → x6 i = ((G (i 1) : ℝ) : EReal))
    (y : S256x1024.Idx) :
    out0_B_8 c i a1 w1 a2 w2 a3 w3 a4 w4 a5 w5 a6 w6 a7 w7 a8 w8 a9 w9 a10 w10 a11 w11 hc x0 x1 x2 x3 x4 x5 x6 xo y = ((lnDx (R (y 0)) (fun k => D (y 0) k * G k) (y 1) : ℝ) : EReal) := by
  frame_out
  pointwise [k0_pay12]
  exact pay9_apply x0 x1 _ hx0 hx1 (ld6_apply x6 hx6) y

theorem out9_B (hc : ¬ cond0_0 i) (xo : Vec Ideal S2x1024 .f32)
    (hx0 : ∀ i, x0 i = ((D (i 0) (i 1) : ℝ) : EReal)) (hx1 : ∀ i, x1 i = ((R (i 0) (i 1) : ℝ) : EReal))
    (hx2 : ∀ i, x2 i = ((H (i 0) (i 1) : ℝ) : EReal)) (hx3 : ∀ i, x3 i = ((Wd (i 1) (i 0) : ℝ) : EReal)) (hx6 : ∀ i, (i 0).val = 14 → x6 i = ((G (i 1) : ℝ) : EReal))
    (y : S256x5632.Idx) :
    out0_B_9 c i a1 w1 a2 w2 a3 w3 a4 w4 a5 w5 a6 w6 a7 w7 a8 w8 a9 w9 a10 w10 a11 w11 hc x0 x1 x2 x3 x4 x5 x6 xo y = ((gate (blkAct R D G Wd (y 0)) (H (y 0)) (y 1) : ℝ) : EReal) := by
  frame_out
  canon_tiles x h
  all_goals
    pointwise [k0_pay1, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75]
    simp only [pay13_apply x0 x1 _ x3 hx0 hx1 (ld6_apply x6 hx6) hx3, hx2, lit_half, ← EReal.coe_one, ← EReal.coe_mul,
      ← EReal.coe_add, ← EReal.coe_sub, Ideal.tanh_coe, sig_tanh]
    congr 1
    first
      | refine gate_lo_row (blkAct R D G Wd) H (y 0) _ (y 1) _ _ _ h0.symm ?_ ?_ ?_
      | refine gate_hi_row (blkAct R D G Wd) H (y 0) _ (y 1) _ _ h0.symm ?_ ?_
    all_goals
      first
        | exact h1.symm
        | rw [h1]; exact Nat.add_right_comm _ _ _
        | rw [h1]; exact Nat.add_comm _ _
        | rw [h1]; exact Eq.symm (by exact Nat.add_right_comm _ _ _)
        | rw [h1]; exact Eq.symm (by exact Nat.add_comm _ _)

theorem out7_B (hc : ¬ cond0_0 i) (xo : Vec Ideal S2x1024 .f32)
    (hx0 : ∀ i, x0 i = ((D (i 0) (i 1) : ℝ) : EReal)) (hx1 : ∀ i, x1 i = ((R (i 0) (i 1) : ℝ) : EReal))
    (hx2 : ∀ i, x2 i = ((H (i 0) (i 1) : ℝ) : EReal)) (hx3 : ∀ i, x3 i = ((Wd (i 1) (i 0) : ℝ) : EReal))
    (hx4 : ∀ i, x4 i = ((Wg (i 1) (i 0) : ℝ) : EReal)) (hx5 : ∀ i, x5 i = ((Wu (i 1) (i 0) : ℝ) : EReal)) (hx6 : ∀ i, (i 0).val = 14 → x6 i = ((G (i 1) : ℝ) : EReal))
    (y : S256x1024.Idx) :
    out0_B_7 c i a1 w1 a2 w2 a3 w3 a4 w4 a5 w5 a6 w6 a7 w7 a8 w8 a9 w9 a10 w10 a11 w11 hc x0 x1 x2 x3 x4 x5 x6 xo y
      = ((dx (lnDx (R (y 0)) (fun k => D (y 0) k * G k)) (blkAct R D G Wd (y 0)) (H (y 0)) Wg Wu (y 1) : ℝ) : EReal) := by
  have h9 := fun j => out9_B c i a1 w1 a2 w2 a3 w3 a4 w4 a5 w5 a6 w6 a7 w7 a8 w8 a9 w9 a10 w10 a11 w11 x0 x1 x2 x3 x4 x5 x6 hc xo hx0 hx1 hx2 hx3 hx6 j
  frame_out at h9
  frame_out
  simp only [View.readCov_eq_canon', h9]
  pointwise [k0_pay2]
  simp only [pay9_apply x0 x1 _ hx0 hx1 (ld6_apply x6 hx6), hx4, hx5, lit_alpha, ← EReal.coe_mul, ← EReal.coe_add, coe_sum]
  rfl

theorem out10_B (hc : ¬ cond0_0 i) (xo : Vec Ideal S2x1024 .f32)
    (hx0 : ∀ i, x0 i = ((D (i 0) (i 1) : ℝ) : EReal)) (hx1 : ∀ i, x1 i = ((R (i 0) (i 1) : ℝ) : EReal)) (y : S2x1024.Idx) :
    out0_B_10 c i a1 w1 a2 w2 a3 w3 a4 w4 a5 w5 a6 w6 a7 w7 a8 w8 a9 w9 a10 w10 a11 w11 hc x0 x1 x2 x3 x4 x5 x6 xo y
      = xo y + (((if (y 0).val = 0 then ∑ r, D r (y 1) * yhat (R r) (y 1) else ∑ r, D r (y 1)) : ℝ) : EReal) := by
  frame_out
  canon_tiles x h
  · pointwise [k0_pay11]
    obtain rfl := row_of (i := 1) (j := x 1) (by rw [h0]; show _ = _; simp; try omega) h1
    simp only [hx0, coe_sum]
    exact congrArg (fun t : ℝ => xo _ + (t : EReal)) (if_neg (show ¬ ((1 : Fin 2).val = 0) by decide)).symm
  · pointwise [k0_pay10]
    obtain rfl := row_of (i := 0) (j := x 1) (by rw [h0]; show _ = _; simp; try omega) h1
    simp only [hx0, pay6_apply x1 hx1, ← EReal.coe_mul, coe_sum]
    exact congrArg (fun t : ℝ => xo _ + (t : EReal)) (if_pos (show (0 : Fin 2).val = 0 by decide)).symm

end

end Cert.KernelIdeal.Ffn

end
-- ==== Proof.FfnBlk.lean ====
/- What the feed-forward backward call's seven input windows hold at each grid point, on real arguments: the cotangent, the
   rows that the norm reads, the pair of pre-activations, the three weights transposed, and the norm's scale in row 14 of
   the packed vectors. -/
module

public import proofs.«01_k».proof.Proof.Gen.KernelIdeal.Value
public import proofs.«01_k».proof.Proof.FfnReal
public import Idealize.ShloMosaic.Lib.Pipeline.ValueKit
public import Idealize.ShloMosaic.Lib.Claim
public import Idealize.ShloMosaic.Lib.Routing.OpsPair
public import Idealize.ShloMosaic.Lib.Routing.OpsSet
public import Idealize.ShloMosaic.Lib.IdealHost

@[expose] public section

set_option maxRecDepth 16384

noncomputable section

namespace Cert.KernelIdeal.Ffn

open Cert.KernelIdeal Cert.KernelIdeal.Gen Idealize.ShloMosaic Idealize.ShloMosaic.TcCoe Cert.Reals Cert.Reals.Ffn

variable (m : (ℓ : Loc nD τ sig) → Buf (Elt Ideal) ℓ)

/-- The call's arguments on device `c` are these reals. -/
structure Args (c : Dev nD) (X : Fin 16384 → Fin 1024 → ℝ) (Wg Wu : Fin 1024 → Fin 2816 → ℝ) (Wd : Fin 2816 → Fin 1024 → ℝ)
    (G : Fin 1024 → ℝ) (D : Fin 16384 → Fin 1024 → ℝ) : Prop where
  x : ∀ i : S16384x1024.Idx, (m ((c : Thread nD τ).loc main_arg0) : Vec Ideal S16384x1024 .f32) i = ((X (i 0) (i 1) : ℝ) : EReal)
  wg : ∀ i : S1024x2816.Idx, (m ((c : Thread nD τ).loc main_arg1) : Vec Ideal S1024x2816 .f32) i = ((Wg (i 0) (i 1) : ℝ) : EReal)
  wu : ∀ i : S1024x2816.Idx, (m ((c : Thread nD τ).loc main_arg2) : Vec Ideal S1024x2816 .f32) i = ((Wu (i 0) (i 1) : ℝ) : EReal)
  wd : ∀ i : S2816x1024.Idx, (m ((c : Thread nD τ).loc main_arg3) : Vec Ideal S2816x1024 .f32) i = ((Wd (i 0) (i 1) : ℝ) : EReal)
  g : ∀ i : S1024.Idx, (m ((c : Thread nD τ).loc main_arg4) : Vec Ideal S1024 .f32) i = ((G (i 0) : ℝ) : EReal)
  ct : ∀ i : S16384x1024.Idx, (m ((c : Thread nD τ).loc main_arg6) : Vec Ideal S16384x1024 .f32) i = ((D (i 0) (i 1) : ℝ) : EReal)

variable {m}
variable {c : Dev nD} {X : Fin 16384 → Fin 1024 → ℝ} {Wg Wu : Fin 1024 → Fin 2816 → ℝ} {Wd : Fin 2816 → Fin 1024 → ℝ}
variable {G : Fin 1024 → ℝ} {D : Fin 16384 → Fin 1024 → ℝ}

theorem read_x (h : Args m c X Wg Wu Wd G D) (i : S16384x1024.Idx) :
    m (c, Proc.tc.devRef main_arg0) i = ((X (i 0) (i 1) : ℝ) : EReal) := h.x i

theorem read_wg (h : Args m c X Wg Wu Wd G D) (i : S1024x2816.Idx) :
    m (c, Proc.tc.devRef main_arg1) i = ((Wg (i 0) (i 1) : ℝ) : EReal) := h.wg i

theorem read_wu (h : Args m c X Wg Wu Wd G D) (i : S1024x2816.Idx) :
    m (c, Proc.tc.devRef main_arg2) i = ((Wu (i 0) (i 1) : ℝ) : EReal) := h.wu i

theorem read_wd (h : Args m c X Wg Wu Wd G D) (i : S2816x1024.Idx) :
    m (c, Proc.tc.devRef main_arg3) i = ((Wd (i 0) (i 1) : ℝ) : EReal) := h.wd i

theorem entry_rows (h : Args m c X Wg Wu Wd G D) (i : S16384x1024.Idx) :
    (V m c main_v7 : Vec Ideal S16384x1024 .f32) i = ((res (X (i 0)) Wg Wu Wd (i 1) : ℝ) : EReal) := by
  simp only [V, hostOps0, hostOps0_1, hostOps0_2, List.flatten_cons, List.flatten_nil, List.cons_append, List.nil_append, List.append_nil]
  entry_read
  simp only [StableHlo.TRef.ofBuf_toBuf]
  simp -implicitDefEqProofs only [StableHlo.TRef.toBuf, StableHlo.TRef.ofBuf, cast_eq]
  pointwise
  simp only [read_x h, read_wg h, read_wu h, read_wd h, lit_alpha, lit_one, ← EReal.coe_one, ← EReal.coe_mul, ← EReal.coe_neg,
    Ideal.exp_coe, ← EReal.coe_add, coe_sum, div_real _ (one_add_exp_pos _).ne']
  simp only [one_div]
  rfl

theorem entry_pair (h : Args m c X Wg Wu Wd G D) (i : S16384x5632.Idx) :
    (V m c main_v8 : Vec Ideal S16384x5632 .f32) i = ((pair (X (i 0)) Wg Wu (i 1) : ℝ) : EReal) := by
  simp only [V, hostOps0, hostOps0_1, hostOps0_2, List.flatten_cons, List.flatten_nil, List.cons_append, List.nil_append, List.append_nil]
  entry_read
  pointwise
  simp only [read_x h, read_wg h, read_wu h, ← EReal.coe_mul, coe_sum]
  unfold pair
  split <;> rfl

theorem entry_wdt (h : Args m c X Wg Wu Wd G D) (i : S1024x2816.Idx) :
    (V m c main_v15 : Vec Ideal S1024x2816 .bf16) i = ((Wd (i 1) (i 0) : ℝ) : EReal) := by
  simp only [V, hostOps0, hostOps0_1, hostOps0_2, List.flatten_cons, List.flatten_nil, List.cons_append, List.nil_append, List.append_nil]
  entry_read
  pointwise
  exact h.wd _

theorem entry_wgt (h : Args m c X Wg Wu Wd G D) (i : S2816x1024.Idx) :
    (V m c main_v17 : Vec Ideal S2816x1024 .bf16) i = ((Wg (i 1) (i 0) : ℝ) : EReal) := by
  simp only [V, hostOps0, hostOps0_1, hostOps0_2, List.flatten_cons, List.flatten_nil, List.cons_append, List.nil_append, List.append_nil]
  entry_read
  pointwise
  exact h.wg _

theorem entry_wut (h : Args m c X Wg Wu Wd G D) (i : S2816x1024.Idx) :
    (V m c main_v19 : Vec Ideal S2816x1024 .bf16) i = ((Wu (i 1) (i 0) : ℝ) : EReal) := by
  simp only [V, hostOps0, hostOps0_1, hostOps0_2, List.flatten_cons, List.flatten_nil, List.cons_append, List.nil_append, List.append_nil]
  entry_read
  pointwise
  exact h.wu _

theorem start0 (k : S1024.Idx) (w : BitVec 32) : scatter_S24x1024_S1_S1024_0_0_0_0.start k (fun _ => w) 0 = w.toInt := by
  simp [ScatterDims.start, scatter_S24x1024_S1_S1024_0_0_0_0]

theorem start1 (k : S1024.Idx) (w : BitVec 32) : scatter_S24x1024_S1_S1024_0_0_0_0.start k (fun _ => w) 1 = 0 := by
  simp [ScatterDims.start, scatter_S24x1024_S1_S1024_0_0_0_0]

theorem window0 (k : S1024.Idx) : scatter_S24x1024_S1_S1024_0_0_0_0.window k 0 = 0 := by
  unfold ScatterDims.window
  exact dif_neg (by decide)

theorem window1 (k : S1024.Idx) : scatter_S24x1024_S1_S1024_0_0_0_0.window k 1 = (k 0).val := by
  unfold ScatterDims.window
  exact (dif_pos (by decide)).trans rfl

/-- An update lands at row `w` and at its own column. -/
theorem lands (k : S1024.Idx) (w : BitVec 32) (i : S24x1024.Idx) :
    scatter_S24x1024_S1_S1024_0_0_0_0.resultIdx? k (fun _ => w) = some i ↔ w.toInt = ((i 0).val : Int) ∧ (k 0).val = (i 1).val := by
  refine (Routing.resultIdx?_eq_some _ _ _ _).trans ⟨fun h => ?_, fun h a => ?_⟩
  · have h0 := h 0
    have h1 := h 1
    rw [start0, window0] at h0
    rw [start1, window1] at h1
    constructor <;> omega
  · match a with
    | ⟨0, _⟩ => exact (congrArg₂ (fun (s : Int) (n : Nat) => s + (n : Int)) (start0 k w) (window0 k)).trans (by simpa using h.1)
    | ⟨1, _⟩ => exact (congrArg₂ (fun (s : Int) (n : Nat) => s + (n : Int)) (start1 k w) (window1 k)).trans (by rw [h.2]; exact Int.zero_add _)

/-- The packed vectors at the rows that an update does not write. -/
theorem scatter_other (x0 : Vec Ideal S24x1024 .f32) (w : BitVec 32) (u : Vec Ideal S1024 .f32) (i : S24x1024.Idx)
    (hi : ((i 0).val : Int) ≠ w.toInt) :
    Host.scatter scatter_S24x1024_S1_S1024_0_0_0_0 (fun _ b => b) x0 (fun _ => w) u i = x0 i :=
  Routing.scatter_set_miss _ _ _ _ _ fun k hk => hi ((lands k w i).mp hk).1.symm

/-- The packed vectors at the row that an update writes. -/
theorem scatter_row (x0 : Vec Ideal S24x1024 .f32) (w : BitVec 32) (u : Vec Ideal S1024 .f32) (i : S24x1024.Idx)
    (hi : ((i 0).val : Int) = w.toInt) :
    Host.scatter scatter_S24x1024_S1_S1024_0_0_0_0 (fun _ b => b) x0 (fun _ => w) u i = u (ix1 (i 1)) := by
  refine Routing.scatter_set_hit _ _ _ _ _ _ (fun k hk => ?_) (ix1 (i 1)) ((lands _ _ _).mpr ⟨hi.symm, rfl⟩)
  congr 1
  funext a
  match a with
  | ⟨0, _⟩ => exact Fin.ext ((lands k w i).mp hk).2

theorem entry_vec (h : Args m c X Wg Wu Wd G D) (i : S24x1024.Idx) (hi : (i 0).val = 14) :
    (V m c main_v13 : Vec Ideal S24x1024 .f32) i = ((G (i 1) : ℝ) : EReal) := by
  simp only [V, hostOps0, hostOps0_1, hostOps0_2, List.flatten_cons, List.flatten_nil, List.cons_append, List.nil_append, List.append_nil]
  entry_read
  refine (scatter_other _ 17#32 _ i (by rw [hi]; decide)).trans ?_
  refine (scatter_row _ 14#32 _ i (by rw [hi]; decide)).trans ?_
  exact h.g _

/-- A row of the grid point's tile, as a row of the whole array. -/
def row (t : Fin cfg0.N) (r : Fin 256) : Fin 16384 := ⟨t.val * 256 + r.val, by have := t.isLt; change t.val < 64 at this; omega⟩

theorem idx0 : ∀ t : Fin cfg0.N, win0_0.index t = ![t.val, 0] := by decide +kernel

theorem blk0 (h : Args m c X Wg Wu Wd G D) (t : Fin cfg0.N) (i : S256x1024.Idx) :
    (iblk m c 0 t : Vec Ideal S256x1024 .f32) i = ((D (row t (i 0)) (i 1) : ℝ) : EReal) := by
  have e : (iblk m c 0 t : Vec Ideal S256x1024 .f32) i = (V m c main_arg6 : Vec Ideal S16384x1024 .f32) (ix2 (row t (i 0)) (i 1)) := by
    blk_ext [iblk, idx0 t, row]
  rw [e]
  exact (congrFun (V_main_arg6 m c) _).trans (h.ct _)

theorem idx1 : ∀ t : Fin cfg0.N, win0_1.index t = ![t.val, 0] := by decide +kernel

theorem blk1 (h : Args m c X Wg Wu Wd G D) (t : Fin cfg0.N) (i : S256x1024.Idx) :
    (iblk m c 1 t : Vec Ideal S256x1024 .f32) i = ((res (X (row t (i 0))) Wg Wu Wd (i 1) : ℝ) : EReal) := by
  have e : (iblk m c 1 t : Vec Ideal S256x1024 .f32) i = (V m c main_v7 : Vec Ideal S16384x1024 .f32) (ix2 (row t (i 0)) (i 1)) := by
    blk_ext [iblk, idx1 t, row]
  rw [e]
  exact entry_rows h _

theorem idx2 : ∀ t : Fin cfg0.N, win0_2.index t = ![t.val, 0] := by decide +kernel

theorem blk2 (h : Args m c X Wg Wu Wd G D) (t : Fin cfg0.N) (i : S256x5632.Idx) :
    (iblk m c 2 t : Vec Ideal S256x5632 .f32) i = ((pair (X (row t (i 0))) Wg Wu (i 1) : ℝ) : EReal) := by
  have e : (iblk m c 2 t : Vec Ideal S256x5632 .f32) i = (V m c main_v8 : Vec Ideal S16384x5632 .f32) (ix2 (row t (i 0)) (i 1)) := by
    blk_ext [iblk, idx2 t, row]
  rw [e]
  exact entry_pair h _

theorem idx3 : ∀ t : Fin cfg0.N, win0_3.index t = ![0, 0] := by decide +kernel

theorem blk3 (h : Args m c X Wg Wu Wd G D) (t : Fin cfg0.N) (i : S1024x2816.Idx) :
    (iblk m c 3 t : Vec Ideal S1024x2816 .bf16) i = ((Wd (i 1) (i 0) : ℝ) : EReal) := by
  have e : (iblk m c 3 t : Vec Ideal S1024x2816 .bf16) i = (V m c main_v15 : Vec Ideal S1024x2816 .bf16) i := by
    blk_ext [iblk, idx3 t, row]
  rw [e]
  exact entry_wdt h _

theorem idx4 : ∀ t : Fin cfg0.N, win0_4.index t = ![0, 0] := by decide +kernel

theorem blk4 (h : Args m c X Wg Wu Wd G D) (t : Fin cfg0.N) (i : S2816x1024.Idx) :
    (iblk m c 4 t : Vec Ideal S2816x1024 .bf16) i = ((Wg (i 1) (i 0) : ℝ) : EReal) := by
  have e : (iblk m c 4 t : Vec Ideal S2816x1024 .bf16) i = (V m c main_v17 : Vec Ideal S2816x1024 .bf16) i := by
    blk_ext [iblk, idx4 t, row]
  rw [e]
  exact entry_wgt h _

theorem idx5 : ∀ t : Fin cfg0.N, win0_5.index t = ![0, 0] := by decide +kernel

theorem blk5 (h : Args m c X Wg Wu Wd G D) (t : Fin cfg0.N) (i : S2816x1024.Idx) :
    (iblk m c 5 t : Vec Ideal S2816x1024 .bf16) i = ((Wu (i 1) (i 0) : ℝ) : EReal) := by
  have e : (iblk m c 5 t : Vec Ideal S2816x1024 .bf16) i = (V m c main_v19 : Vec Ideal S2816x1024 .bf16) i := by
    blk_ext [iblk, idx5 t, row]
  rw [e]
  exact entry_wut h _

theorem idx6 : ∀ t : Fin cfg0.N, win0_6.index t = ![0, 0] := by decide +kernel

theorem blk6 (h : Args m c X Wg Wu Wd G D) (t : Fin cfg0.N) (i : S24x1024.Idx) (hi : (i 0).val = 14) :
    (iblk m c 6 t : Vec Ideal S24x1024 .f32) i = ((G (i 1) : ℝ) : EReal) := by
  have e : (iblk m c 6 t : Vec Ideal S24x1024 .f32) i = (V m c main_v13 : Vec Ideal S24x1024 .f32) i := by
    blk_ext [iblk, idx6 t, row]
  rw [e]
  exact entry_vec h _ hi

end Cert.KernelIdeal.Ffn

end
-- ==== Proof.FfnFin.lean ====
/- The feed-forward backward call's four output arrays after its run, on real arguments. -/
module

public import proofs.«01_k».proof.Proof.FfnPay
public import proofs.«01_k».proof.Proof.FfnBlk

@[expose] public section

set_option maxRecDepth 16384

noncomputable section

namespace Cert.KernelIdeal.Ffn

open Cert.KernelIdeal Cert.KernelIdeal.Gen Idealize.ShloMosaic Idealize.ShloMosaic.TcCoe Cert.Reals Cert.Reals.Ffn

variable {m : (ℓ : Loc nD τ sig) → Buf (Elt Ideal) ℓ}
variable {c : Dev nD} {X : Fin 16384 → Fin 1024 → ℝ} {Wg Wu : Fin 1024 → Fin 2816 → ℝ} {Wd : Fin 2816 → Fin 1024 → ℝ}
variable {G : Fin 1024 → ℝ} {D : Fin 16384 → Fin 1024 → ℝ}

theorem at7 (h : Args m c X Wg Wu Wd G D) (t : Fin cfg0.N) (y : S256x1024.Idx) :
    (outsAt0 m c t.val t.isLt).1 y = ((dx (drow X Wg Wu Wd G D (row t (y 0))) (dact (drow X Wg Wu Wd G D (row t (y 0))) Wd) (pair (X (row t (y 0))) Wg Wu) Wg Wu (y 1) : ℝ) : EReal) := by
  by_cases h0 : t.val % 64 = 0
  · rw [outsAt0_A m c t h0]
    dsimp only
    exact out7_A (R := fun r => res (X (row t r)) Wg Wu Wd) (D := fun r => D (row t r)) (G := G) (H := fun r => pair (X (row t r)) Wg Wu) (Wd := Wd) (Wg := Wg) (Wu := Wu) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) ((hcond0_0 t).mpr h0) (blk0 h t) (blk1 h t) (blk2 h t) (blk3 h t) (blk4 h t) (blk5 h t) (blk6 h t) y
  · rw [outsAt0_B m c t h0]
    dsimp only
    exact out7_B (R := fun r => res (X (row t r)) Wg Wu Wd) (D := fun r => D (row t r)) (G := G) (H := fun r => pair (X (row t r)) Wg Wu) (Wd := Wd) (Wg := Wg) (Wu := Wu) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (fun hh => h0 ((hcond0_0 t).mp hh)) (outsAt0 m c (t.val - 1) (Nat.lt_of_le_of_lt (Nat.sub_le _ _) t.isLt)).2.2.2 (blk0 h t) (blk1 h t) (blk2 h t) (blk3 h t) (blk4 h t) (blk5 h t) (blk6 h t) y

theorem idx7 : ∀ t : Fin cfg0.N, win0_7.index t = ![t.val, 0] := by decide +kernel

theorem final7 (h : Args m c X Wg Wu Wd G D) :
    (dats m 0 c).arrAt 7 cfg0.N = (fun i => ((dx (drow X Wg Wu Wd G D (i 0)) (dact (drow X Wg Wu Wd G D (i 0)) Wd) (pair (X (i 0)) Wg Wu) Wg Wu (i 1) : ℝ) : EReal) : Vec Ideal S16384x1024 .f32) := by
  refine (dats m 0 c).arrAt_eq_of_covers 7 _ (by decide +kernel) fun t hf y => ?_
  blk_simp
  rw [after0_7]
  have e0 : row t (y 0) = (win0_7.blk t).view.emb y 0 := Fin.ext (by blk_simp [idx7 t, row])
  have e1 : (y 1 : Fin 1024) = (win0_7.blk t).view.emb y 1 := Fin.ext (by blk_simp [idx7 t])
  have k := at7 h t y
  rw [e0, e1] at k
  exact k

theorem at8 (h : Args m c X Wg Wu Wd G D) (t : Fin cfg0.N) (y : S256x1024.Idx) :
    (outsAt0 m c t.val t.isLt).2.1 y = ((drow X Wg Wu Wd G D (row t (y 0)) (y 1) : ℝ) : EReal) := by
  by_cases h0 : t.val % 64 = 0
  · rw [outsAt0_A m c t h0]
    dsimp only
    exact out8_A (R := fun r => res (X (row t r)) Wg Wu Wd) (D := fun r => D (row t r)) (G := G) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) ((hcond0_0 t).mpr h0) (blk0 h t) (blk1 h t) (blk6 h t) y
  · rw [outsAt0_B m c t h0]
    dsimp only
    exact out8_B (R := fun r => res (X (row t r)) Wg Wu Wd) (D := fun r => D (row t r)) (G := G) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (fun hh => h0 ((hcond0_0 t).mp hh)) (outsAt0 m c (t.val - 1) (Nat.lt_of_le_of_lt (Nat.sub_le _ _) t.isLt)).2.2.2 (blk0 h t) (blk1 h t) (blk6 h t) y

theorem idx8 : ∀ t : Fin cfg0.N, win0_8.index t = ![t.val, 0] := by decide +kernel

theorem final8 (h : Args m c X Wg Wu Wd G D) :
    (dats m 0 c).arrAt 8 cfg0.N = (fun i => ((drow X Wg Wu Wd G D (i 0) (i 1) : ℝ) : EReal) : Vec Ideal S16384x1024 .bf16) := by
  refine (dats m 0 c).arrAt_eq_of_covers 8 _ (by decide +kernel) fun t hf y => ?_
  blk_simp
  rw [after0_8]
  have e0 : row t (y 0) = (win0_8.blk t).view.emb y 0 := Fin.ext (by blk_simp [idx8 t, row])
  have e1 : (y 1 : Fin 1024) = (win0_8.blk t).view.emb y 1 := Fin.ext (by blk_simp [idx8 t])
  have k := at8 h t y
  rw [e0, e1] at k
  exact k

theorem at9 (h : Args m c X Wg Wu Wd G D) (t : Fin cfg0.N) (y : S256x5632.Idx) :
    (outsAt0 m c t.val t.isLt).2.2.1 y = ((gate (dact (drow X Wg Wu Wd G D (row t (y 0))) Wd) (pair (X (row t (y 0))) Wg Wu) (y 1) : ℝ) : EReal) := by
  by_cases h0 : t.val % 64 = 0
  · rw [outsAt0_A m c t h0]
    dsimp only
    exact out9_A (R := fun r => res (X (row t r)) Wg Wu Wd) (D := fun r => D (row t r)) (G := G) (H := fun r => pair (X (row t r)) Wg Wu) (Wd := Wd) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) ((hcond0_0 t).mpr h0) (blk0 h t) (blk1 h t) (blk2 h t) (blk3 h t) (blk6 h t) y
  · rw [outsAt0_B m c t h0]
    dsimp only
    exact out9_B (R := fun r => res (X (row t r)) Wg Wu Wd) (D := fun r => D (row t r)) (G := G) (H := fun r => pair (X (row t r)) Wg Wu) (Wd := Wd) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (fun hh => h0 ((hcond0_0 t).mp hh)) (outsAt0 m c (t.val - 1) (Nat.lt_of_le_of_lt (Nat.sub_le _ _) t.isLt)).2.2.2 (blk0 h t) (blk1 h t) (blk2 h t) (blk3 h t) (blk6 h t) y

theorem idx9 : ∀ t : Fin cfg0.N, win0_9.index t = ![t.val, 0] := by decide +kernel

theorem final9 (h : Args m c X Wg Wu Wd G D) :
    (dats m 0 c).arrAt 9 cfg0.N = (fun i => ((gate (dact (drow X Wg Wu Wd G D (i 0)) Wd) (pair (X (i 0)) Wg Wu) (i 1) : ℝ) : EReal) : Vec Ideal S16384x5632 .bf16) := by
  refine (dats m 0 c).arrAt_eq_of_covers 9 _ (by decide +kernel) fun t hf y => ?_
  blk_simp
  rw [after0_9]
  have e0 : row t (y 0) = (win0_9.blk t).view.emb y 0 := Fin.ext (by blk_simp [idx9 t, row])
  have e1 : (y 1 : Fin 5632) = (win0_9.blk t).view.emb y 1 := Fin.ext (by blk_simp [idx9 t])
  have k := at9 h t y
  rw [e0, e1] at k
  exact k

/-- The last grid point. -/
def last : Fin cfg0.N := ⟨63, by decide⟩

/-- One grid point's part of the two sums. -/
def part (X : Fin 16384 → Fin 1024 → ℝ) (Wg Wu : Fin 1024 → Fin 2816 → ℝ) (Wd : Fin 2816 → Fin 1024 → ℝ)
    (D : Fin 16384 → Fin 1024 → ℝ) (t : Fin cfg0.N) (y : S2x1024.Idx) : EReal :=
  (((if (y 0).val = 0 then ∑ r : Fin 256, D (row t r) (y 1) * yhat (res (X (row t r)) Wg Wu Wd) (y 1)
    else ∑ r : Fin 256, D (row t r) (y 1)) : ℝ) : EReal)

theorem part_sum (X : Fin 16384 → Fin 1024 → ℝ) (Wg Wu : Fin 1024 → Fin 2816 → ℝ) (Wd : Fin 2816 → Fin 1024 → ℝ)
    (D : Fin 16384 → Fin 1024 → ℝ) (y : S2x1024.Idx) :
    ∑ t, part X Wg Wu Wd D t y = (((if (y 0).val = 0 then ∑ s, D s (y 1) * yhat (res (X s) Wg Wu Wd) (y 1)
      else ∑ s, D s (y 1)) : ℝ) : EReal) := by
  simp only [part, coe_sum]
  refine congrArg (fun t : ℝ => (t : EReal)) ?_
  have rows : ∀ f : Fin 16384 → ℝ, ∑ t : Fin cfg0.N, ∑ r, f (row t r) = ∑ s, f s :=
    fun f => sum_tiles cfg0.N 256 16384 rfl f row fun _ _ => rfl
  by_cases h0 : (y 0).val = 0
  · simp only [if_pos h0]
    exact rows fun s => D s (y 1) * yhat (res (X s) Wg Wu Wd) (y 1)
  · simp only [if_neg h0]
    exact rows fun s => D s (y 1)

theorem final10 (h : Args m c X Wg Wu Wd G D) :
    (dats m 0 c).arrAt 10 cfg0.N = (fun i => (((if (i 0).val = 0 then ∑ s, D s (i 1) * yhat (res (X s) Wg Wu Wd) (i 1)
      else ∑ s, D s (i 1)) : ℝ) : EReal) : Vec Ideal S2x1024 .f32) := by
  have acc := Pipeline.eq_sum_fin_of_reset_step_last (fun n hn => ((outsAt0 m c n hn).2.2.2 : S2x1024.Idx → EReal)) 64 0
    (part X Wg Wu Wd D)
    (fun t h0 => by
      show (outsAt0 m c t.val t.isLt).2.2.2 = _
      rw [zero_add, outsAt0_A m c t h0]
      dsimp only
      exact funext fun y => out10_A (R := fun r => res (X (row t r)) Wg Wu Wd) (D := fun r => D (row t r)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) ((hcond0_0 t).mpr h0) (blk0 h t) (blk1 h t) y)
    (fun t h0 => by
      show (outsAt0 m c t.val t.isLt).2.2.2 = _
      rw [outsAt0_B m c t h0]
      dsimp only
      exact funext fun y => out10_B (R := fun r => res (X (row t r)) Wg Wu Wd) (D := fun r => D (row t r)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (fun hh => h0 ((hcond0_0 t).mp hh)) (outsAt0 m c (t.val - 1) (Nat.lt_of_le_of_lt (Nat.sub_le _ _) t.isLt)).2.2.2 (blk0 h t) (blk1 h t) y)
    (le_refl 64)
  refine (dats m 0 c).arrAt_eq_of_after_last 10 last (by decide +kernel) _ fun j => ?_
  blk_simp
  rw [after0_10]
  refine (congrFun (acc last rfl) j).trans ?_
  rw [zero_add, Finset.sum_apply]
  exact part_sum X Wg Wu Wd D j

end Cert.KernelIdeal.Ffn

end
-- ==== Proof.FfnRef.lean ====
/- What each result of the feed-forward reference holds at an index, on real arguments: the same reals that the call's
   output arrays hold. -/
module

public import proofs.«01_k».proof.Proof.Gen.ReferenceIdeal.Run
public import proofs.«01_k».proof.Proof.Gen.ReferenceIdeal.Read
public import proofs.«01_k».proof.Proof.FfnReal
public import Idealize.ShloMosaic.Lib.Pipeline.ValueKit
public import Idealize.ShloMosaic.Lib.IdealHost

@[expose] public section

set_option maxRecDepth 16384

noncomputable section

namespace Cert.ReferenceIdeal.Ffn

open Cert.ReferenceIdeal Cert.ReferenceIdeal.Gen Cert.ReferenceIdeal.Read Idealize.ShloMosaic Cert.Reals Cert.Reals.Ffn

/-- The reference's arguments are these reals. -/
structure Args (x0 : Vec Ideal S16384x1024 .f32) (x1 x2 : Vec Ideal S1024x2816 .f32) (x3 : Vec Ideal S2816x1024 .f32)
    (x4 : Vec Ideal S1024 .f32) (x6 : Vec Ideal S16384x1024 .f32)
    (X : Fin 16384 → Fin 1024 → ℝ) (Wg Wu : Fin 1024 → Fin 2816 → ℝ) (Wd : Fin 2816 → Fin 1024 → ℝ)
    (G : Fin 1024 → ℝ) (D : Fin 16384 → Fin 1024 → ℝ) : Prop where
  x : ∀ i, x0 i = ((X (i 0) (i 1) : ℝ) : EReal)
  wg : ∀ i, x1 i = ((Wg (i 0) (i 1) : ℝ) : EReal)
  wu : ∀ i, x2 i = ((Wu (i 0) (i 1) : ℝ) : EReal)
  wd : ∀ i, x3 i = ((Wd (i 0) (i 1) : ℝ) : EReal)
  g : ∀ i, x4 i = ((G (i 0) : ℝ) : EReal)
  ct : ∀ i, x6 i = ((D (i 0) (i 1) : ℝ) : EReal)

variable {x0 : Vec Ideal S16384x1024 .f32} {x1 x2 : Vec Ideal S1024x2816 .f32} {x3 : Vec Ideal S2816x1024 .f32}
variable {x4 : Vec Ideal S1024 .f32} {x6 : Vec Ideal S16384x1024 .f32}
variable {X : Fin 16384 → Fin 1024 → ℝ} {Wg Wu : Fin 1024 → Fin 2816 → ℝ} {Wd : Fin 2816 → Fin 1024 → ℝ}
variable {G : Fin 1024 → ℝ} {D : Fin 16384 → Fin 1024 → ℝ}

theorem hg (h : Args x0 x1 x2 x3 x4 x6 X Wg Wu Wd G D) (i : S16384x2816.Idx) :
    val_main_v4 (F := Ideal) x0 x1 i = ((pre (X (i 0)) Wg (i 1) : ℝ) : EReal) := by
  simp only [val_main_v4_apply, h.x, h.wg, ← EReal.coe_mul, coe_sum]
  rfl

theorem hu (h : Args x0 x1 x2 x3 x4 x6 X Wg Wu Wd G D) (i : S16384x2816.Idx) :
    val_main_v6 (F := Ideal) x0 x2 i = ((pre (X (i 0)) Wu (i 1) : ℝ) : EReal) := by
  simp only [val_main_v6_apply, h.x, h.wu, ← EReal.coe_mul, coe_sum]
  rfl

theorem logistic (h : Args x0 x1 x2 x3 x4 x6 X Wg Wu Wd G D) (i : S16384x2816.Idx) :
    val_main_call0_v5 (F := Ideal) x0 x1 i = ((Reals.sig (pre (X (i 0)) Wg (i 1)) : ℝ) : EReal) := by
  simp only [val_main_call0_v5_apply, val_main_call0_v4_apply, val_main_call0_cst_0_apply, val_main_call0_v3_apply,
    val_main_call0_v2_apply, val_main_call0_cst_apply, val_main_call0_v1_apply, val_main_call0_v0_apply, hg h]
  pointwise
  simp only [lit_one, ← EReal.coe_one, ← EReal.coe_neg, Ideal.exp_coe, ← EReal.coe_add, div_real _ (one_add_exp_pos _).ne']
  rw [one_div]
  rfl

theorem gated (h : Args x0 x1 x2 x3 x4 x6 X Wg Wu Wd G D) (i : S16384x2816.Idx) :
    val_main_v7 (F := Ideal) x0 x1 x2 i = ((pre (X (i 0)) Wg (i 1) * Reals.sig (pre (X (i 0)) Wg (i 1)) * pre (X (i 0)) Wu (i 1) : ℝ) : EReal) := by
  simp only [val_main_v7_apply, val_main_v5_apply, hg h, logistic h, hu h]
  pointwise
  simp only [← EReal.coe_mul, ← EReal.coe_add, ← EReal.coe_sub, ← EReal.coe_neg]

theorem rows (h : Args x0 x1 x2 x3 x4 x6 X Wg Wu Wd G D) (i : S16384x1024.Idx) :
    val_main_v9 (F := Ideal) x0 x1 x2 x3 i = ((res (X (i 0)) Wg Wu Wd (i 1) : ℝ) : EReal) := by
  simp only [val_main_v9_apply, val_main_v3_apply, val_main_v2_apply, val_main_cst_apply, val_main_v8_apply, gated h, h.x, h.wd]
  pointwise
  simp only [lit_alpha, ← EReal.coe_mul, ← EReal.coe_add, ← EReal.coe_sub, ← EReal.coe_neg, coe_sum]
  rfl

theorem mean_row (h : Args x0 x1 x2 x3 x4 x6 X Wg Wu Wd G D) (i : S16384x1.Idx) :
    val_main_v13 (F := Ideal) x0 x1 x2 x3 i = ((mean (res (X (i 0)) Wg Wu Wd) : ℝ) : EReal) := by
  simp only [val_main_v13_apply, val_main_v12_apply, val_main_cst_1_apply, val_main_v11_apply, val_main_v10_apply, val_main_cst_0_apply, rows h]
  pointwise
  simp only [lit_zero, lit_1024, coe_sum, ← EReal.coe_add, zero_add, div_1024]
  rfl

theorem centred (h : Args x0 x1 x2 x3 x4 x6 X Wg Wu Wd G D) (i : S16384x1024.Idx) :
    val_main_v15 (F := Ideal) x0 x1 x2 x3 i = ((res (X (i 0)) Wg Wu Wd (i 1) - mean (res (X (i 0)) Wg Wu Wd) : ℝ) : EReal) := by
  simp only [val_main_v15_apply, val_main_v14_apply, mean_row h, rows h]
  pointwise
  rfl

theorem vareps_row (h : Args x0 x1 x2 x3 x4 x6 X Wg Wu Wd G D) (i : S16384x1.Idx) :
    val_main_v26 (F := Ideal) x0 x1 x2 x3 i = ((vareps (res (X (i 0)) Wg Wu Wd) : ℝ) : EReal) := by
  simp only [val_main_v26_apply, val_main_v25_apply, val_main_cst_5_apply, val_main_v22_apply, val_main_v21_apply, val_main_cst_4_apply, val_main_v20_apply, val_main_v19_apply, val_main_cst_3_apply, val_main_v16_apply, centred h]
  pointwise
  simp only [lit_zero, lit_eps, lit_1024, ← EReal.coe_mul, ← EReal.coe_add, ← EReal.coe_sub, ← EReal.coe_neg, coe_sum, zero_add, div_1024]
  rfl

theorem rstd_row (h : Args x0 x1 x2 x3 x4 x6 X Wg Wu Wd G D) (i : S16384x1.Idx) :
    val_main_v27 (F := Ideal) x0 x1 x2 x3 i = ((rstd (res (X (i 0)) Wg Wu Wd) : ℝ) : EReal) := by
  simp only [val_main_v27_apply, vareps_row h]
  pointwise
  exact rsqrt_real (vareps_pos _)

theorem yhat_row (h : Args x0 x1 x2 x3 x4 x6 X Wg Wu Wd G D) (i : S16384x1024.Idx) :
    val_main_v32 (F := Ideal) x0 x1 x2 x3 i = ((yhat (res (X (i 0)) Wg Wu Wd) (i 1) : ℝ) : EReal) := by
  have e : val_main_v24 (F := Ideal) x0 x1 x2 x3 = val_main_v15 (F := Ideal) x0 x1 x2 x3 := rfl
  simp only [val_main_v32_apply, val_main_v31_apply, e, centred h, rstd_row h]
  pointwise
  rfl

theorem idx_v39 (i : S16384x1024.Idx) : idx_main_v39 i = i := by
  funext a
  have h1 : (i 1).val < 1024 := (i 1).isLt
  match a with
  | ⟨0, _⟩ => exact Fin.ext (show ((i 0).val * 1024 + (i 1).val) / 1024 = (i 0).val by omega)
  | ⟨1, _⟩ => exact Fin.ext (show ((i 0).val * 1024 + (i 1).val) % 1024 = (i 1).val by omega)

theorem seed (h : Args x0 x1 x2 x3 x4 x6 X Wg Wu Wd G D) (i : S16384x1024.Idx) :
    val_main_v47 (F := Ideal) x4 x6 i = ((D (i 0) (i 1) * G (i 1) : ℝ) : EReal) := by
  simp only [val_main_v47_apply, val_main_v39_apply, val_main_v46_apply, val_main_v33_apply, idx_v39, h.ct, h.g]
  pointwise
  rfl

theorem idx_v51 (i : S16384x1.Idx) : idx_main_v51 i = idx_main_v11 i := by
  funext a
  have h1 : (i 1).val < 1 := (i 1).isLt
  match a with
  | ⟨0, _⟩ => exact Fin.ext (show (i 0).val * 1 + (i 1).val = (i 0).val by omega)

theorem inner (h : Args x0 x1 x2 x3 x4 x6 X Wg Wu Wd G D) (i : S16384x1.Idx) :
    val_main_v51 (F := Ideal) x0 x1 x2 x3 x4 x6 i = ((∑ j, (res (X (i 0)) Wg Wu Wd j - mean (res (X (i 0)) Wg Wu Wd)) * (D (i 0) j * G j) : ℝ) : EReal) := by
  have e : val_main_v24 (F := Ideal) x0 x1 x2 x3 = val_main_v15 (F := Ideal) x0 x1 x2 x3 := rfl
  simp only [val_main_v51_apply, val_main_v50_apply, val_main_cst_11_apply, val_main_v49_apply, e, centred h, seed h, idx_v51]
  pointwise
  simp only [lit_zero, ← EReal.coe_mul, ← EReal.coe_add, ← EReal.coe_sub, ← EReal.coe_neg, coe_sum, zero_add]
  rfl

theorem coeff (h : Args x0 x1 x2 x3 x4 x6 X Wg Wu Wd G D) (i : S16384x1.Idx) :
    val_main_v59 (F := Ideal) x0 x1 x2 x3 x4 x6 i = (((∑ j, (res (X (i 0)) Wg Wu Wd j - mean (res (X (i 0)) Wg Wu Wd)) * (D (i 0) j * G j)) * (-(1 / 2) * (rstd (res (X (i 0)) Wg Wu Wd) / vareps (res (X (i 0)) Wg Wu Wd))) / 1024 : ℝ) : EReal) := by
  simp only [val_main_v59_apply, val_main_v58_apply, val_main_cst_13_apply, val_main_v54_apply, val_main_v30_apply, val_main_v29_apply, val_main_cst_6_apply, val_main_v28_apply, inner h, rstd_row h, vareps_row h]
  pointwise
  simp only [lit_neg_half, lit_1024, div_real _ (vareps_pos _).ne', ← EReal.coe_mul, ← EReal.coe_add, ← EReal.coe_sub, ← EReal.coe_neg, div_1024]

theorem through_var (h : Args x0 x1 x2 x3 x4 x6 X Wg Wu Wd G D) (i : S16384x1024.Idx) :
    val_main_v62 (F := Ideal) x0 x1 x2 x3 x4 x6 i = (((∑ j, (res (X (i 0)) Wg Wu Wd j - mean (res (X (i 0)) Wg Wu Wd)) * (D (i 0) j * G j)) * (-(1 / 2) * (rstd (res (X (i 0)) Wg Wu Wd) / vareps (res (X (i 0)) Wg Wu Wd))) / 1024 * (2 * (res (X (i 0)) Wg Wu Wd (i 1) - mean (res (X (i 0)) Wg Wu Wd))) : ℝ) : EReal) := by
  simp only [val_main_v62_apply, val_main_v61_apply, val_main_v60_apply, val_main_cst_14_apply, val_main_v18_apply, val_main_v17_apply, val_main_cst_2_apply, coeff h, centred h]
  pointwise
  simp only [lit_zero, lit_two, coe_sum, Fin.sum_univ_one, ← EReal.coe_mul, ← EReal.coe_add, ← EReal.coe_sub, ← EReal.coe_neg, zero_add]
  rfl

theorem scaled (h : Args x0 x1 x2 x3 x4 x6 X Wg Wu Wd G D) (i : S16384x1024.Idx) :
    val_main_v53 (F := Ideal) x0 x1 x2 x3 x4 x6 i = ((D (i 0) (i 1) * G (i 1) * rstd (res (X (i 0)) Wg Wu Wd) : ℝ) : EReal) := by
  simp only [val_main_v53_apply, val_main_v52_apply, seed h, rstd_row h]
  pointwise
  rfl

theorem mean_scaled (h : Args x0 x1 x2 x3 x4 x6 X Wg Wu Wd G D) (i : S16384x1.Idx) :
    val_main_v57 (F := Ideal) x0 x1 x2 x3 x4 x6 i = ((∑ j, -(D (i 0) j * G j * rstd (res (X (i 0)) Wg Wu Wd)) : ℝ) : EReal) := by
  simp only [val_main_v57_apply, val_main_v56_apply, val_main_cst_12_apply, val_main_v55_apply, (show idx_main_v57 = idx_main_v51 from rfl), idx_v51, scaled h]
  pointwise
  simp only [lit_zero, ← EReal.coe_mul, ← EReal.coe_add, ← EReal.coe_sub, ← EReal.coe_neg, coe_sum, zero_add]
  rfl

theorem mean_var (h : Args x0 x1 x2 x3 x4 x6 X Wg Wu Wd G D) (i : S16384x1.Idx) :
    val_main_v65 (F := Ideal) x0 x1 x2 x3 x4 x6 i = ((∑ j, -((∑ j, (res (X (i 0)) Wg Wu Wd j - mean (res (X (i 0)) Wg Wu Wd)) * (D (i 0) j * G j)) * (-(1 / 2) * (rstd (res (X (i 0)) Wg Wu Wd) / vareps (res (X (i 0)) Wg Wu Wd))) / 1024 * (2 * (res (X (i 0)) Wg Wu Wd j - mean (res (X (i 0)) Wg Wu Wd)))) : ℝ) : EReal) := by
  simp only [val_main_v65_apply, val_main_v64_apply, val_main_cst_15_apply, val_main_v63_apply, (show idx_main_v65 = idx_main_v51 from rfl), idx_v51, through_var h]
  pointwise
  simp only [lit_zero, ← EReal.coe_mul, ← EReal.coe_add, ← EReal.coe_sub, ← EReal.coe_neg, coe_sum, zero_add]
  rfl

theorem grad_rows (h : Args x0 x1 x2 x3 x4 x6 X Wg Wu Wd G D) (i : S16384x1024.Idx) :
    val_main_v72 (F := Ideal) x0 x1 x2 x3 x4 x6 i = ((drow X Wg Wu Wd G D (i 0) (i 1) : ℝ) : EReal) := by
  simp only [val_main_v72_apply, val_main_v71_apply, val_main_v70_apply, val_main_cst_17_apply, val_main_v69_apply, val_main_v68_apply, val_main_cst_16_apply, val_main_v67_apply, val_main_v66_apply, mean_scaled h, mean_var h, through_var h, scaled h]
  pointwise
  simp only [lit_zero, lit_1024, coe_sum, Fin.sum_univ_one, ← EReal.coe_mul, ← EReal.coe_add, ← EReal.coe_sub, ← EReal.coe_neg, zero_add, div_1024]
  refine congrArg (fun t : ℝ => (t : EReal)) (Eq.trans ?_ (lnDx_sweep (res (X (i 0)) Wg Wu Wd) (fun k => D (i 0) k * G k) (i 1)))
  rfl

theorem grad_gated (h : Args x0 x1 x2 x3 x4 x6 X Wg Wu Wd G D) (i : S16384x2816.Idx) :
    val_main_v81 (F := Ideal) x0 x1 x2 x3 x4 x6 i = ((dact (drow X Wg Wu Wd G D (i 0)) Wd (i 1) : ℝ) : EReal) := by
  simp only [val_main_v81_apply, grad_rows h, h.wd, ← EReal.coe_mul, coe_sum]
  rfl

theorem grad_up (h : Args x0 x1 x2 x3 x4 x6 X Wg Wu Wd G D) (i : S16384x2816.Idx) :
    val_main_v82 (F := Ideal) x0 x1 x2 x3 x4 x6 i = ((dact (drow X Wg Wu Wd G D (i 0)) Wd (i 1) * pre (X (i 0)) Wg (i 1) * Reals.sig (pre (X (i 0)) Wg (i 1)) : ℝ) : EReal) := by
  have e : val_main_v75 (F := Ideal) x0 x1 = val_main_v4 (F := Ideal) x0 x1 := rfl
  have s : val_main_v76_2 (F := Ideal) x0 x1 = val_main_call0_v5 (F := Ideal) x0 x1 := rfl
  simp only [val_main_v82_apply, val_main_v76_0_apply, e, s, hg h, logistic h, grad_gated h]
  pointwise
  simp only [← EReal.coe_mul, ← EReal.coe_add, ← EReal.coe_sub, ← EReal.coe_neg]
  exact congrArg (fun t : ℝ => (t : EReal)) (by ring)

theorem grad_gate (h : Args x0 x1 x2 x3 x4 x6 X Wg Wu Wd G D) (i : S16384x2816.Idx) :
    val_main_v85 (F := Ideal) x0 x1 x2 x3 x4 x6 i = ((dact (drow X Wg Wu Wd G D (i 0)) Wd (i 1) * pre (X (i 0)) Wu (i 1) * dsilu (pre (X (i 0)) Wg (i 1)) : ℝ) : EReal) := by
  have e : val_main_v75 (F := Ideal) x0 x1 = val_main_v4 (F := Ideal) x0 x1 := rfl
  have u : val_main_v77 (F := Ideal) x0 x2 = val_main_v6 (F := Ideal) x0 x2 := rfl
  have s : val_main_v76_2 (F := Ideal) x0 x1 = val_main_call0_v5 (F := Ideal) x0 x1 := rfl
  simp only [val_main_v85_apply, val_main_call2_v2_apply, val_main_call2_v1_apply, val_main_call2_v0_apply, val_main_v83_apply, val_main_v76_1_apply, val_main_call1_v7_apply, val_main_call1_v6_apply, val_main_call1_cst_1_apply, e, u, s, hg h, hu h, logistic h, grad_gated h]
  pointwise
  simp only [lit_one, ← EReal.coe_one, ← EReal.coe_mul, ← EReal.coe_add, ← EReal.coe_sub, ← EReal.coe_neg]
  exact congrArg (fun t : ℝ => (t : EReal)) (by unfold dsilu; ring)

theorem gate_gate (A : Fin 2816 → ℝ) (x : Fin 1024 → ℝ) (Wg Wu : Fin 1024 → Fin 2816 → ℝ) (j : Fin 2816) (q : Fin 5632)
    (hq : q.val = j.val) : A j * pre x Wu j * dsilu (pre x Wg j) = gate A (pair x Wg Wu) q := by
  have hj : q.val < 2816 := hq ▸ j.isLt
  have e : (⟨q.val, hj⟩ : Fin 2816) = j := Fin.ext hq
  have n : ¬ q.val + 2816 < 2816 := by omega
  have e' : (⟨q.val + 2816 - 2816, by omega⟩ : Fin 2816) = j := Fin.ext (by simpa using hq)
  unfold gate
  rw [dif_pos hj]
  unfold pair
  rw [dif_neg n, dif_pos hj, e, e']

theorem gate_up (A : Fin 2816 → ℝ) (x : Fin 1024 → ℝ) (Wg Wu : Fin 1024 → Fin 2816 → ℝ) (j : Fin 2816) (q : Fin 5632)
    (hq : q.val = 2816 + j.val) : A j * pre x Wg j * Reals.sig (pre x Wg j) = gate A (pair x Wg Wu) q := by
  have hj : ¬ q.val < 2816 := by omega
  have hj' : q.val - 2816 < 2816 := by have := j.isLt; omega
  have e : (⟨q.val - 2816, hj'⟩ : Fin 2816) = j := Fin.ext (by simp [hq])
  unfold gate
  rw [dif_neg hj]
  unfold pair
  rw [dif_pos (show (⟨q.val - 2816, by omega⟩ : Fin 5632).val < 2816 from hj'), e]

theorem out_dx (h : Args x0 x1 x2 x3 x4 x6 X Wg Wu Wd G D) (i : S16384x1024.Idx) :
    val_main_v90 (F := Ideal) x0 x1 x2 x3 x4 x6 i = ((dx (drow X Wg Wu Wd G D (i 0)) (dact (drow X Wg Wu Wd G D (i 0)) Wd) (pair (X (i 0)) Wg Wu) Wg Wu (i 1) : ℝ) : EReal) := by
  simp only [val_main_v90_apply, val_main_v89_apply, val_main_v88_apply, val_main_cst_19_apply, val_main_v87_apply, val_main_v86_apply, val_main_v84_apply, grad_rows h, grad_gate h, grad_up h, h.wg, h.wu]
  pointwise
  simp only [lit_alpha, ← EReal.coe_mul, ← EReal.coe_add, ← EReal.coe_sub, ← EReal.coe_neg, coe_sum]
  refine congrArg (fun t : ℝ => (t : EReal)) ?_
  unfold dx
  have swap : ∀ a u g : ℝ, u + g + a = a + g + u := fun a u g => by ring
  refine (swap _ _ _).trans ?_
  refine congrArg₂ (· + ·) (congrArg₂ (· + ·) rfl (Finset.sum_congr rfl fun j _ => ?_)) (Finset.sum_congr rfl fun j _ => ?_)
  · exact congrArg (· * Wg (i 1) j) (gate_gate _ _ Wg Wu j _ rfl)
  · exact congrArg (· * Wu (i 1) j) (gate_up _ _ Wg Wu j _ rfl)

theorem out_dr (h : Args x0 x1 x2 x3 x4 x6 X Wg Wu Wd G D) (i : S16384x1024.Idx) :
    val_main_v98 (F := Ideal) x0 x1 x2 x3 x4 x6 i = ((drow X Wg Wu Wd G D (i 0) (i 1) : ℝ) : EReal) := by
  simp only [val_main_v98_apply, grad_rows h]
  pointwise

theorem out_dhgu (h : Args x0 x1 x2 x3 x4 x6 X Wg Wu Wd G D) (i : S16384x5632.Idx) :
    val_main_v100 (F := Ideal) x0 x1 x2 x3 x4 x6 i = ((gate (dact (drow X Wg Wu Wd G D (i 0)) Wd) (pair (X (i 0)) Wg Wu) (i 1) : ℝ) : EReal) := by
  have u : val_main_v95 (F := Ideal) x0 x1 x2 x3 x4 x6 = val_main_v82 (F := Ideal) x0 x1 x2 x3 x4 x6 := rfl
  have g : val_main_v97 (F := Ideal) x0 x1 x2 x3 x4 x6 = val_main_v85 (F := Ideal) x0 x1 x2 x3 x4 x6 := rfl
  simp only [val_main_v100_apply, val_main_v99, u, g]
  pointwise
  split
  · exact (grad_gate h _).trans (congrArg (fun t : ℝ => (t : EReal)) (gate_gate _ _ Wg Wu _ _ rfl))
  · exact (grad_up h _).trans (congrArg (fun t : ℝ => (t : EReal)) (gate_up _ _ Wg Wu _ _ (Nat.add_sub_of_le (Nat.le_of_not_lt (by assumption))).symm))

theorem idx_v45 (i : S1x1024.Idx) : idx_main_v45 i = idx_main_v33 i := by
  funext a
  have h0 : (i 0).val < 1 := (i 0).isLt
  match a with
  | ⟨0, _⟩ => exact Fin.ext (show (i 0).val * 1024 + (i 1).val = (i 1).val by omega)

theorem sum_dg (h : Args x0 x1 x2 x3 x4 x6 X Wg Wu Wd G D) (i : S1x1024.Idx) :
    val_main_v101 (F := Ideal) x0 x1 x2 x3 x6 i = ((∑ s, D s (i 1) * yhat (res (X s) Wg Wu Wd) (i 1) : ℝ) : EReal) := by
  simp only [val_main_v101_apply, val_main_v48_apply, val_main_cst_10_apply, val_main_v45_apply, val_main_v44_apply, val_main_cst_9_apply, val_main_v43_apply, val_main_v39_apply, idx_v39, idx_v45, yhat_row h, h.ct]
  pointwise
  simp only [lit_zero, coe_sum, Fin.sum_univ_one, ← EReal.coe_mul, ← EReal.coe_add, ← EReal.coe_sub, ← EReal.coe_neg, zero_add]
  exact congrArg (fun t : ℝ => (t : EReal)) (Finset.sum_congr rfl fun s _ => (mul_comm (yhat (res (X s) Wg Wu Wd) (i 1)) (D s (i 1))))

theorem sum_db (h : Args x0 x1 x2 x3 x4 x6 X Wg Wu Wd G D) (i : S1x1024.Idx) :
    val_main_v102 (F := Ideal) x6 i = ((∑ s, D s (i 1) : ℝ) : EReal) := by
  simp only [val_main_v102_apply, val_main_v42_apply, val_main_cst_8_apply, val_main_v41_apply, val_main_v40_apply, val_main_cst_7_apply, (show idx_main_v41 = idx_main_v45 from rfl), idx_v45, h.ct]
  pointwise
  simp only [lit_zero, coe_sum, Fin.sum_univ_one, ← EReal.coe_add, zero_add]
  rfl

theorem out_ln (h : Args x0 x1 x2 x3 x4 x6 X Wg Wu Wd G D) (i : S2x1024.Idx) :
    val_main_v103 (F := Ideal) x0 x1 x2 x3 x6 i = ((if (i 0).val = 0 then ∑ s, D s (i 1) * yhat (res (X s) Wg Wu Wd) (i 1) else ∑ s, D s (i 1) : ℝ) : EReal) := by
  simp only [val_main_v103]
  pointwise
  by_cases h0 : (i 0).val = 0
  · rw [dif_pos (show (i 0).val < 1 by omega), if_pos h0]; exact sum_dg h _
  · rw [dif_neg (show ¬ (i 0).val < 1 by omega), if_neg h0]; exact sum_db h _

end Cert.ReferenceIdeal.Ffn

end
-- ==== Proof.FfnFinite.lean ====
/- The precondition read: where `finite` holds, every argument element is a real. -/
module

public import proofs.«01_k».proof.Pre_finite
public import proofs.«01_k».proof.Proof.Reals
public import Idealize.ShloMosaic.Lib.ReduceAll
public import Idealize.ShloMosaic.Lib.IdealHost

@[expose] public section

noncomputable section

namespace Cert.Pre_finite.Read

open Cert.Pre_finite Idealize.ShloMosaic Cert.Reals

theorem facts : Facts where
  bcast_S_S16384x1024 := by decide
  reducesTo_S16384x1024_S_d0_1 := by decide
  h_S_ := by decide
  bcast_S_S1024x2816 := by decide
  reducesTo_S1024x2816_S_d0_1 := by decide
  bcast_S_S2816x1024 := by decide
  reducesTo_S2816x1024_S_d0_1 := by decide
  bcast_S_S1024 := by decide
  reducesTo_S1024_S_d0 := by decide

/-- An extended real whose magnitude lies below infinity is a real. -/
theorem real_of_abs_lt (a : EReal) (h : FloatOps.cmpf (F := Ideal) (φ := .f32) .olt (FloatOps.hostAbsf (F := Ideal) (φ := .f32) a) ⊤ = 1#1) :
    a = ((a.toReal : ℝ) : EReal) := by
  have k : max a (-a) < ⊤ := by
    by_contra n
    exact absurd h (by show ¬ BitVec.ofBool (decide (max a (-a) < ⊤)) = 1#1; rw [decide_eq_false n]; decide)
  refine (EReal.coe_toReal (fun e => ?_) (fun e => ?_)).symm
  · subst e; exact absurd k (by simp)
  · subst e; exact absurd k (by simp)

theorem and_left {a b : BitVec 1} (h : IntOp.andi a b = 1#1) : a = 1#1 := by
  revert h; revert a b; decide
theorem and_right {a b : BitVec 1} (h : IntOp.andi a b = 1#1) : b = 1#1 := by
  revert h; revert a b; decide

instance : Subsingleton S_.Idx := ⟨fun a b => funext fun k => k.elim0⟩

/-- One array whose magnitudes all lie below infinity holds reals. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : x i = (((x i).toReal : ℝ) : EReal) := by
  have k := Host.reduce_andi_all _ _ hr hu j e i
  refine real_of_abs_lt _ ?_
  rw [← lit_top]
  exact k

end Cert.Pre_finite.Read

end
-- ==== Proof.FfnClaim.lean ====
/- The feed-forward backward call and its reference end with equal results from finite arguments. -/
module

public import proofs.«01_k».proof.Defs
public import proofs.«01_k».proof.Proof.Gen.Kernel
public import proofs.«01_k».proof.Proof.FfnFin
public import proofs.«01_k».proof.Proof.FfnRef
public import proofs.«01_k».proof.Proof.FfnFinite

@[expose] public section

noncomputable section

namespace Cert.Proof.Ffn

open Idealize.ShloMosaic Idealize.ShloMosaic.TcCoe Idealize.SL.Sem Cert.Reals Cert.Reals.Ffn

/-- The reals that an array of rank two holds. -/
abbrev real2 {a b : ℕ} {φ : FTy} (x : FVec Ideal ⟨2, ![a, b]⟩ φ) (i : Fin a) (j : Fin b) : ℝ := (x (ValueIdx.ix2 i j) : EReal).toReal
/-- The reals that an array of rank one holds. -/
abbrev real1 {a : ℕ} {φ : FTy} (x : FVec Ideal ⟨1, ![a]⟩ φ) (i : Fin a) : ℝ := (x (ValueIdx.ix1 i) : EReal).toReal

theorem real2_at {a b : ℕ} {φ : FTy} (x : FVec Ideal ⟨2, ![a, b]⟩ φ) (i : (⟨2, ![a, b]⟩ : Shape).Idx) :
    (((x i : EReal).toReal : ℝ) : EReal) = ((real2 x (i 0) (i 1) : ℝ) : EReal) := by
  have e : ValueIdx.ix2 (i 0) (i 1) = i := by
    funext d; match d with | ⟨0, _⟩ => rfl | ⟨1, _⟩ => rfl
  exact congrArg (fun q => (((x q : EReal).toReal : ℝ) : EReal)) e.symm

theorem real1_at {a : ℕ} {φ : FTy} (x : FVec Ideal ⟨1, ![a]⟩ φ) (i : (⟨1, ![a]⟩ : Shape).Idx) :
    (((x i : EReal).toReal : ℝ) : EReal) = ((real1 x (i 0) : ℝ) : EReal) := by
  have e : ValueIdx.ix1 (i 0) = i := by
    funext d; match d with | ⟨0, _⟩ => rfl
  exact congrArg (fun q => (((x q : EReal).toReal : ℝ) : EReal)) e.symm

variable (m : (ℓ : Loc Cert.KernelIdeal.nD Cert.KernelIdeal.τ Cert.KernelIdeal.sig) → Buf (Elt Ideal) ℓ)

/-- The argument's reals on device `c`. -/
abbrev X (c : Dev Cert.KernelIdeal.nD) := real2 (a := 16384) (b := 1024) (φ := .f32) (m ((c : Thread Cert.KernelIdeal.nD Cert.KernelIdeal.τ).loc Cert.KernelIdeal.main_arg0))
abbrev Wg (c : Dev Cert.KernelIdeal.nD) := real2 (a := 1024) (b := 2816) (φ := .f32) (m ((c : Thread Cert.KernelIdeal.nD Cert.KernelIdeal.τ).loc Cert.KernelIdeal.main_arg1))
abbrev Wu (c : Dev Cert.KernelIdeal.nD) := real2 (a := 1024) (b := 2816) (φ := .f32) (m ((c : Thread Cert.KernelIdeal.nD Cert.KernelIdeal.τ).loc Cert.KernelIdeal.main_arg2))
abbrev Wd (c : Dev Cert.KernelIdeal.nD) := real2 (a := 2816) (b := 1024) (φ := .f32) (m ((c : Thread Cert.KernelIdeal.nD Cert.KernelIdeal.τ).loc Cert.KernelIdeal.main_arg3))
abbrev G (c : Dev Cert.KernelIdeal.nD) := real1 (a := 1024) (φ := .f32) (m ((c : Thread Cert.KernelIdeal.nD Cert.KernelIdeal.τ).loc Cert.KernelIdeal.main_arg4))
abbrev D (c : Dev Cert.KernelIdeal.nD) := real2 (a := 16384) (b := 1024) (φ := .f32) (m ((c : Thread Cert.KernelIdeal.nD Cert.KernelIdeal.τ).loc Cert.KernelIdeal.main_arg6))

/-- Where the precondition holds, the call's arguments are those reals. -/
theorem args (h : Cert.Pre_KernelIdeal_finite (hPre_finite := Cert.Pre_finite.Read.facts) m) (c : Dev Cert.KernelIdeal.nD) :
    Cert.KernelIdeal.Ffn.Args m c (X m c) (Wg m c) (Wu m c) (Wd m c) (G m c) (D m c) := by
  have k := congrFun (h c) (Shape.Idx.first (s := Cert.Pre_finite.S_) (by decide))
  unfold Cert.Pre_finite.fn Cert.Pre_finite.fn_part1 at k
  dsimp only at k
  have k6 := Cert.Pre_finite.Read.and_right k
  have k' := Cert.Pre_finite.Read.and_left k
  have k4 := Cert.Pre_finite.Read.and_right k'
  have k'' := Cert.Pre_finite.Read.and_left k'
  have k3 := Cert.Pre_finite.Read.and_right k''
  have k''' := Cert.Pre_finite.Read.and_left k''
  have k2 := Cert.Pre_finite.Read.and_right k'''
  have k4' := Cert.Pre_finite.Read.and_left k'''
  have k1 := Cert.Pre_finite.Read.and_right k4'
  have k0 := Cert.Pre_finite.Read.and_left k4'
  exact
    { x := fun i => (Cert.Pre_finite.Read.real_of_all _ _ _ _ _ k0 i).trans (real2_at _ i)
      wg := fun i => (Cert.Pre_finite.Read.real_of_all _ _ _ _ _ k1 i).trans (real2_at _ i)
      wu := fun i => (Cert.Pre_finite.Read.real_of_all _ _ _ _ _ k2 i).trans (real2_at _ i)
      wd := fun i => (Cert.Pre_finite.Read.real_of_all _ _ _ _ _ k3 i).trans (real2_at _ i)
      g := fun i => (Cert.Pre_finite.Read.real_of_all _ _ _ _ _ k4 i).trans (real1_at _ i)
      ct := fun i => (Cert.Pre_finite.Read.real_of_all _ _ _ _ _ k6 i).trans (real2_at _ i) }

theorem algebraic : Cert.algebraic_KernelIdeal_ReferenceIdeal_pre_finite (hKernelIdeal := Cert.KernelIdeal.Gen.facts)
    (hReferenceIdeal := Cert.ReferenceIdeal.Gen.facts) (hPre_finite := Cert.Pre_finite.Read.facts) := by
  intro m g m' g' hpre hag
  have ha := args m hpre
  have hr : ∀ c : Dev Cert.KernelIdeal.nD, Cert.ReferenceIdeal.Ffn.Args
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg6))
      (X m c) (Wg m c) (Wu m c) (Wd m c) (G m c) (D m c) := fun c =>
    { x := fun i => (congrFun (hag c).1 i).trans ((ha c).x i)
      wg := fun i => (congrFun (hag c).2.1 i).trans ((ha c).wg i)
      wu := fun i => (congrFun (hag c).2.2.1 i).trans ((ha c).wu i)
      wd := fun i => (congrFun (hag c).2.2.2.1 i).trans ((ha c).wd i)
      g := fun i => (congrFun (hag c).2.2.2.2.1 i).trans ((ha c).g i)
      ct := fun i => (congrFun (hag c).2.2.2.2.2.2 i).trans ((ha c).ct i) }
  refine ⟨fun c => (fun i => ((dx (drow (X m c) (Wg m c) (Wu m c) (Wd m c) (G m c) (D m c) (i 0)) (dact (drow (X m c) (Wg m c) (Wu m c) (Wd m c) (G m c) (D m c) (i 0)) (Wd m c)) (pair (X m c (i 0)) (Wg m c) (Wu m c)) (Wg m c) (Wu m c) (i 1) : ℝ) : EReal) : Vec Ideal Cert.KernelIdeal.S16384x1024 .f32),
    fun c => (fun i => ((drow (X m c) (Wg m c) (Wu m c) (Wd m c) (G m c) (D m c) (i 0) (i 1) : ℝ) : EReal) : Vec Ideal Cert.KernelIdeal.S16384x1024 .bf16),
    fun c => (fun i => ((gate (dact (drow (X m c) (Wg m c) (Wu m c) (Wd m c) (G m c) (D m c) (i 0)) (Wd m c)) (pair (X m c (i 0)) (Wg m c) (Wu m c)) (i 1) : ℝ) : EReal) : Vec Ideal Cert.KernelIdeal.S16384x5632 .bf16),
    fun c => (fun i => (((if (i 0).val = 0 then ∑ s, D m c s (i 1) * yhat (res (X m c s) (Wg m c) (Wu m c) (Wd m c)) (i 1) else ∑ s, D m c s (i 1)) : ℝ) : EReal) : Vec Ideal Cert.KernelIdeal.S2x1024 .f32), ?_, ?_⟩
  · refine (θ_run Cert.KernelIdeal.defs _ _).mono (fun r h c => ?_) (Cert.KernelIdeal.Value.run_blocks m g)
    obtain ⟨h7, h8, h9, h10, rest⟩ := h c
    exact ⟨h7.trans (Cert.KernelIdeal.Ffn.final7 (ha c)), h8.trans (Cert.KernelIdeal.Ffn.final8 (ha c)),
      h9.trans (Cert.KernelIdeal.Ffn.final9 (ha c)), h10.trans (Cert.KernelIdeal.Ffn.final10 (ha c)), rest⟩
  · refine (θ_run Cert.ReferenceIdeal.defs _ _).mono (fun r h c => ?_) (Cert.ReferenceIdeal.Value.run m' g')
    obtain ⟨h0, h1, h2, h3, rest⟩ := h c
    exact ⟨(h0.trans (Cert.ReferenceIdeal.Read.val_main_v90_eq _)).trans (funext fun i => Cert.ReferenceIdeal.Ffn.out_dx (hr c) i),
      (h1.trans (Cert.ReferenceIdeal.Read.val_main_v98_eq _)).trans (funext fun i => Cert.ReferenceIdeal.Ffn.out_dr (hr c) i),
      (h2.trans (Cert.ReferenceIdeal.Read.val_main_v100_eq _)).trans (funext fun i => Cert.ReferenceIdeal.Ffn.out_dhgu (hr c) i),
      (h3.trans (Cert.ReferenceIdeal.Read.val_main_v103_eq _)).trans (funext fun i => Cert.ReferenceIdeal.Ffn.out_ln (hr c) i), rest⟩

end Cert.Proof.Ffn

end
-- ==== Proof.Sums.lean ====
/- Sums over the rows of an array, taken tile by tile: a product that contracts over all 16384 rows is accumulated over
   sixteen tiles of 1024 rows each. -/
module

public import Idealize.ShloMosaic.Lib.Pipeline.Value
public import Idealize.ShloMosaic.Lib.Pipeline.ValueKit
public import Mathlib.Data.EReal.Basic

@[expose] public section

noncomputable section

namespace Cert.Sums

open Idealize.ShloMosaic

/-- A sum over all rows is the sum of the tiles' sums. -/
theorem sum_tiles {M : Type*} [AddCommMonoid M] (A n N : ℕ) (hN : N = A * n) (f : Fin N → M) (g : Fin A → Fin n → Fin N)
    (hg : ∀ t r, (g t r).val = t.val * n + r.val) : ∑ t : Fin A, ∑ r : Fin n, f (g t r) = ∑ s, f s := by
  subst hN
  rw [← Fintype.sum_prod_type' (fun (t : Fin A) (r : Fin n) => f (g t r))]
  refine Fintype.sum_equiv finProdFinEquiv _ _ fun x => congrArg f (Fin.ext ((hg _ _).trans ?_))
  show x.1.val * n + x.2.val = x.2.val + n * x.1.val
  rw [Nat.mul_comm, Nat.add_comm]

/-- Row `r` of the tile that grid point `n` reads: the tiles are swept sixteen points to a sweep. -/
def tileRow (n : ℕ) (r : Fin 1024) : Fin 16384 := ⟨n % 16 * 1024 + r.val, by omega⟩

/-- An accumulator that one sweep of sixteen tiles resets and then adds to holds the sum over all rows. -/
theorem sweep {N : ℕ} {ι : Type*} (a : (n : ℕ) → n < N → ι → EReal) (g : (n : ℕ) → n < N → (ι → EReal) → ι → EReal)
    (q : ℕ) (f : ι → Fin 16384 → EReal)
    (ha : ∀ (n : ℕ) (h : n < N) (i : ι), n / 16 = q → a n h i = ∑ r, f i (tileRow n r))
    (hg : ∀ (n : ℕ) (h : n < N) (acc : ι → EReal) (i : ι), n / 16 = q → g n h acc i = acc i + ∑ r, f i (tileRow n r))
    (h : 16 * q + 15 < N) (i : ι) : Pipeline.accAt a g (16 * q) 15 h i = ∑ s, f i s := by
  rw [Pipeline.accAt_add_apply a g 0 (fun n i => ∑ r, f i (tileRow n r)) (16 * q) 15
    (fun h i => by rw [ha _ _ _ (by omega), Pi.zero_apply, zero_add])
    (fun n h acc i h1 h2 => hg n h acc i (by omega)) 15 (le_refl 15) h i, Pi.zero_apply, zero_add, Finset.sum_range]
  refine (sum_tiles 16 1024 16384 rfl (f i) (fun t r => tileRow (16 * q + t.val) r) fun t r => ?_)
  show (16 * q + t.val) % 16 * 1024 + r.val = _
  have := t.isLt
  omega

end Cert.Sums

end
-- ==== Proof.Gated.lean ====
/- The gated network in the reals extended by the infinities: its two pre-activations, its activation, and the derivatives of
   the activation's two factors. -/
module

public import proofs.«01_k».proof.Defs
public import Idealize.ShloMosaic.Lib.Claim
public import Idealize.ShloMosaic.Lib.IdealHost
public import Idealize.ShloMosaic.Lib.Pointwise.Index

@[expose] public section

noncomputable section

namespace Cert.Gated

open Idealize.ShloMosaic Cert.Kernel3Ideal

/-- Rows of activations, a weight into the hidden width, and a weight out of it. -/
abbrev Rows := Vec Ideal S16384x1024 .f32
abbrev Up := Vec Ideal S1024x2816 .f32
abbrev Down := Vec Ideal S2816x1024 .f32

/-- The logistic function. -/
def logi (h : EReal) : EReal := Ideal.div 1 (1 + Ideal.exp (-h))

/-- A pre-activation: row `s` of `x @ w` at hidden unit `k`. -/
def pre (x : Rows) (w : Up) (s : Fin 16384) (k : Fin 2816) : EReal := ∑ j : Fin 1024, x (ix2 s j) * w (ix2 j k)

/-- The activation `silu(x @ wg) * (x @ wu)`. -/
def act (x : Rows) (wg wu : Up) (s : Fin 16384) (k : Fin 2816) : EReal :=
  pre x wg s k * logi (pre x wg s k) * pre x wu s k

/-- The cotangent of the activation: row `s` of `d @ wdᵀ`. -/
def dact (wd : Down) (d : Rows) (s : Fin 16384) (k : Fin 2816) : EReal := ∑ j : Fin 1024, d (ix2 s j) * wd (ix2 k j)

/-- The cotangent of the second pre-activation. -/
def dup (x : Rows) (wg : Up) (wd : Down) (d : Rows) (s : Fin 16384) (k : Fin 2816) : EReal :=
  pre x wg s k * logi (pre x wg s k) * dact wd d s k

/-- The cotangent of the gated pre-activation. -/
def dgate (x : Rows) (wg wu : Up) (wd : Down) (d : Rows) (s : Fin 16384) (k : Fin 2816) : EReal :=
  dact wd d s k * pre x wu s k * logi (pre x wg s k)
    + pre x wg s k * (dact wd d s k * pre x wu s k) * (logi (pre x wg s k) * (1 - logi (pre x wg s k)))

/-- The two cotangents side by side. -/
def dhid (x : Rows) (wg wu : Up) (wd : Down) (d : Rows) (s : Fin 16384) (k : Fin 5632) : EReal :=
  if h : k.val < 2816 then dgate x wg wu wd d s ⟨k.val, h⟩ else dup x wg wd d s ⟨k.val - 2816, by omega⟩

theorem dhid_lo (x : Rows) (wg wu : Up) (wd : Down) (d : Rows) (s : Fin 16384) (k : Fin 5632) (h : k.val < 2816) :
    dgate x wg wu wd d s ⟨k.val, h⟩ = dhid x wg wu wd d s k := by
  unfold dhid
  rw [dif_pos h]

theorem dhid_hi (x : Rows) (wg wu : Up) (wd : Down) (d : Rows) (s : Fin 16384) (k : Fin 5632) (h : ¬ k.val < 2816) :
    dup x wg wd d s ⟨k.val - 2816, by omega⟩ = dhid x wg wu wd d s k := by
  unfold dhid
  rw [dif_neg h]

end Cert.Gated

end
-- ==== Proof.GradDown.lean ====
/- The gradient of the gated network's last weight: the transposed activation times the cotangent, accumulated tile by tile
   over the rows. -/
module

public import proofs.«01_k».proof.Proof.Sums
public import proofs.«01_k».proof.Proof.Gated
public import proofs.«01_k».proof.Proof.Gen.Kernel2Ideal.Value
public import proofs.«01_k».proof.Proof.Gen.Reference2Ideal.Run
public import proofs.«01_k».proof.Proof.Gen.Reference2Ideal.Read
public import Idealize.ShloMosaic.Lib.Quiescent

@[expose] public section

set_option maxRecDepth 16384

noncomputable section

namespace Cert.Kernel2Ideal.Grad

open Cert.Kernel2Ideal Cert.Kernel2Ideal.Gen Cert.Kernel2Ideal.Value Idealize.ShloMosaic Idealize.ShloMosaic.TcCoe Cert.Sums

theorem pay2_apply (acc : Vec Ideal S1x2816x1024 .f32) (x0 : Vec Ideal S1024x2816 .bf16) (x1 : Vec Ideal S1024x1024 .bf16)
    (y : S1x2816x1024.Idx) :
    k0_pay2 (F := Ideal) acc x0 x1 y = acc y + ∑ r : Fin 1024, x0 (ix2 r (y 1)) * x1 (ix2 r (y 2)) := by
  pointwise [k0_pay2]

theorem pay1_apply (y : S1x2816x1024.Idx) : k0_pay1 (F := Ideal) y = 0 := by
  pointwise [k0_pay1]

variable (m : (ℓ : Loc nD τ sig) → Buf (Elt Ideal) ℓ)

/-- The network's input, its three weights' first two, and the cotangent. -/
abbrev inp (c : Dev nD) : Gated.Rows := m ((c : Thread nD τ).loc main_arg0)
abbrev wg (c : Dev nD) : Gated.Up := m ((c : Thread nD τ).loc main_arg1)
abbrev wu (c : Dev nD) : Gated.Up := m ((c : Thread nD τ).loc main_arg2)
abbrev cot (c : Dev nD) : Gated.Rows := m ((c : Thread nD τ).loc main_arg4)

theorem entry_act (c : Dev nD) (i : S16384x2816.Idx) :
    (V m c main_v4 : Vec Ideal S16384x2816 .bf16) i = Gated.act (inp m c) (wg m c) (wu m c) (i 0) (i 1) := by
  simp only [V, hostOps0, hostOps0_1, hostOps0_2, List.flatten_cons, List.flatten_nil, List.cons_append, List.nil_append,
    List.append_nil]
  entry_read
  simp only [StableHlo.TRef.ofBuf_toBuf]
  simp -implicitDefEqProofs only [StableHlo.TRef.toBuf, StableHlo.TRef.ofBuf, cast_eq]
  pointwise
  rfl

theorem entry_cot (c : Dev nD) (i : S16384x1024.Idx) : (V m c main_v5 : Vec Ideal S16384x1024 .bf16) i = cot m c i := by
  simp only [V, hostOps0, hostOps0_1, hostOps0_2, List.flatten_cons, List.flatten_nil, List.cons_append, List.nil_append,
    List.append_nil]
  entry_read
  pointwise

theorem idx0 : ∀ t : Fin cfg0.N, win0_0.index t = ![t.val % 16, 0] := by decide +kernel
theorem idx1 : ∀ t : Fin cfg0.N, win0_1.index t = ![t.val % 16, 0] := by decide +kernel

theorem blk0 (c : Dev nD) (t : Fin cfg0.N) (i : S1024x2816.Idx) :
    (iblk m c 0 t : Vec Ideal S1024x2816 .bf16) i = Gated.act (inp m c) (wg m c) (wu m c) (tileRow t.val (i 0)) (i 1) := by
  have e : (iblk m c 0 t : Vec Ideal S1024x2816 .bf16) i
      = (V m c main_v4 : Vec Ideal S16384x2816 .bf16) (ix2 (tileRow t.val (i 0)) (i 1)) := by
    blk_ext [iblk, idx0 t, tileRow]
  rw [e]
  exact entry_act m c _

theorem blk1 (c : Dev nD) (t : Fin cfg0.N) (i : S1024x1024.Idx) :
    (iblk m c 1 t : Vec Ideal S1024x1024 .bf16) i = cot m c (ix2 (tileRow t.val (i 0)) (i 1)) := by
  have e : (iblk m c 1 t : Vec Ideal S1024x1024 .bf16) i
      = (V m c main_v5 : Vec Ideal S16384x1024 .bf16) (ix2 (tileRow t.val (i 0)) (i 1)) := by
    blk_ext [iblk, idx1 t, tileRow]
  rw [e]
  exact entry_cot m c _

/-- The gradient: the sum over the rows of the activation times the cotangent. -/
def grad (x : Gated.Rows) (wg wu : Gated.Up) (d : Gated.Rows) : Vec Ideal S1x2816x1024 .f32 :=
  fun i => ∑ s : Fin 16384, Gated.act x wg wu s (i 1) * d (ix2 s (i 2))

theorem final (c : Dev nD) : G2 m c = grad (inp m c) (wg m c) (wu m c) (cot m c) := by
  funext i
  unfold G2
  have h0 : (i 0).val < 1 := (i 0).isLt
  have h1 : (i 1).val < 2816 := (i 1).isLt
  have h2 : (i 2).val < 1024 := (i 2).isLt
  have hq : run2Of i = 0 := by unfold run2Of; omega
  rw [dif_pos (by rw [hq]; decide)]
  refine (sweep (reset2 m c) (step2 m c) (run2Of i)
    (fun y s => Gated.act (inp m c) (wg m c) (wu m c) s (y 1) * cot m c (ix2 s (y 2)))
    (fun n h y _ => ?_) (fun n h acc y _ => ?_) _ (loc2Of i)).trans ?_
  · unfold reset2
    rw [pay2_apply, pay1_apply, zero_add]
    exact Finset.sum_congr rfl fun r _ => congrArg₂ (· * ·) (blk0 m c ⟨n, h⟩ _) (blk1 m c ⟨n, h⟩ _)
  · unfold step2
    rw [pay2_apply]
    exact congrArg (acc y + ·) (Finset.sum_congr rfl fun r _ => congrArg₂ (· * ·) (blk0 m c ⟨n, h⟩ _) (blk1 m c ⟨n, h⟩ _))
  · have e1 : loc2Of i 1 = i 1 := Fin.ext (Nat.mod_eq_of_lt h1)
    have e2 : loc2Of i 2 = i 2 := Fin.ext (Nat.mod_eq_of_lt h2)
    rw [e1, e2]
    rfl

end Cert.Kernel2Ideal.Grad

namespace Cert.Proof.GradDown

open Idealize.ShloMosaic Idealize.ShloMosaic.TcCoe Idealize.SL.Sem Cert.Reference2Ideal Cert.Reference2Ideal.Gen
  Cert.Reference2Ideal.Read

theorem pre_gate (x : Gated.Rows) (w : Gated.Up) (i : S16384x2816.Idx) :
    val_main_v0 (F := Ideal) x w i = Gated.pre x w (i 0) (i 1) := by
  rw [val_main_v0_apply]
  refine Finset.sum_congr rfl fun s _ => congrArg₂ (· * ·) (congrArg x ?_) (congrArg w ?_) <;>
  · funext k
    match k with
    | ⟨0, _⟩ => rfl
    | ⟨1, _⟩ => rfl

theorem pre_up (x : Gated.Rows) (w : Gated.Up) (i : S16384x2816.Idx) :
    val_main_v2 (F := Ideal) x w i = Gated.pre x w (i 0) (i 1) := by
  rw [val_main_v2_apply]
  refine Finset.sum_congr rfl fun s _ => congrArg₂ (· * ·) (congrArg x ?_) (congrArg w ?_) <;>
  · funext k
    match k with
    | ⟨0, _⟩ => rfl
    | ⟨1, _⟩ => rfl

theorem act_eq (x : Gated.Rows) (wg wu : Gated.Up) (i : S16384x2816.Idx) :
    val_main_v3 (F := Ideal) x wg wu i = Gated.act x wg wu (i 0) (i 1) := by
  simp only [val_main_v3_apply, val_main_v1_apply, pre_gate, pre_up, val_main_call0_v5_apply, val_main_call0_v4_apply,
    val_main_call0_v3_apply, val_main_call0_v2_apply, val_main_call0_v1_apply, val_main_call0_v0_apply]
  pointwise [val_main_call0_cst, val_main_call0_cst_0]
  rfl

theorem reference (x : Gated.Rows) (wg wu : Gated.Up) (d : Gated.Rows) :
    val_main_v7 (F := Ideal) x wg wu d = Cert.Kernel2Ideal.Grad.grad x wg wu d := by
  funext i
  simp only [val_main_v7_apply, val_main_v6_apply, val_main_v5_apply, act_eq]
  refine Finset.sum_congr rfl fun s _ => ?_
  rw [mul_comm]
  refine congrArg₂ (· * ·) rfl (congrArg d ?_)
  funext k
  match k with
  | ⟨0, _⟩ => rfl
  | ⟨1, _⟩ => rfl

theorem algebraic : Cert.algebraic_Kernel2Ideal_Reference2Ideal (hKernel2Ideal := Cert.Kernel2Ideal.Gen.facts)
    (hReference2Ideal := Cert.Reference2Ideal.Gen.facts) := by
  intro m g m' g' _ hag
  refine ⟨fun c => Cert.Kernel2Ideal.Grad.grad (Cert.Kernel2Ideal.Grad.inp m c) (Cert.Kernel2Ideal.Grad.wg m c)
    (Cert.Kernel2Ideal.Grad.wu m c) (Cert.Kernel2Ideal.Grad.cot m c), ?_, ?_⟩
  · refine (θ_run Cert.Kernel2Ideal.defs _ _).mono (fun r h c => ?_) (Cert.Kernel2Ideal.Value.run m g)
    exact ⟨(h c).1.trans (Cert.Kernel2Ideal.Grad.final m c), (h c).2⟩
  · refine (θ_run Cert.Reference2Ideal.defs _ _).mono (fun r h c => ?_) (Cert.Reference2Ideal.Value.run m' g')
    refine ⟨((h c).1.trans (val_main_v7_eq _ _ _ _)).trans ((reference _ _ _ _).trans ?_), (h c).2⟩
    obtain ⟨e0, e1, e2, _, e4⟩ := hag c
    rw [e0, e1, e2, e4]

theorem reference_frame : Cert.quiescent_Reference2Ideal (hReference2Ideal := Cert.Reference2Ideal.Gen.facts) :=
  fun m g _ => (θ_run _ _ _).mono (fun r h => ⟨fun c => (h c).2, sem_eq_zero_of_no_sems (by decide) r.2⟩)
    (Cert.Reference2Ideal.Value.run m g)

end Cert.Proof.GradDown

end
-- ==== Proof.GradGateUp.lean ====
/- The gradient of the gated network's first two weights, side by side: the transposed cotangents of the two pre-activations
   times the input, accumulated tile by tile over the rows, one half of the columns after the other. -/
module

public import proofs.«01_k».proof.Proof.Sums
public import proofs.«01_k».proof.Proof.Gated
public import proofs.«01_k».proof.Proof.Gen.Kernel3Ideal.Value
public import proofs.«01_k».proof.Proof.Gen.Reference3Ideal.Run
public import proofs.«01_k».proof.Proof.Gen.Reference3Ideal.Read
public import Idealize.ShloMosaic.Lib.Quiescent

@[expose] public section

set_option maxRecDepth 16384

noncomputable section

namespace Cert.Kernel3Ideal.Grad

open Cert.Kernel3Ideal Cert.Kernel3Ideal.Gen Cert.Kernel3Ideal.Value Idealize.ShloMosaic Idealize.ShloMosaic.TcCoe Cert.Sums

theorem pay2_apply (acc : Vec Ideal S1x2816x1024 .f32) (x0 : Vec Ideal S1024x2816 .bf16) (x1 : Vec Ideal S1024x1024 .f32)
    (y : S1x2816x1024.Idx) :
    k0_pay2 (F := Ideal) acc x0 x1 y = acc y + ∑ r : Fin 1024, x0 (ix2 r (y 1)) * x1 (ix2 r (y 2)) := by
  pointwise [k0_pay2]

theorem pay1_apply (y : S1x2816x1024.Idx) : k0_pay1 (F := Ideal) y = 0 := by
  pointwise [k0_pay1]

variable (m : (ℓ : Loc nD τ sig) → Buf (Elt Ideal) ℓ)

/-- The network's input, its three weights, and the cotangent. -/
abbrev inp (c : Dev nD) : Gated.Rows := m ((c : Thread nD τ).loc main_arg0)
abbrev wg (c : Dev nD) : Gated.Up := m ((c : Thread nD τ).loc main_arg1)
abbrev wu (c : Dev nD) : Gated.Up := m ((c : Thread nD τ).loc main_arg2)
abbrev wd (c : Dev nD) : Gated.Down := m ((c : Thread nD τ).loc main_arg3)
abbrev cot (c : Dev nD) : Gated.Rows := m ((c : Thread nD τ).loc main_arg4)

/-- The cotangents of the pre-activations, side by side. -/
abbrev hid (c : Dev nD) : Fin 16384 → Fin 5632 → EReal := Gated.dhid (inp m c) (wg m c) (wu m c) (wd m c) (cot m c)

theorem entry_hid (c : Dev nD) (i : S16384x5632.Idx) : (V m c main_v10 : Vec Ideal S16384x5632 .bf16) i = hid m c (i 0) (i 1) := by
  simp only [V, hostOps0, hostOps0_1, hostOps0_2, hostOps0_3, hostOps0_4, List.flatten_cons, List.flatten_nil, List.cons_append,
    List.nil_append, List.append_nil]
  entry_read
  pointwise
  split <;> rename_i hi
  · simp only [StableHlo.TRef.ofBuf_toBuf]
    simp -implicitDefEqProofs only [StableHlo.TRef.toBuf, StableHlo.TRef.ofBuf, cast_eq]
    pointwise
    exact Gated.dhid_lo (inp m c) (wg m c) (wu m c) (wd m c) (cot m c) (i 0) (i 1) hi
  · simp only [StableHlo.TRef.ofBuf_toBuf]
    simp -implicitDefEqProofs only [StableHlo.TRef.toBuf, StableHlo.TRef.ofBuf, cast_eq]
    pointwise
    exact Gated.dhid_hi (inp m c) (wg m c) (wu m c) (wd m c) (cot m c) (i 0) (i 1) hi

theorem entry_inp (c : Dev nD) (i : S16384x1024.Idx) : (V m c main_arg0 : Vec Ideal S16384x1024 .f32) i = inp m c i := by
  simp only [V, hostOps0, hostOps0_1, hostOps0_2, hostOps0_3, hostOps0_4, List.flatten_cons, List.flatten_nil, List.cons_append,
    List.nil_append, List.append_nil]
  entry_read
  pointwise

/-- Column `y` of half `q`. -/
def col (q : ℕ) (y : Fin 2816) : Fin 5632 := ⟨q % 2 * 2816 + y.val, by omega⟩

theorem idx0 : ∀ t : Fin cfg0.N, win0_0.index t = ![t.val % 16, t.val / 16 % 2] := by decide +kernel
theorem idx1 : ∀ t : Fin cfg0.N, win0_1.index t = ![t.val % 16, 0] := by decide +kernel

theorem blk0 (c : Dev nD) (t : Fin cfg0.N) (i : S1024x2816.Idx) :
    (iblk m c 0 t : Vec Ideal S1024x2816 .bf16) i = hid m c (tileRow t.val (i 0)) (col (t.val / 16) (i 1)) := by
  have e : (iblk m c 0 t : Vec Ideal S1024x2816 .bf16) i
      = (V m c main_v10 : Vec Ideal S16384x5632 .bf16) (ix2 (tileRow t.val (i 0)) (col (t.val / 16) (i 1))) := by
    blk_ext [iblk, idx0 t, tileRow, col]
  rw [e]
  exact entry_hid m c _

theorem blk1 (c : Dev nD) (t : Fin cfg0.N) (i : S1024x1024.Idx) :
    (iblk m c 1 t : Vec Ideal S1024x1024 .f32) i = inp m c (ix2 (tileRow t.val (i 0)) (i 1)) := by
  have e : (iblk m c 1 t : Vec Ideal S1024x1024 .f32) i
      = (V m c main_arg0 : Vec Ideal S16384x1024 .f32) (ix2 (tileRow t.val (i 0)) (i 1)) := by
    blk_ext [iblk, idx1 t, tileRow]
  rw [e]
  exact entry_inp m c _

/-- The gradient: the sum over the rows of the cotangents times the input. -/
def grad (x : Gated.Rows) (wg wu : Gated.Up) (wd : Gated.Down) (d : Gated.Rows) : Vec Ideal S1x5632x1024 .f32 :=
  fun i => ∑ s : Fin 16384, Gated.dhid x wg wu wd d s (i 1) * x (ix2 s (i 2))

theorem final (c : Dev nD) : G2 m c = grad (inp m c) (wg m c) (wu m c) (wd m c) (cot m c) := by
  funext i
  unfold G2
  have h0 : (i 0).val < 1 := (i 0).isLt
  have h1 : (i 1).val < 5632 := (i 1).isLt
  have h2 : (i 2).val < 1024 := (i 2).isLt
  have hq : run2Of i = (i 1).val / 2816 := by unfold run2Of; omega
  have hq2 : (i 1).val / 2816 < 2 := by omega
  rw [dif_pos (by rw [hq]; exact (by omega : 16 * ((i 1).val / 2816) + 15 < 32))]
  refine (sweep (reset2 m c) (step2 m c) (run2Of i)
    (fun y s => hid m c s (col (run2Of i) (y 1)) * inp m c (ix2 s (y 2)))
    (fun n h y hn => ?_) (fun n h acc y hn => ?_) _ (loc2Of i)).trans ?_
  · unfold reset2
    rw [pay2_apply, pay1_apply, zero_add, ← hn]
    exact Finset.sum_congr rfl fun r _ => congrArg₂ (· * ·) (blk0 m c ⟨n, h⟩ _) (blk1 m c ⟨n, h⟩ _)
  · unfold step2
    rw [pay2_apply, ← hn]
    exact congrArg (acc y + ·) (Finset.sum_congr rfl fun r _ => congrArg₂ (· * ·) (blk0 m c ⟨n, h⟩ _) (blk1 m c ⟨n, h⟩ _))
  · have e1 : col (run2Of i) (loc2Of i 1) = i 1 := Fin.ext (by
      show run2Of i % 2 * 2816 + (i 1).val % 2816 = (i 1).val
      rw [hq]; omega)
    have e2 : loc2Of i 2 = i 2 := Fin.ext (Nat.mod_eq_of_lt h2)
    rw [e1, e2]
    rfl

end Cert.Kernel3Ideal.Grad

namespace Cert.Proof.GradGateUp

open Idealize.ShloMosaic Idealize.ShloMosaic.TcCoe Idealize.SL.Sem Cert.Reference3Ideal Cert.Reference3Ideal.Gen
  Cert.Reference3Ideal.Read

variable (x : Gated.Rows) (wg wu : Gated.Up) (wd : Gated.Down) (d : Gated.Rows)

theorem pre_gate (w : Gated.Up) (i : S16384x2816.Idx) : val_main_v0 (F := Ideal) x w i = Gated.pre x w (i 0) (i 1) := by
  rw [val_main_v0_apply]
  refine Finset.sum_congr rfl fun s _ => congrArg₂ (· * ·) (congrArg x ?_) (congrArg w ?_) <;>
  · funext k
    match k with
    | ⟨0, _⟩ => rfl
    | ⟨1, _⟩ => rfl

theorem pre_up (w : Gated.Up) (i : S16384x2816.Idx) : val_main_v2 (F := Ideal) x w i = Gated.pre x w (i 0) (i 1) := by
  rw [val_main_v2_apply]
  refine Finset.sum_congr rfl fun s _ => congrArg₂ (· * ·) (congrArg x ?_) (congrArg w ?_) <;>
  · funext k
    match k with
    | ⟨0, _⟩ => rfl
    | ⟨1, _⟩ => rfl

theorem dact_eq (i : S16384x2816.Idx) : val_main_v5 (F := Ideal) wd d i = Gated.dact wd d (i 0) (i 1) := by
  rw [val_main_v5_apply]
  refine Finset.sum_congr rfl fun s _ => congrArg₂ (· * ·) (congrArg d ?_) (congrArg wd ?_) <;>
  · funext k
    match k with
    | ⟨0, _⟩ => rfl
    | ⟨1, _⟩ => rfl

theorem logi_eq (i : S16384x2816.Idx) : val_main_v1_2 (F := Ideal) x wg i = Gated.logi (Gated.pre x wg (i 0) (i 1)) := by
  simp only [val_main_v1_2_apply, pre_gate, val_main_call0_v4_apply, val_main_call0_v3_apply, val_main_call0_v2_apply,
    val_main_call0_v1_apply, val_main_call0_v0_apply]
  pointwise [val_main_call0_cst, val_main_call0_cst_0]
  rfl

theorem dup_eq (i : S16384x2816.Idx) : val_main_v6 (F := Ideal) x wg wd d i = Gated.dup x wg wd d (i 0) (i 1) := by
  simp only [val_main_v6_apply, val_main_v1_0_apply, pre_gate, logi_eq, dact_eq]
  rfl

theorem dgate_eq (i : S16384x2816.Idx) : val_main_v10 (F := Ideal) x wg wu wd d i = Gated.dgate x wg wu wd d (i 0) (i 1) := by
  simp only [val_main_v10_apply, val_main_call1_v0_apply, val_main_call1_v1_apply, val_main_call1_v2_apply,
    val_main_v1_1_apply, val_main_call0_v7_apply, val_main_call0_v6_apply,
    val_main_v7_apply, pre_gate, pre_up, logi_eq, dact_eq]
  pointwise [val_main_call0_cst_1]
  rfl

theorem reference : val_main_v16 (F := Ideal) x wg wu wd d = Cert.Kernel3Ideal.Grad.grad x wg wu wd d := by
  funext i
  rw [val_main_v16_apply]
  simp only [val_main_v15]
  pointwise
  split <;> rename_i hi
  · simp only [val_main_v13_apply, val_main_v12_apply, val_main_v11_apply, dgate_eq]
    refine Finset.sum_congr rfl fun s _ => congrArg₂ (· * ·) (Gated.dhid_lo x wg wu wd d s (i 1) hi) (congrArg x ?_)
    funext k
    match k with
    | ⟨0, _⟩ => rfl
    | ⟨1, _⟩ => rfl
  · simp only [val_main_v14_apply, val_main_v9_apply, val_main_v8_apply, dup_eq]
    refine Finset.sum_congr rfl fun s _ => congrArg₂ (· * ·) (Gated.dhid_hi x wg wu wd d s (i 1) hi) (congrArg x ?_)
    funext k
    match k with
    | ⟨0, _⟩ => rfl
    | ⟨1, _⟩ => rfl

theorem algebraic : Cert.algebraic_Kernel3Ideal_Reference3Ideal (hKernel3Ideal := Cert.Kernel3Ideal.Gen.facts)
    (hReference3Ideal := Cert.Reference3Ideal.Gen.facts) := by
  intro m g m' g' _ hag
  refine ⟨fun c => Cert.Kernel3Ideal.Grad.grad (Cert.Kernel3Ideal.Grad.inp m c) (Cert.Kernel3Ideal.Grad.wg m c)
    (Cert.Kernel3Ideal.Grad.wu m c) (Cert.Kernel3Ideal.Grad.wd m c) (Cert.Kernel3Ideal.Grad.cot m c), ?_, ?_⟩
  · refine (θ_run Cert.Kernel3Ideal.defs _ _).mono (fun r h c => ?_) (Cert.Kernel3Ideal.Value.run m g)
    exact ⟨(h c).1.trans (Cert.Kernel3Ideal.Grad.final m c), (h c).2⟩
  · refine (θ_run Cert.Reference3Ideal.defs _ _).mono (fun r h c => ?_) (Cert.Reference3Ideal.Value.run m' g')
    refine ⟨((h c).1.trans (val_main_v16_eq _ _ _ _ _)).trans ((reference _ _ _ _ _).trans ?_), (h c).2⟩
    obtain ⟨e0, e1, e2, e3, e4⟩ := hag c
    rw [e0, e1, e2, e3, e4]

theorem reference_frame : Cert.quiescent_Reference3Ideal (hReference3Ideal := Cert.Reference3Ideal.Gen.facts) :=
  fun m g _ => (θ_run _ _ _).mono (fun r h => ⟨fun c => (h c).2, sem_eq_zero_of_no_sems (by decide) r.2⟩)
    (Cert.Reference3Ideal.Value.run m g)

end Cert.Proof.GradGateUp

end
-- ==== Proof.GradSquare.lean ====
/- The gradient of a square weight: the product of the transposed input with the cotangent, accumulated tile by tile over the
   rows, is the gradient of `a @ w`. -/
module

public import proofs.«01_k».proof.Defs
public import proofs.«01_k».proof.Proof.Sums
public import proofs.«01_k».proof.Proof.Gen.Kernel4Ideal.Value
public import proofs.«01_k».proof.Proof.Gen.Reference4Ideal.Run
public import proofs.«01_k».proof.Proof.Gen.Reference4Ideal.Read
public import Idealize.ShloMosaic.Lib.Claim
public import Idealize.ShloMosaic.Lib.IdealHost
public import Idealize.ShloMosaic.Lib.Quiescent

@[expose] public section

set_option maxRecDepth 16384

noncomputable section

namespace Cert.Kernel4Ideal.Grad

open Cert.Kernel4Ideal Cert.Kernel4Ideal.Gen Cert.Kernel4Ideal.Value Idealize.ShloMosaic Idealize.ShloMosaic.TcCoe Cert.Sums

theorem pay2_apply (acc : Vec Ideal S1x1024x1024 .f32) (x0 x1 : Vec Ideal S1024x1024 .bf16) (y : S1x1024x1024.Idx) :
    k0_pay2 (F := Ideal) acc x0 x1 y = acc y + ∑ r : Fin 1024, x0 (ix2 r (y 1)) * x1 (ix2 r (y 2)) := by
  pointwise [k0_pay2]

theorem pay1_apply (y : S1x1024x1024.Idx) : k0_pay1 (F := Ideal) y = 0 := by
  pointwise [k0_pay1]

variable (m : (ℓ : Loc nD τ sig) → Buf (Elt Ideal) ℓ)

/-- The input of the product. -/
abbrev inp (c : Dev nD) : Vec Ideal S16384x1024 .f32 := m ((c : Thread nD τ).loc main_arg0)
/-- The cotangent. -/
abbrev cot (c : Dev nD) : Vec Ideal S16384x1024 .f32 := m ((c : Thread nD τ).loc main_arg2)

theorem entry_inp (c : Dev nD) (i : S16384x1024.Idx) : (V m c main_v0 : Vec Ideal S16384x1024 .bf16) i = inp m c i := by
  simp only [V, hostOps0, List.flatten_cons, List.flatten_nil, List.cons_append, List.nil_append, List.append_nil]
  entry_read
  pointwise

theorem entry_cot (c : Dev nD) (i : S16384x1024.Idx) : (V m c main_v1 : Vec Ideal S16384x1024 .bf16) i = cot m c i := by
  simp only [V, hostOps0, List.flatten_cons, List.flatten_nil, List.cons_append, List.nil_append, List.append_nil]
  entry_read
  pointwise

theorem idx0 : ∀ t : Fin cfg0.N, win0_0.index t = ![t.val % 16, 0] := by decide +kernel
theorem idx1 : ∀ t : Fin cfg0.N, win0_1.index t = ![t.val % 16, 0] := by decide +kernel

theorem blk0 (c : Dev nD) (t : Fin cfg0.N) (i : S1024x1024.Idx) :
    (iblk m c 0 t : Vec Ideal S1024x1024 .bf16) i = inp m c (ix2 (tileRow t.val (i 0)) (i 1)) := by
  have e : (iblk m c 0 t : Vec Ideal S1024x1024 .bf16) i = (V m c main_v0 : Vec Ideal S16384x1024 .bf16) (ix2 (tileRow t.val (i 0)) (i 1)) := by
    blk_ext [iblk, idx0 t, tileRow]
  rw [e]
  exact entry_inp m c _

theorem blk1 (c : Dev nD) (t : Fin cfg0.N) (i : S1024x1024.Idx) :
    (iblk m c 1 t : Vec Ideal S1024x1024 .bf16) i = cot m c (ix2 (tileRow t.val (i 0)) (i 1)) := by
  have e : (iblk m c 1 t : Vec Ideal S1024x1024 .bf16) i = (V m c main_v1 : Vec Ideal S16384x1024 .bf16) (ix2 (tileRow t.val (i 0)) (i 1)) := by
    blk_ext [iblk, idx1 t, tileRow]
  rw [e]
  exact entry_cot m c _

/-- The gradient: the sum over the rows of the input times the cotangent. -/
def grad (a d : Vec Ideal S16384x1024 .f32) : Vec Ideal S1x1024x1024 .f32 :=
  fun i => ∑ s : Fin 16384, a (ix2 s (i 1)) * d (ix2 s (i 2))

theorem final (c : Dev nD) : G2 m c = grad (inp m c) (cot m c) := by
  funext i
  unfold G2
  have h0 : (i 0).val < 1 := (i 0).isLt
  have h1 : (i 1).val < 1024 := (i 1).isLt
  have h2 : (i 2).val < 1024 := (i 2).isLt
  have hq : run2Of i = 0 := by unfold run2Of; omega
  rw [dif_pos (by rw [hq]; decide)]
  refine (sweep (reset2 m c) (step2 m c) (run2Of i) (fun y s => inp m c (ix2 s (y 1)) * cot m c (ix2 s (y 2)))
    (fun n h y _ => ?_) (fun n h acc y _ => ?_) _ (loc2Of i)).trans ?_
  · unfold reset2
    rw [pay2_apply, pay1_apply, zero_add]
    exact Finset.sum_congr rfl fun r _ => congrArg₂ (· * ·) (blk0 m c ⟨n, h⟩ _) (blk1 m c ⟨n, h⟩ _)
  · unfold step2
    rw [pay2_apply]
    exact congrArg (acc y + ·) (Finset.sum_congr rfl fun r _ => congrArg₂ (· * ·) (blk0 m c ⟨n, h⟩ _) (blk1 m c ⟨n, h⟩ _))
  · have e1 : loc2Of i 1 = i 1 := Fin.ext (Nat.mod_eq_of_lt h1)
    have e2 : loc2Of i 2 = i 2 := Fin.ext (Nat.mod_eq_of_lt h2)
    rw [e1, e2]
    rfl

end Cert.Kernel4Ideal.Grad

namespace Cert.Proof.GradSquare

open Idealize.ShloMosaic Idealize.ShloMosaic.TcCoe Idealize.SL.Sem Cert.Reference4Ideal Cert.Reference4Ideal.Gen Cert.Reference4Ideal.Read

theorem reference (a d : Vec Ideal S16384x1024 .f32) : val_main_v3 (F := Ideal) a d = Cert.Kernel4Ideal.Grad.grad a d := by
  funext i
  simp only [val_main_v3_apply, val_main_v2_apply, val_main_v1_apply]
  refine Finset.sum_congr rfl fun s _ => ?_
  rw [mul_comm]
  refine congrArg₂ (· * ·) (congrArg a ?_) (congrArg d ?_) <;>
  · funext k
    match k with
    | ⟨0, _⟩ => rfl
    | ⟨1, _⟩ => rfl

theorem algebraic : Cert.algebraic_Kernel4Ideal_Reference4Ideal (hKernel4Ideal := Cert.Kernel4Ideal.Gen.facts)
    (hReference4Ideal := Cert.Reference4Ideal.Gen.facts) := by
  intro m g m' g' _ hag
  refine ⟨fun c => Cert.Kernel4Ideal.Grad.grad (Cert.Kernel4Ideal.Grad.inp m c) (Cert.Kernel4Ideal.Grad.cot m c), ?_, ?_⟩
  · refine (θ_run Cert.Kernel4Ideal.defs _ _).mono (fun r h c => ?_) (Cert.Kernel4Ideal.Value.run m g)
    exact ⟨(h c).1.trans (Cert.Kernel4Ideal.Grad.final m c), (h c).2⟩
  · refine (θ_run Cert.Reference4Ideal.defs _ _).mono (fun r h c => ?_) (Cert.Reference4Ideal.Value.run m' g')
    refine ⟨((h c).1.trans (val_main_v3_eq _ _)).trans ((reference _ _).trans ?_), (h c).2⟩
    exact congrArg₂ Cert.Kernel4Ideal.Grad.grad (hag c).1 (hag c).2.2

theorem reference_frame : Cert.quiescent_Reference4Ideal (hReference4Ideal := Cert.Reference4Ideal.Gen.facts) :=
  fun m g _ => (θ_run _ _ _).mono (fun r h => ⟨fun c => (h c).2, sem_eq_zero_of_no_sems (by decide) r.2⟩)
    (Cert.Reference4Ideal.Value.run m g)

end Cert.Proof.GradSquare

end
-- ==== Proof.GradIn.lean ====
/- The gradient of the mixer's input projection, one square block for each eighth of its columns: the transposed input times
   the cotangent, accumulated tile by tile over the rows. -/
module

public import proofs.«01_k».proof.Defs
public import proofs.«01_k».proof.Proof.Sums
public import proofs.«01_k».proof.Proof.Gen.Kernel5Ideal.Value
public import proofs.«01_k».proof.Proof.Gen.Reference5Ideal.Run
public import proofs.«01_k».proof.Proof.Gen.Reference5Ideal.Read
public import Idealize.ShloMosaic.Lib.Claim
public import Idealize.ShloMosaic.Lib.IdealHost
public import Idealize.ShloMosaic.Lib.Quiescent

@[expose] public section

set_option maxRecDepth 16384

noncomputable section

namespace Cert.Kernel5Ideal.Grad

open Cert.Kernel5Ideal Cert.Kernel5Ideal.Gen Cert.Kernel5Ideal.Value Idealize.ShloMosaic Idealize.ShloMosaic.TcCoe Cert.Sums

theorem pay2_apply (acc : Vec Ideal S1x1024x1024 .f32) (x0 : Vec Ideal S1024x1024 .f32)
    (x1 : Vec Ideal S1024x1024 .bf16) (y : S1x1024x1024.Idx) :
    k0_pay2 (F := Ideal) acc x0 x1 y = acc y + ∑ r : Fin 1024, x0 (ix2 r (y 1)) * x1 (ix2 r (y 2)) := by
  pointwise [k0_pay2]

theorem pay1_apply (y : S1x1024x1024.Idx) : k0_pay1 (F := Ideal) y = 0 := by
  pointwise [k0_pay1]

variable (m : (ℓ : Loc nD τ sig) → Buf (Elt Ideal) ℓ)

/-- The input of the product. -/
abbrev inp (c : Dev nD) : Vec Ideal S16384x1024 .f32 := m ((c : Thread nD τ).loc main_arg0)
/-- The cotangent. -/
abbrev cot (c : Dev nD) : Vec Ideal S16384x8192 .f32 := m ((c : Thread nD τ).loc main_arg3)

theorem entry_inp (c : Dev nD) (i : S16384x1024.Idx) : (V m c main_arg0 : Vec Ideal S16384x1024 .f32) i = inp m c i := by
  simp only [V, hostOps0, List.flatten_cons, List.flatten_nil, List.cons_append, List.nil_append, List.append_nil]
  entry_read
  rfl

theorem entry_cot (c : Dev nD) (i : S16384x8192.Idx) : (V m c main_v0 : Vec Ideal S16384x8192 .bf16) i = cot m c i := by
  simp only [V, hostOps0, List.flatten_cons, List.flatten_nil, List.cons_append, List.nil_append, List.append_nil]
  entry_read
  pointwise

/-- Column `y` of eighth `q`. -/
def col (q : ℕ) (y : Fin 1024) : Fin 8192 := ⟨q % 8 * 1024 + y.val, by omega⟩

theorem idx0 : ∀ t : Fin cfg0.N, win0_0.index t = ![t.val % 16, 0] := by decide +kernel
theorem idx1 : ∀ t : Fin cfg0.N, win0_1.index t = ![t.val % 16, t.val / 16 % 8] := by decide +kernel

theorem blk0 (c : Dev nD) (t : Fin cfg0.N) (i : S1024x1024.Idx) :
    (iblk m c 0 t : Vec Ideal S1024x1024 .f32) i = inp m c (ix2 (tileRow t.val (i 0)) (i 1)) := by
  have e : (iblk m c 0 t : Vec Ideal S1024x1024 .f32) i
      = (V m c main_arg0 : Vec Ideal S16384x1024 .f32) (ix2 (tileRow t.val (i 0)) (i 1)) := by
    blk_ext [iblk, idx0 t, tileRow]
  rw [e]
  exact entry_inp m c _

theorem blk1 (c : Dev nD) (t : Fin cfg0.N) (i : S1024x1024.Idx) :
    (iblk m c 1 t : Vec Ideal S1024x1024 .bf16) i = cot m c (ix2 (tileRow t.val (i 0)) (col (t.val / 16) (i 1))) := by
  have e : (iblk m c 1 t : Vec Ideal S1024x1024 .bf16) i
      = (V m c main_v0 : Vec Ideal S16384x8192 .bf16) (ix2 (tileRow t.val (i 0)) (col (t.val / 16) (i 1))) := by
    blk_ext [iblk, idx1 t, tileRow, col]
  rw [e]
  exact entry_cot m c _

/-- The gradient: the sum over the rows of the input times the cotangent. -/
def grad (a : Vec Ideal S16384x1024 .f32) (d : Vec Ideal S16384x8192 .f32) : Vec Ideal S8x1024x1024 .f32 :=
  fun i => ∑ s : Fin 16384, a (ix2 s (i 1)) * d (ix2 s (col (i 0).val (i 2)))

theorem final (c : Dev nD) : G2 m c = grad (inp m c) (cot m c) := by
  funext i
  unfold G2
  have h0 : (i 0).val < 8 := (i 0).isLt
  have h1 : (i 1).val < 1024 := (i 1).isLt
  have h2 : (i 2).val < 1024 := (i 2).isLt
  have hq : run2Of i = (i 0).val := by unfold run2Of; omega
  rw [dif_pos (by rw [hq]; exact (by omega : 16 * (i 0).val + 15 < 128))]
  refine (sweep (reset2 m c) (step2 m c) (run2Of i)
    (fun y s => inp m c (ix2 s (y 1)) * cot m c (ix2 s (col (run2Of i) (y 2))))
    (fun n h y hn => ?_) (fun n h acc y hn => ?_) _ (loc2Of i)).trans ?_
  · unfold reset2
    rw [pay2_apply, pay1_apply, zero_add, ← hn]
    exact Finset.sum_congr rfl fun r _ => congrArg₂ (· * ·) (blk0 m c ⟨n, h⟩ _) (blk1 m c ⟨n, h⟩ _)
  · unfold step2
    rw [pay2_apply, ← hn]
    exact congrArg (acc y + ·) (Finset.sum_congr rfl fun r _ => congrArg₂ (· * ·) (blk0 m c ⟨n, h⟩ _) (blk1 m c ⟨n, h⟩ _))
  · have e1 : loc2Of i 1 = i 1 := Fin.ext (Nat.mod_eq_of_lt h1)
    have e2 : loc2Of i 2 = i 2 := Fin.ext (Nat.mod_eq_of_lt h2)
    rw [e1, e2, hq]
    rfl

end Cert.Kernel5Ideal.Grad

namespace Cert.Proof.GradIn

open Idealize.ShloMosaic Idealize.ShloMosaic.TcCoe Idealize.SL.Sem Cert.Reference5Ideal Cert.Reference5Ideal.Gen Cert.Reference5Ideal.Read

theorem reference (a : Vec Ideal S16384x1024 .f32) (d : Vec Ideal S16384x8192 .f32) :
    val_main_v7 (F := Ideal) a d = Cert.Kernel5Ideal.Grad.grad a d := by
  funext i
  simp only [val_main_v7_apply, val_main_v6_apply, val_main_v5_apply, val_main_v4_apply]
  have h0 : (i 0).val < 8 := (i 0).isLt
  have h1 : (i 1).val < 1024 := (i 1).isLt
  have h2 : (i 2).val < 1024 := (i 2).isLt
  refine Finset.sum_congr rfl fun s _ => ?_
  rw [mul_comm]
  refine congrArg₂ (· * ·) (congrArg a ?_) (congrArg d ?_)
  · funext k
    match k with
    | ⟨0, _⟩ => rfl
    | ⟨1, _⟩ => exact Fin.ext (by
        show (((i 1).val * 8 + (i 0).val) * 1024 + (i 2).val) / 8192 = (i 1).val
        omega)
  · funext k
    match k with
    | ⟨0, _⟩ => rfl
    | ⟨1, _⟩ => exact Fin.ext (by
        show (((i 1).val * 8 + (i 0).val) * 1024 + (i 2).val) % 8192 = (i 0).val % 8 * 1024 + (i 2).val
        omega)

theorem algebraic : Cert.algebraic_Kernel5Ideal_Reference5Ideal (hKernel5Ideal := Cert.Kernel5Ideal.Gen.facts)
    (hReference5Ideal := Cert.Reference5Ideal.Gen.facts) := by
  intro m g m' g' _ hag
  refine ⟨fun c => Cert.Kernel5Ideal.Grad.grad (Cert.Kernel5Ideal.Grad.inp m c) (Cert.Kernel5Ideal.Grad.cot m c), ?_, ?_⟩
  · refine (θ_run Cert.Kernel5Ideal.defs _ _).mono (fun r h c => ?_) (Cert.Kernel5Ideal.Value.run m g)
    exact ⟨(h c).1.trans (Cert.Kernel5Ideal.Grad.final m c), (h c).2⟩
  · refine (θ_run Cert.Reference5Ideal.defs _ _).mono (fun r h c => ?_) (Cert.Reference5Ideal.Value.run m' g')
    refine ⟨((h c).1.trans (val_main_v7_eq _ _)).trans ((reference _ _).trans ?_), (h c).2⟩
    exact congrArg₂ Cert.Kernel5Ideal.Grad.grad (hag c).1 (hag c).2.2.2

theorem reference_frame : Cert.quiescent_Reference5Ideal (hReference5Ideal := Cert.Reference5Ideal.Gen.facts) :=
  fun m g _ => (θ_run _ _ _).mono (fun r h => ⟨fun c => (h c).2, sem_eq_zero_of_no_sems (by decide) r.2⟩)
    (Cert.Reference5Ideal.Value.run m g)

end Cert.Proof.GradIn

end
-- ==== Proof.GradX.lean ====
/- The cotangent of the mixer's input: the projection's cotangent times the transposed weight, accumulated over four tiles of
   the contracted axis, plus the scaled cotangent of the residual. -/
module

public import proofs.«01_k».proof.Proof.Sums
public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Claim
public import Idealize.ShloMosaic.Lib.IdealHost
public import Idealize.ShloMosaic.Lib.Quiescent

@[expose] public section

set_option maxRecDepth 16384

noncomputable section

namespace Cert.Kernel6Ideal.Grad

open Cert.Kernel6Ideal Cert.Kernel6Ideal.Gen Cert.Kernel6Ideal.Value Idealize.ShloMosaic Idealize.ShloMosaic.TcCoe Cert.Sums

/-- The scale of the residual. -/
def alpha : EReal := FloatOps.ofBits (F := Ideal) .f32 0x3FB504F3#32

theorem pay1_apply (y : S1024x1024.Idx) : k0_pay1 (F := Ideal) y = 0 := by
  pointwise [k0_pay1]

theorem pay2_apply (acc : Vec Ideal S1024x1024 .f32) (x0 : Vec Ideal S1024x2048 .bf16) (x1 : Vec Ideal S1x2048x1024 .bf16)
    (y : S1024x1024.Idx) :
    k0_pay2 (F := Ideal) acc x0 x1 y = acc y + ∑ r : Fin 2048, x0 (ix2 (y 0) r) * x1 (ix3 0 r (y 1)) := by
  pointwise [k0_pay2]

theorem pay3_apply (acc x2 : Vec Ideal S1024x1024 .f32) (y : S1024x1024.Idx) :
    k0_pay3 (F := Ideal) acc x2 y = acc y + alpha * x2 y := by
  pointwise [k0_pay3]
  rfl

/-- One tile's product. -/
def tile (x0 : Vec Ideal S1024x2048 .bf16) (x1 : Vec Ideal S1x2048x1024 .bf16) (y : S1024x1024.Idx) : EReal :=
  ∑ r : Fin 2048, x0 (ix2 (y 0) r) * x1 (ix3 0 r (y 1))

section Body

variable (c : Dev nD) (i : grid0.Coords) (a3 : Memref sig .tc .vmem S1024x2048 .bf16) (w3 : a3.IsWhole)
  (a4 : Memref sig .tc .vmem S1x2048x1024 .bf16) (w4 : a4.IsWhole) (a5 : Memref sig .tc .vmem S1024x1024 .f32) (w5 : a5.IsWhole)
  (a6 : Memref sig .tc .vmem S1024x1024 .f32) (w6 : a6.IsWhole) (a7 : Memref sig .tc .vmem S1024x1024 .f32) (w7 : a7.IsWhole)
  (x0 : Vec Ideal S1024x2048 .bf16) (x1 : Vec Ideal S1x2048x1024 .bf16) (x2 acc : Vec Ideal S1024x1024 .f32)
  (y : S1024x1024.Idx)

theorem first (h0 : cond0_0 i) (h1 : ¬ cond0_1 i) :
    sout0_A_0 c i a3 w3 a4 w4 a5 w5 a6 w6 a7 w7 h0 h1 x0 x1 x2 y = tile x0 x1 y := by
  frame_out
  rw [pay2_apply, pay1_apply, zero_add]
  rfl

theorem next (h0 : ¬ cond0_0 i) (h1 : ¬ cond0_1 i) :
    sout0_B_0 c i a3 w3 a4 w4 a5 w5 a6 w6 a7 w7 h0 h1 x0 x1 x2 acc y
      = acc y + tile x0 x1 y := by
  frame_out
  rw [pay2_apply]
  rfl

theorem last (h0 : ¬ cond0_0 i) (h1 : cond0_1 i) :
    out0_C_3 c i a3 w3 a4 w4 a5 w5 a6 w6 a7 w7 h0 h1 x0 x1 x2 acc y
      = acc y + tile x0 x1 y + alpha * x2 y := by
  frame_out
  rw [pay3_apply, pay2_apply]
  rfl

end Body

variable (m : (ℓ : Loc nD τ sig) → Buf (Elt Ideal) ℓ)

/-- The projection's weight, its cotangent, and the residual's cotangent. -/
abbrev wgt (c : Dev nD) : Vec Ideal S1024x8192 .f32 := m ((c : Thread nD τ).loc main_arg1)
abbrev cot (c : Dev nD) : Vec Ideal S16384x8192 .f32 := m ((c : Thread nD τ).loc main_arg3)
abbrev res (c : Dev nD) : Vec Ideal S16384x1024 .f32 := m ((c : Thread nD τ).loc main_arg4)

theorem entry_cot (c : Dev nD) (i : S16384x8192.Idx) : (V m c main_v3 : Vec Ideal S16384x8192 .bf16) i = cot m c i := by
  simp only [V, hostOps0, List.flatten_cons, List.flatten_nil, List.cons_append, List.nil_append, List.append_nil]
  entry_read
  pointwise

theorem entry_wgt (c : Dev nD) (i : S1x8192x1024.Idx) :
    (V m c main_v2 : Vec Ideal S1x8192x1024 .bf16) i = wgt m c (ix2 (i 2) (i 1)) := by
  simp only [V, hostOps0, List.flatten_cons, List.flatten_nil, List.cons_append, List.nil_append, List.append_nil]
  entry_read
  pointwise

theorem entry_res (c : Dev nD) (i : S16384x1024.Idx) : (V m c main_arg4 : Vec Ideal S16384x1024 .f32) i = res m c i := by
  simp only [V, hostOps0, List.flatten_cons, List.flatten_nil, List.cons_append, List.nil_append, List.append_nil]
  entry_read
  rfl

theorem idx0 : ∀ t : Fin cfg0.N, win0_0.index t = ![t.val / 4 % 16, t.val % 4] := by decide +kernel
theorem idx1 : ∀ t : Fin cfg0.N, win0_1.index t = ![0, t.val % 4, 0] := by decide +kernel
theorem idx2 : ∀ t : Fin cfg0.N, win0_2.index t = ![t.val / 4 % 16, 0] := by decide +kernel

/-- Row `r` of tile `q`, and place `k` of the contracted axis's tile `n`. -/
def row (q : ℕ) (r : Fin 1024) : Fin 16384 := ⟨q % 16 * 1024 + r.val, by omega⟩
def place (n : ℕ) (k : Fin 2048) : Fin 8192 := ⟨n % 4 * 2048 + k.val, by omega⟩

theorem blk0 (c : Dev nD) (t : Fin cfg0.N) (i : S1024x2048.Idx) :
    (iblk m c 0 t : Vec Ideal S1024x2048 .bf16) i = cot m c (ix2 (row (t.val / 4) (i 0)) (place t.val (i 1))) := by
  have e : (iblk m c 0 t : Vec Ideal S1024x2048 .bf16) i
      = (V m c main_v3 : Vec Ideal S16384x8192 .bf16) (ix2 (row (t.val / 4) (i 0)) (place t.val (i 1))) := by
    blk_ext [iblk, idx0 t, row, place]
  rw [e]
  exact entry_cot m c _

theorem blk1 (c : Dev nD) (t : Fin cfg0.N) (i : S1x2048x1024.Idx) :
    (iblk m c 1 t : Vec Ideal S1x2048x1024 .bf16) i = wgt m c (ix2 (i 2) (place t.val (i 1))) := by
  have e : (iblk m c 1 t : Vec Ideal S1x2048x1024 .bf16) i
      = (V m c main_v2 : Vec Ideal S1x8192x1024 .bf16) (ix3 0 (place t.val (i 1)) (i 2)) := by
    blk_ext [iblk, idx1 t, place]
  rw [e]
  exact entry_wgt m c _

theorem blk2 (c : Dev nD) (t : Fin cfg0.N) (i : S1024x1024.Idx) :
    (iblk m c 2 t : Vec Ideal S1024x1024 .f32) i = res m c (ix2 (row (t.val / 4) (i 0)) (i 1)) := by
  have e : (iblk m c 2 t : Vec Ideal S1024x1024 .f32) i
      = (V m c main_arg4 : Vec Ideal S16384x1024 .f32) (ix2 (row (t.val / 4) (i 0)) (i 1)) := by
    blk_ext [iblk, idx2 t, row]
  rw [e]
  exact entry_res m c _

/-- The cotangent of the input. -/
def grad (w : Vec Ideal S1024x8192 .f32) (d : Vec Ideal S16384x8192 .f32) (r : Vec Ideal S16384x1024 .f32) :
    Vec Ideal S16384x1024 .f32 :=
  fun i => (∑ k : Fin 8192, d (ix2 (i 0) k) * w (ix2 (i 1) k)) + alpha * r i

/-- What tile `n` of the contracted axis adds at place `y` of the rows' tile `q`. -/
def part (c : Dev nD) (q n : ℕ) (y : S1024x1024.Idx) : EReal :=
  ∑ r : Fin 2048, cot m c (ix2 (row q (y 0)) (place n r)) * wgt m c (ix2 (y 1) (place n r))

theorem part_eq (c : Dev nD) (t : Fin cfg0.N) (y : S1024x1024.Idx) :
    tile (iblk m c 0 t) (iblk m c 1 t) y = part m c (t.val / 4) t.val y :=
  Finset.sum_congr rfl fun r _ => congrArg₂ (· * ·) (blk0 m c t _) (blk1 m c t _)

theorem acc_first (c : Dev nD) (t : Fin cfg0.N) (h : t.val % 4 = 0) (y : S1024x1024.Idx) :
    (outsAt0 m c t.val t.isLt).2 y = part m c (t.val / 4) t.val y := by
  rw [outsAt0_A m c t h (by omega), ← part_eq]
  dsimp only
  rw [first]

theorem acc_next (c : Dev nD) (t : Fin cfg0.N) (h0 : ¬ t.val % 4 = 0) (h1 : ¬ t.val % 4 = 3) (y : S1024x1024.Idx) :
    (outsAt0 m c t.val t.isLt).2 y
      = (outsAt0 m c (t.val - 1) (Nat.lt_of_le_of_lt (Nat.sub_le _ _) t.isLt)).2 y + part m c (t.val / 4) t.val y := by
  rw [outsAt0_B m c t h0 h1, ← part_eq]
  dsimp only
  rw [next]

theorem out_last (c : Dev nD) (t : Fin cfg0.N) (h : t.val % 4 = 3) (y : S1024x1024.Idx) :
    (outsAt0 m c t.val t.isLt).1 y
      = (outsAt0 m c (t.val - 1) (Nat.lt_of_le_of_lt (Nat.sub_le _ _) t.isLt)).2 y + part m c (t.val / 4) t.val y
        + alpha * res m c (ix2 (row (t.val / 4) (y 0)) (y 1)) := by
  rw [outsAt0_C m c t (by omega) h, ← part_eq, ← blk2]
  dsimp only
  rw [last]

theorem out_eq (c : Dev nD) (q : ℕ) (h : 4 * q + 3 < cfg0.N) (y : S1024x1024.Idx) :
    (outsAt0 m c (4 * q + 3) h).1 y = (∑ k : Fin 8192, cot m c (ix2 (row q (y 0)) k) * wgt m c (ix2 (y 1) k))
      + alpha * res m c (ix2 (row q (y 0)) (y 1)) := by
  have e0 := acc_first m c ⟨4 * q, by omega⟩ (show 4 * q % 4 = 0 by omega) y
  have e1 := acc_next m c ⟨4 * q + 1, by omega⟩ (show ¬ (4 * q + 1) % 4 = 0 by omega) (show ¬ (4 * q + 1) % 4 = 3 by omega) y
  have e2 := acc_next m c ⟨4 * q + 2, by omega⟩ (show ¬ (4 * q + 2) % 4 = 0 by omega) (show ¬ (4 * q + 2) % 4 = 3 by omega) y
  have e3 := out_last m c ⟨4 * q + 3, h⟩ (show (4 * q + 3) % 4 = 3 by omega) y
  dsimp only at e0 e1 e2 e3
  rw [show 4 * q / 4 = q by omega] at e0
  rw [show (4 * q + 1) / 4 = q by omega] at e1
  rw [show (4 * q + 2) / 4 = q by omega] at e2
  rw [show (4 * q + 3) / 4 = q by omega] at e3
  refine e3.trans (congrArg (· + _) ?_)
  refine (congrArg (· + _) (e2.trans (congrArg (· + _) (e1.trans (congrArg (· + _) e0))))).trans ?_
  rw [← sum_tiles 4 2048 8192 rfl (fun k => cot m c (ix2 (row q (y 0)) k) * wgt m c (ix2 (y 1) k))
      (fun t r => place (4 * q + t.val) r)
      (fun t r => by
        show (4 * q + t.val) % 4 * 2048 + r.val = _
        have := t.isLt
        omega), Fin.sum_univ_four]
  rfl

theorem final (c : Dev nD) : G3 m c = grad (wgt m c) (cot m c) (res m c) := by
  funext i
  unfold G3
  have h0 : (i 0).val < 16384 := (i 0).isLt
  have h1 : (i 1).val < 1024 := (i 1).isLt
  have hq : run3Of i = (i 0).val / 1024 := by unfold run3Of; omega
  have hp : 4 * run3Of i + 3 < cfg0.N := by rw [hq]; exact (by omega : 4 * ((i 0).val / 1024) + 3 < 64)
  rw [dif_pos hp, ← outsAt0_sweep m c _ hp, out_eq]
  have e0 : row (run3Of i) (loc3Of i 0) = i 0 := Fin.ext (by
    show run3Of i % 16 * 1024 + (i 0).val % 1024 = (i 0).val
    rw [hq]; omega)
  have e1 : loc3Of i 1 = i 1 := Fin.ext (Nat.mod_eq_of_lt h1)
  rw [e0, e1]
  refine congrArg (_ + alpha * ·) (congrArg (res m c) ?_)
  funext k
  match k with
  | ⟨0, _⟩ => rfl
  | ⟨1, _⟩ => rfl

end Cert.Kernel6Ideal.Grad

namespace Cert.Proof.GradX

open Idealize.ShloMosaic Idealize.ShloMosaic.TcCoe Idealize.SL.Sem Cert.Reference6Ideal Cert.Reference6Ideal.Gen
  Cert.Reference6Ideal.Read

theorem reference (w : Vec Ideal S1024x8192 .f32) (d : Vec Ideal S16384x8192 .f32) (r : Vec Ideal S16384x1024 .f32) :
    val_main_v9 (F := Ideal) w d r = Cert.Kernel6Ideal.Grad.grad w d r := by
  funext i
  simp only [val_main_v9_apply, val_main_v8_apply, val_main_v7_apply, val_main_v6_apply, val_main_cst_0_apply]
  refine congrArg₂ (· + ·) (Finset.sum_congr rfl fun s _ => congrArg₂ (· * ·) (congrArg d ?_) (congrArg w ?_)) rfl <;>
  · funext k
    match k with
    | ⟨0, _⟩ => rfl
    | ⟨1, _⟩ => rfl

theorem algebraic : Cert.algebraic_Kernel6Ideal_Reference6Ideal (hKernel6Ideal := Cert.Kernel6Ideal.Gen.facts)
    (hReference6Ideal := Cert.Reference6Ideal.Gen.facts) := by
  intro m g m' g' _ hag
  refine ⟨fun c => Cert.Kernel6Ideal.Grad.grad (Cert.Kernel6Ideal.Grad.wgt m c) (Cert.Kernel6Ideal.Grad.cot m c)
    (Cert.Kernel6Ideal.Grad.res m c), ?_, ?_⟩
  · refine (θ_run Cert.Kernel6Ideal.defs _ _).mono (fun r h c => ?_) (Cert.Kernel6Ideal.Value.run m g)
    exact ⟨(h c).1.trans (Cert.Kernel6Ideal.Grad.final m c), (h c).2⟩
  · refine (θ_run Cert.Reference6Ideal.defs _ _).mono (fun r h c => ?_) (Cert.Reference6Ideal.Value.run m' g')
    refine ⟨((h c).1.trans (val_main_v9_eq _ _ _)).trans ((reference _ _ _).trans ?_), (h c).2⟩
    obtain ⟨_, e1, _, e3, e4⟩ := hag c
    rw [e1, e3, e4]

theorem reference_frame : Cert.quiescent_Reference6Ideal (hReference6Ideal := Cert.Reference6Ideal.Gen.facts) :=
  fun m g _ => (θ_run _ _ _).mono (fun r h => ⟨fun c => (h c).2, sem_eq_zero_of_no_sems (by decide) r.2⟩)
    (Cert.Reference6Ideal.Value.run m g)

end Cert.Proof.GradX

end
-- ==== Proof.FfnIn.lean ====
/- The feed-forward's first product: the input times its two weights, the two halves of the columns one after the other. -/
module

public import proofs.«01_k».proof.Proof.Gated
public import proofs.«01_k».proof.Proof.Gen.Kernel7Ideal.Value
public import proofs.«01_k».proof.Proof.Gen.Reference7Ideal.Run
public import proofs.«01_k».proof.Proof.Gen.Reference7Ideal.Read
public import Idealize.ShloMosaic.Lib.Quiescent
public import Idealize.ShloMosaic.Lib.Pipeline.ValueKit

@[expose] public section

set_option maxRecDepth 16384

noncomputable section

namespace Cert.Kernel7Ideal.FfnIn

open Cert.Kernel7Ideal Cert.Kernel7Ideal.Gen Cert.Kernel7Ideal.Value Idealize.ShloMosaic Idealize.ShloMosaic.TcCoe

theorem out_apply (x0 : Vec Ideal S512x1024 .f32) (x1 : Vec Ideal S1x1024x2816 .bf16) (y : S512x2816.Idx) :
    out0_2 (F := Ideal) x0 x1 y = ∑ j : Fin 1024, x0 (ix2 (y 0) j) * x1 (ix3 0 j (y 1)) := by
  frame_out
  pointwise [k0_pay1]

variable (m : (ℓ : Loc nD τ sig) → Buf (Elt Ideal) ℓ)

/-- The input and the two weights. -/
abbrev inp (c : Dev nD) : Gated.Rows := m ((c : Thread nD τ).loc main_arg0)
abbrev wg (c : Dev nD) : Gated.Up := m ((c : Thread nD τ).loc main_arg1)
abbrev wu (c : Dev nD) : Gated.Up := m ((c : Thread nD τ).loc main_arg2)

/-- The weight of half `q`. -/
def half (wg wu : Gated.Up) (q : ℕ) : Gated.Up := if q < 1 then wg else wu

theorem entry_inp (c : Dev nD) (i : S16384x1024.Idx) : (V m c main_arg0 : Vec Ideal S16384x1024 .f32) i = inp m c i := by
  simp only [V, hostOps0, List.flatten_cons, List.flatten_nil, List.cons_append, List.nil_append, List.append_nil]
  entry_read
  rfl

theorem entry_wgt (c : Dev nD) (i : S2x1024x2816.Idx) :
    (V m c main_v3 : Vec Ideal S2x1024x2816 .bf16) i = half (wg m c) (wu m c) (i 0).val (ix2 (i 1) (i 2)) := by
  simp only [V, hostOps0, List.flatten_cons, List.flatten_nil, List.cons_append, List.nil_append, List.append_nil]
  entry_read
  pointwise
  unfold half
  split <;> rfl

theorem idx0 : ∀ t : Fin cfg0.N, win0_0.index t = ![t.val % 32, 0] := by decide +kernel
theorem idx1 : ∀ t : Fin cfg0.N, win0_1.index t = ![t.val / 32 % 2, 0, 0] := by decide +kernel
theorem idx2 : ∀ t : Fin cfg0.N, win0_2.index t = ![t.val % 32, t.val / 32 % 2] := by decide +kernel

/-- Row `r` of the tile that grid point `n` reads, and the half it reads. -/
def row (n : ℕ) (r : Fin 512) : Fin 16384 := ⟨n % 32 * 512 + r.val, by omega⟩
def side (n : ℕ) : Fin 2 := ⟨n / 32 % 2, by omega⟩

theorem blk0 (c : Dev nD) (t : Fin cfg0.N) (i : S512x1024.Idx) :
    (iblk m c 0 t : Vec Ideal S512x1024 .f32) i = inp m c (ix2 (row t.val (i 0)) (i 1)) := by
  have e : (iblk m c 0 t : Vec Ideal S512x1024 .f32) i
      = (V m c main_arg0 : Vec Ideal S16384x1024 .f32) (ix2 (row t.val (i 0)) (i 1)) := by
    blk_ext [iblk, idx0 t, row]
  rw [e]
  exact entry_inp m c _

theorem blk1 (c : Dev nD) (t : Fin cfg0.N) (i : S1x1024x2816.Idx) :
    (iblk m c 1 t : Vec Ideal S1x1024x2816 .bf16) i = half (wg m c) (wu m c) (side t.val).val (ix2 (i 1) (i 2)) := by
  have e : (iblk m c 1 t : Vec Ideal S1x1024x2816 .bf16) i
      = (V m c main_v3 : Vec Ideal S2x1024x2816 .bf16) (ix3 (side t.val) (i 1) (i 2)) := by
    blk_ext [iblk, idx1 t, side]
  rw [e]
  exact entry_wgt m c _

/-- The two products side by side. -/
def pair (x : Gated.Rows) (wg wu : Gated.Up) : Vec Ideal S16384x5632 .f32 := fun i =>
  Gated.pre x (half wg wu ((i 1).val / 2816)) (i 0) ⟨(i 1).val % 2816, Nat.mod_lt _ (by decide)⟩

theorem pair_at (x : Gated.Rows) (wg wu : Gated.Up) (i : S16384x5632.Idx) (q : ℕ) (r : Fin 16384) (k : Fin 2816)
    (hr : r = i 0) (hi : (i 1).val = q * 2816 + k.val) : Gated.pre x (half wg wu q) r k = pair x wg wu i := by
  subst hr
  have hk := k.isLt
  have e : k = ⟨(i 1).val % 2816, Nat.mod_lt _ (by decide)⟩ := Fin.ext (by
    show k.val = (i 1).val % 2816
    omega)
  have eq : q = (i 1).val / 2816 := by omega
  rw [e, eq]
  rfl

theorem final (c : Dev nD) : (dats m 0 c).arrAt 2 cfg0.N = pair (inp m c) (wg m c) (wu m c) := by
  refine (dats m 0 c).arrAt_eq_of_covers 2 _ (by decide +kernel) fun t hf y => ?_
  blk_simp
  rw [after0_2]
  refine (out_apply _ _ y).trans ?_
  refine Eq.trans ?_ (pair_at (inp m c) (wg m c) (wu m c) ((win0_2.blk t).view.emb y) (side t.val).val (row t.val (y 0)) (y 1)
    (Fin.ext (by blk_simp [idx2 t, row])) (by blk_simp [idx2 t, side]))
  exact Finset.sum_congr rfl fun j _ => congrArg₂ (· * ·) (blk0 m c t _) (blk1 m c t _)

end Cert.Kernel7Ideal.FfnIn

namespace Cert.Proof.FfnIn

open Idealize.ShloMosaic Idealize.ShloMosaic.TcCoe Idealize.SL.Sem Cert.Reference7Ideal Cert.Reference7Ideal.Gen
  Cert.Reference7Ideal.Read

theorem pre_gate (x : Gated.Rows) (w : Gated.Up) (i : S16384x2816.Idx) :
    val_main_v0 (F := Ideal) x w i = Gated.pre x w (i 0) (i 1) := by
  rw [val_main_v0_apply]
  refine Finset.sum_congr rfl fun s _ => congrArg₂ (· * ·) (congrArg x ?_) (congrArg w ?_) <;>
  · funext k
    match k with
    | ⟨0, _⟩ => rfl
    | ⟨1, _⟩ => rfl

theorem pre_up (x : Gated.Rows) (w : Gated.Up) (i : S16384x2816.Idx) :
    val_main_v1 (F := Ideal) x w i = Gated.pre x w (i 0) (i 1) := by
  rw [val_main_v1_apply]
  refine Finset.sum_congr rfl fun s _ => congrArg₂ (· * ·) (congrArg x ?_) (congrArg w ?_) <;>
  · funext k
    match k with
    | ⟨0, _⟩ => rfl
    | ⟨1, _⟩ => rfl

theorem reference (x : Gated.Rows) (wg wu : Gated.Up) :
    val_main_v2 (F := Ideal) x wg wu = Cert.Kernel7Ideal.FfnIn.pair x wg wu := by
  funext i
  have h1 : (i 1).val < 5632 := (i 1).isLt
  simp only [val_main_v2]
  pointwise
  split <;> rename_i hi
  · exact (pre_gate x wg _).trans (Cert.Kernel7Ideal.FfnIn.pair_at x wg wu i 0 (i 0) ⟨(i 1).val, hi⟩ rfl (by
      show (i 1).val = 0 * 2816 + (i 1).val
      omega))
  · exact (pre_up x wu _).trans (Cert.Kernel7Ideal.FfnIn.pair_at x wg wu i 1 (i 0) ⟨(i 1).val - 2816, by omega⟩ rfl (by
      show (i 1).val = 1 * 2816 + ((i 1).val - 2816)
      omega))

theorem algebraic : Cert.algebraic_Kernel7Ideal_Reference7Ideal (hKernel7Ideal := Cert.Kernel7Ideal.Gen.facts)
    (hReference7Ideal := Cert.Reference7Ideal.Gen.facts) := by
  intro m g m' g' _ hag
  refine ⟨fun c => Cert.Kernel7Ideal.FfnIn.pair (Cert.Kernel7Ideal.FfnIn.inp m c) (Cert.Kernel7Ideal.FfnIn.wg m c)
    (Cert.Kernel7Ideal.FfnIn.wu m c), ?_, ?_⟩
  · refine (θ_run Cert.Kernel7Ideal.defs _ _).mono (fun r h c => ?_) (Cert.Kernel7Ideal.Value.run_blocks m g)
    exact ⟨(h c).1.trans (Cert.Kernel7Ideal.FfnIn.final m c), (h c).2⟩
  · refine (θ_run Cert.Reference7Ideal.defs _ _).mono (fun r h c => ?_) (Cert.Reference7Ideal.Value.run m' g')
    refine ⟨((h c).1.trans (val_main_v2_eq _ _ _)).trans ((reference _ _ _).trans ?_), (h c).2⟩
    obtain ⟨e0, e1, e2⟩ := hag c
    rw [e0, e1, e2]

theorem reference_frame : Cert.quiescent_Reference7Ideal (hReference7Ideal := Cert.Reference7Ideal.Gen.facts) :=
  fun m g _ => (θ_run _ _ _).mono (fun r h => ⟨fun c => (h c).2, sem_eq_zero_of_no_sems (by decide) r.2⟩)
    (Cert.Reference7Ideal.Value.run m g)

end Cert.Proof.FfnIn

end
-- ==== Proof.FfnOut.lean ====
/- The feed-forward's second call: from the pair of pre-activations the activation, from it and the second weight the residual
   row, and of that row the layer norm. -/
module

public import proofs.«01_k».proof.Proof.Gated
public import proofs.«01_k».proof.Proof.Reals
public import proofs.«01_k».proof.Proof.FfnBlk
public import proofs.«01_k».proof.Proof.Gen.Kernel8Ideal.Value
public import proofs.«01_k».proof.Proof.Gen.Reference8Ideal.Run
public import proofs.«01_k».proof.Proof.Gen.Reference8Ideal.Read
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Kernel8Ideal.FfnOut

open Cert.Kernel8Ideal Cert.Kernel8Ideal.Gen Cert.Kernel8Ideal.Value Idealize.ShloMosaic Idealize.ShloMosaic.TcCoe

/-- The logistic function by a hyperbolic tangent, at every extended real. -/
theorem half_tanh (h : EReal) :
    ((1 / 2 : ℝ) : EReal) * Ideal.tanh (((1 / 2 : ℝ) : EReal) * h) + ((1 / 2 : ℝ) : EReal) = Gated.logi h := by
  have hp : (0 : ℝ) < 1 / 2 := by norm_num
  unfold Gated.logi
  induction h with
  | bot =>
    rw [EReal.coe_mul_bot_of_pos hp, EReal.neg_bot]
    show ((1 / 2 : ℝ) : EReal) * (-1) + ((1 / 2 : ℝ) : EReal) = Ideal.div 1 (1 + ⊤)
    rw [EReal.add_top_of_ne_bot (by decide), Ideal.div, if_neg (by decide), EReal.inv_top, mul_zero, ← EReal.coe_one, ← EReal.coe_neg, ← EReal.coe_mul,
      ← EReal.coe_add]
    norm_num
  | top =>
    rw [EReal.coe_mul_top_of_pos hp, EReal.neg_top]
    show ((1 / 2 : ℝ) : EReal) * 1 + ((1 / 2 : ℝ) : EReal) = Ideal.div 1 (1 + 0)
    rw [add_zero, ← EReal.coe_one, Reals.div_real _ one_ne_zero, ← EReal.coe_mul, ← EReal.coe_add]
    norm_num
  | coe x =>
    rw [← EReal.coe_mul, Ideal.tanh_coe, ← EReal.coe_neg, Ideal.exp_coe, ← EReal.coe_mul, ← EReal.coe_add, Reals.sig_tanh,
      ← EReal.coe_one, ← EReal.coe_add, Reals.div_real _ (Reals.one_add_exp_pos x).ne', Reals.sig, one_div]

/-- The mean of a row of 1024, the mean of its squared deviations, and its layer norm. -/
def mean (r : Fin 1024 → EReal) : EReal := Ideal.div (∑ k, r k) ((1024 : ℝ) : EReal)
def var (r : Fin 1024 → EReal) : EReal := mean fun k => (r k - mean r) * (r k - mean r)
def norm (r g b : Fin 1024 → EReal) (j : Fin 1024) : EReal :=
  (r j - mean r) * Ideal.rsqrt (var r + ((Reals.eps : ℝ) : EReal)) * g j + b j

theorem pay1_apply (r : Vec Ideal S256x1024 .f32) (g b : Vec Ideal S1x1024 .f32) (y : S256x1024.Idx) :
    k0_pay1 (F := Ideal) r g b y = norm (fun k => r (ix2 (y 0) k)) (fun k => g (ix2 0 k)) (fun k => b (ix2 0 k)) (y 1) := by
  obtain ⟨p, q, rfl⟩ : ∃ p q, y = ix2 p q := ⟨y 0, y 1, by
    funext a
    match a with
    | ⟨0, _⟩ => rfl
    | ⟨1, _⟩ => rfl⟩
  pointwise [k0_pay1]
  simp only [Reals.lit_1024, Reals.lit_eps]
  rfl

theorem pay20_apply (x : Vec Ideal S256x1024 .f32) (a : Vec Ideal S256x2816 .bf16) (w : Vec Ideal S2816x1024 .bf16)
    (y : S256x1024.Idx) :
    k0_pay20 (F := Ideal) x a w y = ((Reals.alpha : ℝ) : EReal) * x y + ∑ k : Fin 2816, a (ix2 (y 0) k) * w (ix2 k (y 1)) := by
  pointwise [k0_pay20]
  simp only [Reals.lit_alpha]

section
variable (c : Dev nD) (i : grid0.Coords) (a1 : Memref sig .tc .vmem S256x1024 .f32) (w1 : a1.IsWhole)
  (a2 : Memref sig .tc .vmem S256x5632 .f32) (w2 : a2.IsWhole) (a3 : Memref sig .tc .vmem S2816x1024 .bf16) (w3 : a3.IsWhole)
  (a4 : Memref sig .tc .vmem S24x1024 .f32) (w4 : a4.IsWhole) (a5 : Memref sig .tc .vmem S256x1024 .f32) (w5 : a5.IsWhole)
  (a6 : Memref sig .tc .vmem S256x1024 .f32) (w6 : a6.IsWhole) (a7 : Memref sig .tc .vmem S256x2816 .bf16) (w7 : a7.IsWhole)
  (x0 : Vec Ideal S256x1024 .f32) (x1 : Vec Ideal S256x5632 .f32) (x2 : Vec Ideal S2816x1024 .bf16) (x3 : Vec Ideal S24x1024 .f32)

/-- The activation of row `r` of a block of pre-activations, at hidden unit `k`. -/
def blkAct (x1 : Vec Ideal S256x5632 .f32) (r : Fin 256) (k : Fin 2816) : EReal :=
  x1 (ix2 r ⟨k.val, by omega⟩) * Gated.logi (x1 (ix2 r ⟨k.val, by omega⟩)) * x1 (ix2 r ⟨2816 + k.val, by omega⟩)

theorem blkAct_at (x1 : Vec Ideal S256x5632 .f32) (s r : Fin 256) (p q : Fin 5632) (k : Fin 2816) (hs : r.val = s.val)
    (hp : k.val = p.val) (hq : 2816 + k.val = q.val) :
    x1 (ix2 s p) * Gated.logi (x1 (ix2 s p)) * x1 (ix2 s q) = blkAct x1 r k := by
  obtain rfl : r = s := Fin.ext hs
  have ep : p = ⟨k.val, by omega⟩ := Fin.ext hp.symm
  have eq : q = ⟨2816 + k.val, by omega⟩ := Fin.ext hq.symm
  unfold blkAct
  rw [← ep, ← eq]

theorem out6 (y : S256x2816.Idx) :
    out0_A_6 c i a1 w1 a2 w2 a3 w3 a4 w4 a5 w5 a6 w6 a7 w7 x0 x1 x2 x3 y = blkAct x1 (y 0) (y 1) := by
  frame_out
  canon_tiles x h
  all_goals
    pointwise [k0_pay2, k0_pay3, k0_pay4, k0_pay5, k0_pay6, k0_pay7, k0_pay8, k0_pay9, k0_pay10, k0_pay11, k0_pay12, k0_pay13,
      k0_pay14, k0_pay15, k0_pay16, k0_pay17, k0_pay18, k0_pay19]
    simp only [Reals.lit_half, half_tanh]
    refine blkAct_at x1 _ _ _ _ _ h0 ?_ ?_
    · exact h1
    · first
        | (rw [h1]; done)
        | (rw [h1]; exact (Nat.add_assoc 2816 _ _).symm)

theorem out5 (y : S256x1024.Idx) :
    out0_A_5 c i a1 w1 a2 w2 a3 w3 a4 w4 a5 w5 a6 w6 a7 w7 x0 x1 x2 x3 y
      = ((Reals.alpha : ℝ) : EReal) * x0 y + ∑ k : Fin 2816, blkAct x1 (y 0) k * x2 (ix2 k (y 1)) := by
  have h6 := fun j => out6 c i a1 w1 a2 w2 a3 w3 a4 w4 a5 w5 a6 w6 a7 w7 x0 x1 x2 x3 j
  frame_out at h6
  frame_out
  simp only [View.readCov_eq_canon', h6]
  rw [pay20_apply]
  pointwise

theorem out4 (y : S256x1024.Idx) :
    out0_A_4 c i a1 w1 a2 w2 a3 w3 a4 w4 a5 w5 a6 w6 a7 w7 x0 x1 x2 x3 y
      = norm (fun j => ((Reals.alpha : ℝ) : EReal) * x0 (ix2 (y 0) j) + ∑ k : Fin 2816, blkAct x1 (y 0) k * x2 (ix2 k j))
        (fun j => x3 (ix2 14 j)) (fun j => x3 (ix2 17 j)) (y 1) := by
  have h6 := fun j => out6 c i a1 w1 a2 w2 a3 w3 a4 w4 a5 w5 a6 w6 a7 w7 x0 x1 x2 x3 j
  frame_out at h6
  frame_out
  simp only [View.readCov_eq_canon', h6]
  rw [pay1_apply]
  simp only [pay20_apply]
  pointwise

end

variable (m : (ℓ : Loc nD τ sig) → Buf (Elt Ideal) ℓ)

/-- The input, the three weights, and the norm's scale and shift. -/
abbrev inp (c : Dev nD) : Gated.Rows := m ((c : Thread nD τ).loc main_arg0)
abbrev wg (c : Dev nD) : Gated.Up := m ((c : Thread nD τ).loc main_arg1)
abbrev wu (c : Dev nD) : Gated.Up := m ((c : Thread nD τ).loc main_arg2)
abbrev wd (c : Dev nD) : Gated.Down := m ((c : Thread nD τ).loc main_arg3)
abbrev scale (c : Dev nD) : Vec Ideal S1024 .f32 := m ((c : Thread nD τ).loc main_arg4)
abbrev shift (c : Dev nD) : Vec Ideal S1024 .f32 := m ((c : Thread nD τ).loc main_arg5)

theorem entry_pair (c : Dev nD) (i : S16384x5632.Idx) :
    (V m c main_v2 : Vec Ideal S16384x5632 .f32) i
      = if h : (i 1).val < 2816 then Gated.pre (inp m c) (wg m c) (i 0) ⟨(i 1).val, h⟩
        else Gated.pre (inp m c) (wu m c) (i 0) ⟨(i 1).val - 2816, by have : (i 1).val < 5632 := (i 1).isLt; omega⟩ := by
  simp only [V, hostOps0, List.flatten_cons, List.flatten_nil, List.cons_append, List.nil_append, List.append_nil]
  entry_read
  pointwise
  split <;> rfl

theorem entry_wd (c : Dev nD) (i : S2816x1024.Idx) : (V m c main_v8 : Vec Ideal S2816x1024 .bf16) i = wd m c i := by
  simp only [V, hostOps0, List.flatten_cons, List.flatten_nil, List.cons_append, List.nil_append, List.append_nil]
  entry_read
  pointwise

theorem entry_scale (c : Dev nD) (j : Fin 1024) : (V m c main_v7 : Vec Ideal S24x1024 .f32) (ix2 14 j) = scale m c (ix1 j) := by
  simp only [V, hostOps0, List.flatten_cons, List.flatten_nil, List.cons_append, List.nil_append, List.append_nil]
  entry_read
  exact (Cert.KernelIdeal.Ffn.scatter_other _ 17#32 _ (ix2 14 j) (show ((14 : Fin 24).val : Int) ≠ (17#32).toInt by decide)).trans
    (Cert.KernelIdeal.Ffn.scatter_row _ 14#32 _ (ix2 14 j) (show ((14 : Fin 24).val : Int) = (14#32).toInt by decide))

theorem entry_shift (c : Dev nD) (j : Fin 1024) : (V m c main_v7 : Vec Ideal S24x1024 .f32) (ix2 17 j) = shift m c (ix1 j) := by
  simp only [V, hostOps0, List.flatten_cons, List.flatten_nil, List.cons_append, List.nil_append, List.append_nil]
  entry_read
  exact Cert.KernelIdeal.Ffn.scatter_row _ 17#32 _ (ix2 17 j) (show ((17 : Fin 24).val : Int) = (17#32).toInt by decide)

/-- A row of the grid point's tile, as a row of the whole array. -/
def row (n : ℕ) (r : Fin 256) : Fin 16384 := ⟨n % 64 * 256 + r.val, by omega⟩

theorem idx0 : ∀ t : Fin cfg0.N, win0_0.index t = ![t.val % 64, 0] := by decide +kernel
theorem idx1 : ∀ t : Fin cfg0.N, win0_1.index t = ![t.val % 64, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![t.val % 64, 0] := by decide +kernel
theorem idx5 : ∀ t : Fin cfg0.N, win0_5.index t = ![t.val % 64, 0] := by decide +kernel
theorem idx6 : ∀ t : Fin cfg0.N, win0_6.index t = ![t.val % 64, 0] := by decide +kernel

theorem blk0 (c : Dev nD) (t : Fin cfg0.N) (i : S256x1024.Idx) :
    (iblk m c 0 t : Vec Ideal S256x1024 .f32) i = inp m c (ix2 (row t.val (i 0)) (i 1)) := by
  have e : (iblk m c 0 t : Vec Ideal S256x1024 .f32) i
      = (V m c main_arg0 : Vec Ideal S16384x1024 .f32) (ix2 (row t.val (i 0)) (i 1)) := by
    blk_ext [iblk, idx0 t, row]
  rw [e]
  exact congrFun (V_main_arg0 m c) _

theorem blk1 (c : Dev nD) (t : Fin cfg0.N) (r : Fin 256) (k : Fin 2816) :
    blkAct (iblk m c 1 t : Vec Ideal S256x5632 .f32) r k = Gated.act (inp m c) (wg m c) (wu m c) (row t.val r) k := by
  have e (i : S256x5632.Idx) : (iblk m c 1 t : Vec Ideal S256x5632 .f32) i
      = (V m c main_v2 : Vec Ideal S16384x5632 .f32) (ix2 (row t.val (i 0)) (i 1)) := by
    blk_ext [iblk, idx1 t, row]
  have elo : (iblk m c 1 t : Vec Ideal S256x5632 .f32) (ix2 r ⟨k.val, by omega⟩) = Gated.pre (inp m c) (wg m c) (row t.val r) k :=
    (e _).trans ((entry_pair m c _).trans (dif_pos k.isLt))
  have ehi : (iblk m c 1 t : Vec Ideal S256x5632 .f32) (ix2 r ⟨2816 + k.val, by omega⟩) = Gated.pre (inp m c) (wu m c) (row t.val r) k := by
    refine (e _).trans ((entry_pair m c _).trans ((dif_neg (Nat.not_lt.mpr (Nat.le_add_right 2816 k.val))).trans ?_))
    exact congrArg (Gated.pre (inp m c) (wu m c) (row t.val r)) (Fin.ext (Nat.add_sub_cancel_left 2816 k.val))
  unfold blkAct
  rw [elo, ehi]
  rfl

theorem blk2 (c : Dev nD) (t : Fin cfg0.N) (i : S2816x1024.Idx) :
    (iblk m c 2 t : Vec Ideal S2816x1024 .bf16) i = wd m c i := by
  have e : (iblk m c 2 t : Vec Ideal S2816x1024 .bf16) i = (V m c main_v8 : Vec Ideal S2816x1024 .bf16) i := by
    blk_ext [iblk, idx2 t, row]
  rw [e]
  exact entry_wd m c _

theorem blk3 (c : Dev nD) (t : Fin cfg0.N) (i : S24x1024.Idx) :
    (iblk m c 3 t : Vec Ideal S24x1024 .f32) i = (V m c main_v7 : Vec Ideal S24x1024 .f32) i := by
  blk_ext [iblk, idx3 t, row]

/-- The residual row: the scaled input plus the network's value. -/
def res (x : Gated.Rows) (wg wu : Gated.Up) (wd : Gated.Down) : Vec Ideal S16384x1024 .f32 := fun i =>
  ((Reals.alpha : ℝ) : EReal) * x i + ∑ k : Fin 2816, Gated.act x wg wu (i 0) k * wd (ix2 k (i 1))

/-- The layer norm of a residual row. -/
def out (x : Gated.Rows) (wg wu : Gated.Up) (wd : Gated.Down) (g b : Vec Ideal S1024 .f32) : Vec Ideal S16384x1024 .f32 := fun i =>
  norm (fun j => res x wg wu wd (ix2 (i 0) j)) (fun j => g (ix1 j)) (fun j => b (ix1 j)) (i 1)

/-- The activation. -/
def act (x : Gated.Rows) (wg wu : Gated.Up) : Vec Ideal S16384x2816 .bf16 := fun i => Gated.act x wg wu (i 0) (i 1)

theorem res_at (c : Dev nD) (t : Fin cfg0.N) (r : Fin 256) (j : Fin 1024) :
    ((Reals.alpha : ℝ) : EReal) * (iblk m c 0 t : Vec Ideal S256x1024 .f32) (ix2 r j)
        + ∑ k : Fin 2816, blkAct (iblk m c 1 t : Vec Ideal S256x5632 .f32) r k * (iblk m c 2 t : Vec Ideal S2816x1024 .bf16) (ix2 k j)
      = res (inp m c) (wg m c) (wu m c) (wd m c) (ix2 (row t.val r) j) := by
  refine congrArg₂ (· + ·) (congrArg (((Reals.alpha : ℝ) : EReal) * ·) (blk0 m c t _)) ?_
  exact Finset.sum_congr rfl fun k _ => congrArg₂ (· * ·) (blk1 m c t r k) (blk2 m c t _)

theorem idx_ext {n k : ℕ} {i : (⟨2, ![n, k]⟩ : Shape).Idx} {p : Fin n} {q : Fin k} (h0 : (i 0).val = p.val) (h1 : (i 1).val = q.val) :
    ix2 p q = i := by
  funext a
  match a with
  | ⟨0, _⟩ => exact Fin.ext h0.symm
  | ⟨1, _⟩ => exact Fin.ext h1.symm

theorem point6 (c : Dev nD) (t : Fin cfg0.N) (y : S256x2816.Idx) :
    (outsAt0 m c t).2.2 y = act (inp m c) (wg m c) (wu m c) (ix2 (row t.val (y 0)) (y 1)) := by
  simp only [outsAt0]
  rw [out6]
  exact blk1 m c t _ _

theorem point5 (c : Dev nD) (t : Fin cfg0.N) (y : S256x1024.Idx) :
    (outsAt0 m c t).2.1 y = res (inp m c) (wg m c) (wu m c) (wd m c) (ix2 (row t.val (y 0)) (y 1)) := by
  simp only [outsAt0]
  rw [out5, ← idx_ext (i := y) rfl rfl]
  exact res_at m c t _ _

theorem point4 (c : Dev nD) (t : Fin cfg0.N) (y : S256x1024.Idx) :
    (outsAt0 m c t).1 y = out (inp m c) (wg m c) (wu m c) (wd m c) (scale m c) (shift m c) (ix2 (row t.val (y 0)) (y 1)) := by
  simp only [outsAt0]
  rw [out4]
  have e1 := funext (res_at m c t (y 0))
  have e2 := funext fun j => (blk3 m c t (ix2 14 j)).trans (entry_scale m c j)
  have e3 := funext fun j => (blk3 m c t (ix2 17 j)).trans (entry_shift m c j)
  rw [e1, e2, e3]
  rfl

theorem final6 (c : Dev nD) : (dats m 0 c).arrAt 6 cfg0.N = act (inp m c) (wg m c) (wu m c) := by
  refine (dats m 0 c).arrAt_eq_of_covers 6 _ (by decide +kernel) fun t hf y => ?_
  blk_simp
  rw [after0_6]
  refine (point6 m c t y).trans (congrArg _ (idx_ext ?_ ?_)) <;> blk_simp [idx6 t, row]

theorem final5 (c : Dev nD) : (dats m 0 c).arrAt 5 cfg0.N = res (inp m c) (wg m c) (wu m c) (wd m c) := by
  refine (dats m 0 c).arrAt_eq_of_covers 5 _ (by decide +kernel) fun t hf y => ?_
  blk_simp
  rw [after0_5]
  refine (point5 m c t y).trans (congrArg _ (idx_ext ?_ ?_)) <;> blk_simp [idx5 t, row]

theorem final4 (c : Dev nD) :
    (dats m 0 c).arrAt 4 cfg0.N = out (inp m c) (wg m c) (wu m c) (wd m c) (scale m c) (shift m c) := by
  refine (dats m 0 c).arrAt_eq_of_covers 4 _ (by decide +kernel) fun t hf y => ?_
  blk_simp
  rw [after0_4]
  refine (point4 m c t y).trans (congrArg _ (idx_ext ?_ ?_)) <;> blk_simp [idx4 t, row]

end Cert.Kernel8Ideal.FfnOut

namespace Cert.Proof.FfnOut

open Idealize.ShloMosaic Idealize.ShloMosaic.TcCoe Idealize.SL.Sem Cert.Reference8Ideal Cert.Reference8Ideal.Gen
  Cert.Reference8Ideal.Read

theorem ix2_eq {n k : ℕ} (i : (⟨2, ![n, k]⟩ : Shape).Idx) (p : Fin n) (q : Fin k) (h0 : i 0 = p) (h1 : i 1 = q) : i = ix2 p q := by
  funext a
  match a with
  | ⟨0, _⟩ => exact h0
  | ⟨1, _⟩ => exact h1

theorem pre0 (x : Gated.Rows) (w : Gated.Up) (i : S16384x2816.Idx) : val_main_v0 (F := Ideal) x w i = Gated.pre x w (i 0) (i 1) := by
  rw [val_main_v0_apply]
  exact Finset.sum_congr rfl fun s _ => congrArg₂ (· * ·) (congrArg x (ix2_eq _ _ _ rfl rfl)) (congrArg w (ix2_eq _ _ _ rfl rfl))

theorem pre2 (x : Gated.Rows) (w : Gated.Up) (i : S16384x2816.Idx) : val_main_v2 (F := Ideal) x w i = Gated.pre x w (i 0) (i 1) := by
  rw [val_main_v2_apply]
  exact Finset.sum_congr rfl fun s _ => congrArg₂ (· * ·) (congrArg x (ix2_eq _ _ _ rfl rfl)) (congrArg w (ix2_eq _ _ _ rfl rfl))

theorem pre6 (x : Gated.Rows) (w : Gated.Up) (i : S16384x2816.Idx) : val_main_v6 (F := Ideal) x w i = Gated.pre x w (i 0) (i 1) := by
  rw [val_main_v6_apply]
  exact Finset.sum_congr rfl fun s _ => congrArg₂ (· * ·) (congrArg x (ix2_eq _ _ _ rfl rfl)) (congrArg w (ix2_eq _ _ _ rfl rfl))

theorem pre8 (x : Gated.Rows) (w : Gated.Up) (i : S16384x2816.Idx) : val_main_v8 (F := Ideal) x w i = Gated.pre x w (i 0) (i 1) := by
  rw [val_main_v8_apply]
  exact Finset.sum_congr rfl fun s _ => congrArg₂ (· * ·) (congrArg x (ix2_eq _ _ _ rfl rfl)) (congrArg w (ix2_eq _ _ _ rfl rfl))

theorem act3 (x : Gated.Rows) (wg wu : Gated.Up) (i : S16384x2816.Idx) :
    val_main_v3 (F := Ideal) x wg wu i = Gated.act x wg wu (i 0) (i 1) := by
  simp only [val_main_v3_apply, val_main_v1_apply, pre0, pre2, val_main_call0_v5_apply, val_main_call0_v4_apply,
    val_main_call0_v3_apply, val_main_call0_v2_apply, val_main_call0_v1_apply, val_main_call0_v0_apply]
  pointwise [val_main_call0_cst, val_main_call0_cst_0]
  rfl

theorem act9 (x : Gated.Rows) (wg wu : Gated.Up) (i : S16384x2816.Idx) :
    val_main_v9 (F := Ideal) x wg wu i = Gated.act x wg wu (i 0) (i 1) := by
  simp only [val_main_v9_apply, val_main_v7_apply, pre6, pre8, val_main_call1_v5_apply, val_main_call1_v4_apply,
    val_main_call1_v3_apply, val_main_call1_v2_apply, val_main_call1_v1_apply, val_main_call1_v0_apply]
  pointwise [val_main_call1_cst, val_main_call1_cst_0]
  rfl

theorem reference_act (x : Gated.Rows) (wg wu : Gated.Up) :
    val_main_v36 (F := Ideal) x wg wu = Cert.Kernel8Ideal.FfnOut.act x wg wu := by
  funext i
  rw [val_main_v36_apply]
  exact act3 x wg wu i

theorem reference_res (x : Gated.Rows) (wg wu : Gated.Up) (wd : Gated.Down) :
    val_main_v11 (F := Ideal) x wg wu wd = Cert.Kernel8Ideal.FfnOut.res x wg wu wd := by
  funext i
  simp only [val_main_v11_apply, val_main_v10_apply, val_main_v5_apply, val_main_v4_apply, act9]
  pointwise [val_main_cst]
  simp only [Reals.lit_alpha]
  refine congrArg (((Reals.alpha : ℝ) : EReal) * x i + ·) (Finset.sum_congr rfl fun k _ => congrArg (_ * ·) (congrArg wd (ix2_eq _ _ _ rfl rfl)))

theorem reference_out (x : Gated.Rows) (wg wu : Gated.Up) (wd : Gated.Down) (g b : Vec Ideal S1024 .f32) :
    val_main_v35 (F := Ideal) x wg wu wd g b = Cert.Kernel8Ideal.FfnOut.out x wg wu wd g b := by
  funext i
  obtain ⟨s, j, rfl⟩ : ∃ (s : Fin 16384) (j : Fin 1024), i = ix2 s j := ⟨i 0, i 1, ix2_eq i _ _ rfl rfl⟩
  simp only [val_main_v35_apply, val_main_v34_apply, val_main_v33_apply, val_main_v32_apply, val_main_v31_apply, val_main_v30_apply,
    val_main_v29_apply, val_main_v28_apply, val_main_v27_apply, val_main_v26_apply, val_main_v25_apply, val_main_v24_apply,
    val_main_v23_apply, val_main_v22_apply, val_main_v21_apply, val_main_v20_apply, val_main_v19_apply, val_main_v18_apply,
    val_main_v17_apply, val_main_v16_apply, val_main_v15_apply, val_main_v14_apply, val_main_v13_apply, val_main_v12_apply,
    reference_res]
  pointwise [val_main_cst_0, val_main_cst_1, val_main_cst_2, val_main_cst_3, val_main_cst_4]
  simp only [Reals.lit_1024, Reals.lit_eps]
  have e1 (k : Fin 1024) : idx_main_v12 (idx_main_v13 (idx_main_v23 (ix2 s j))) k = ix2 s k := ix2_eq _ _ _ rfl rfl
  have e2 (k : Fin 1024) : idx_main_v19 (idx_main_v20 (idx_main_v28 (ix2 s j))) k = ix2 s k := ix2_eq _ _ _ rfl rfl
  have e3 (k l : Fin 1024) : idx_main_v12 (idx_main_v13 (idx_main_v16 (ix2 s k))) l = ix2 s l := ix2_eq _ _ _ rfl rfl
  have e4 : idx_main_v30 (idx_main_v31 (ix2 s j)) = ix1 j := by
    funext a
    match a with
    | ⟨0, _⟩ => rfl
  have e5 : idx_main_v33 (idx_main_v34 (ix2 s j)) = ix1 j := by
    funext a
    match a with
    | ⟨0, _⟩ => rfl
  simp only [e1, e2, e3, e4, e5]
  rfl

theorem algebraic : Cert.algebraic_Kernel8Ideal_Reference8Ideal (hKernel8Ideal := Cert.Kernel8Ideal.Gen.facts)
    (hReference8Ideal := Cert.Reference8Ideal.Gen.facts) := by
  intro m g m' g' _ hag
  refine ⟨fun c => Cert.Kernel8Ideal.FfnOut.out (Cert.Kernel8Ideal.FfnOut.inp m c) (Cert.Kernel8Ideal.FfnOut.wg m c)
      (Cert.Kernel8Ideal.FfnOut.wu m c) (Cert.Kernel8Ideal.FfnOut.wd m c) (Cert.Kernel8Ideal.FfnOut.scale m c)
      (Cert.Kernel8Ideal.FfnOut.shift m c),
    fun c => Cert.Kernel8Ideal.FfnOut.res (Cert.Kernel8Ideal.FfnOut.inp m c) (Cert.Kernel8Ideal.FfnOut.wg m c)
      (Cert.Kernel8Ideal.FfnOut.wu m c) (Cert.Kernel8Ideal.FfnOut.wd m c),
    fun c => Cert.Kernel8Ideal.FfnOut.act (Cert.Kernel8Ideal.FfnOut.inp m c) (Cert.Kernel8Ideal.FfnOut.wg m c)
      (Cert.Kernel8Ideal.FfnOut.wu m c), ?_, ?_⟩
  · refine (θ_run Cert.Kernel8Ideal.defs _ _).mono (fun r h c => ?_) (Cert.Kernel8Ideal.Value.run_blocks m g)
    obtain ⟨h4, h5, h6, hargs⟩ := h c
    exact ⟨h4.trans (Cert.Kernel8Ideal.FfnOut.final4 m c), h5.trans (Cert.Kernel8Ideal.FfnOut.final5 m c),
      h6.trans (Cert.Kernel8Ideal.FfnOut.final6 m c), hargs⟩
  · refine (θ_run Cert.Reference8Ideal.defs _ _).mono (fun r h c => ?_) (Cert.Reference8Ideal.Value.run m' g')
    obtain ⟨h4, h5, h6, hargs⟩ := h c
    obtain ⟨e0, e1, e2, e3, e4, e5⟩ := hag c
    refine ⟨(h4.trans (val_main_v35_eq m' c)).trans ((reference_out _ _ _ _ _ _).trans ?_),
      (h5.trans (val_main_v11_eq _ _ _ _)).trans ((reference_res _ _ _ _).trans ?_),
      (h6.trans (val_main_v36_eq _ _ _)).trans ((reference_act _ _ _).trans ?_), hargs⟩
    · rw [e0, e1, e2, e3, e4, e5]
    · rw [e0, e1, e2, e3]
    · rw [e0, e1, e2]

theorem reference_frame : Cert.quiescent_Reference8Ideal (hReference8Ideal := Cert.Reference8Ideal.Gen.facts) :=
  fun m g _ => (θ_run _ _ _).mono (fun r h => ⟨fun c => (h c).2.2.2, sem_eq_zero_of_no_sems (by decide) r.2⟩)
    (Cert.Reference8Ideal.Value.run m g)

end Cert.Proof.FfnOut

end
-- ==== Proof.GradLeft.lean ====
/- The gradient of a square weight whose input the call reads in full precision and casts tile by tile: the product of the
   transposed input with the cotangent, accumulated over the rows, is the gradient of `a @ w`. -/
module

public import proofs.«01_k».proof.Defs
public import proofs.«01_k».proof.Proof.GradSquare
public import proofs.«01_k».proof.Proof.Gen.Kernel9Ideal.Value
public import proofs.«01_k».proof.Proof.Gen.Reference9Ideal.Run
public import proofs.«01_k».proof.Proof.Gen.Reference9Ideal.Read

@[expose] public section

set_option maxRecDepth 16384

noncomputable section

namespace Cert.Kernel9Ideal.Grad

open Cert.Kernel9Ideal Cert.Kernel9Ideal.Gen Cert.Kernel9Ideal.Value Idealize.ShloMosaic Idealize.ShloMosaic.TcCoe Cert.Sums

theorem pay2_apply (acc : Vec Ideal S1x1024x1024 .f32) (x0 : Vec Ideal S1024x1024 .f32)
    (x1 : Vec Ideal S1024x1024 .bf16) (y : S1x1024x1024.Idx) :
    k0_pay2 (F := Ideal) acc x0 x1 y = acc y + ∑ r : Fin 1024, x0 (ix2 r (y 1)) * x1 (ix2 r (y 2)) := by
  pointwise [k0_pay2]

theorem pay1_apply (y : S1x1024x1024.Idx) : k0_pay1 (F := Ideal) y = 0 := by
  pointwise [k0_pay1]

variable (m : (ℓ : Loc nD τ sig) → Buf (Elt Ideal) ℓ)

/-- The input of the product. -/
abbrev inp (c : Dev nD) : Vec Ideal S16384x1024 .f32 := m ((c : Thread nD τ).loc main_arg0)
/-- The cotangent. -/
abbrev cot (c : Dev nD) : Vec Ideal S16384x1024 .f32 := m ((c : Thread nD τ).loc main_arg2)

theorem entry_inp (c : Dev nD) (i : S16384x1024.Idx) : (V m c main_arg0 : Vec Ideal S16384x1024 .f32) i = inp m c i := by
  simp only [V, hostOps0, List.flatten_cons, List.flatten_nil, List.cons_append, List.nil_append, List.append_nil]
  entry_read
  rfl

theorem entry_cot (c : Dev nD) (i : S16384x1024.Idx) : (V m c main_v0 : Vec Ideal S16384x1024 .bf16) i = cot m c i := by
  simp only [V, hostOps0, List.flatten_cons, List.flatten_nil, List.cons_append, List.nil_append, List.append_nil]
  entry_read
  pointwise

theorem idx0 : ∀ t : Fin cfg0.N, win0_0.index t = ![t.val % 16, 0] := by decide +kernel
theorem idx1 : ∀ t : Fin cfg0.N, win0_1.index t = ![t.val % 16, 0] := by decide +kernel

theorem blk0 (c : Dev nD) (t : Fin cfg0.N) (i : S1024x1024.Idx) :
    (iblk m c 0 t : Vec Ideal S1024x1024 .f32) i = inp m c (ix2 (tileRow t.val (i 0)) (i 1)) := by
  have e : (iblk m c 0 t : Vec Ideal S1024x1024 .f32) i = (V m c main_arg0 : Vec Ideal S16384x1024 .f32) (ix2 (tileRow t.val (i 0)) (i 1)) := by
    blk_ext [iblk, idx0 t, tileRow]
  rw [e]
  exact entry_inp m c _

theorem blk1 (c : Dev nD) (t : Fin cfg0.N) (i : S1024x1024.Idx) :
    (iblk m c 1 t : Vec Ideal S1024x1024 .bf16) i = cot m c (ix2 (tileRow t.val (i 0)) (i 1)) := by
  have e : (iblk m c 1 t : Vec Ideal S1024x1024 .bf16) i = (V m c main_v0 : Vec Ideal S16384x1024 .bf16) (ix2 (tileRow t.val (i 0)) (i 1)) := by
    blk_ext [iblk, idx1 t, tileRow]
  rw [e]
  exact entry_cot m c _

theorem final (c : Dev nD) : G2 m c = Kernel4Ideal.Grad.grad (inp m c) (cot m c) := by
  funext i
  unfold G2
  have h0 : (i 0).val < 1 := (i 0).isLt
  have h1 : (i 1).val < 1024 := (i 1).isLt
  have h2 : (i 2).val < 1024 := (i 2).isLt
  have hq : run2Of i = 0 := by unfold run2Of; omega
  rw [dif_pos (by rw [hq]; decide)]
  refine (sweep (reset2 m c) (step2 m c) (run2Of i) (fun y s => inp m c (ix2 s (y 1)) * cot m c (ix2 s (y 2)))
    (fun n h y _ => ?_) (fun n h acc y _ => ?_) _ (loc2Of i)).trans ?_
  · unfold reset2
    rw [pay2_apply, pay1_apply, zero_add]
    exact Finset.sum_congr rfl fun r _ => congrArg₂ (· * ·) (blk0 m c ⟨n, h⟩ _) (blk1 m c ⟨n, h⟩ _)
  · unfold step2
    rw [pay2_apply]
    exact congrArg (acc y + ·) (Finset.sum_congr rfl fun r _ => congrArg₂ (· * ·) (blk0 m c ⟨n, h⟩ _) (blk1 m c ⟨n, h⟩ _))
  · have e1 : loc2Of i 1 = i 1 := Fin.ext (Nat.mod_eq_of_lt h1)
    have e2 : loc2Of i 2 = i 2 := Fin.ext (Nat.mod_eq_of_lt h2)
    rw [e1, e2]
    rfl

end Cert.Kernel9Ideal.Grad

namespace Cert.Proof.GradLeft

open Idealize.ShloMosaic Idealize.ShloMosaic.TcCoe Idealize.SL.Sem Cert.Reference9Ideal Cert.Reference9Ideal.Gen Cert.Reference9Ideal.Read

theorem reference (a d : Vec Ideal S16384x1024 .f32) : val_main_v3 (F := Ideal) a d = Cert.Kernel4Ideal.Grad.grad a d :=
  GradSquare.reference a d

theorem algebraic : Cert.algebraic_Kernel9Ideal_Reference9Ideal (hKernel9Ideal := Cert.Kernel9Ideal.Gen.facts)
    (hReference9Ideal := Cert.Reference9Ideal.Gen.facts) := by
  intro m g m' g' _ hag
  refine ⟨fun c => Cert.Kernel4Ideal.Grad.grad (Cert.Kernel9Ideal.Grad.inp m c) (Cert.Kernel9Ideal.Grad.cot m c), ?_, ?_⟩
  · refine (θ_run Cert.Kernel9Ideal.defs _ _).mono (fun r h c => ?_) (Cert.Kernel9Ideal.Value.run m g)
    exact ⟨(h c).1.trans (Cert.Kernel9Ideal.Grad.final m c), (h c).2⟩
  · refine (θ_run Cert.Reference9Ideal.defs _ _).mono (fun r h c => ?_) (Cert.Reference9Ideal.Value.run m' g')
    refine ⟨((h c).1.trans (val_main_v3_eq _ _)).trans ((reference _ _).trans ?_), (h c).2⟩
    exact congrArg₂ Cert.Kernel4Ideal.Grad.grad (hag c).1 (hag c).2.2

theorem reference_frame : Cert.quiescent_Reference9Ideal (hReference9Ideal := Cert.Reference9Ideal.Gen.facts) :=
  fun m g _ => (θ_run _ _ _).mono (fun r h => ⟨fun c => (h c).2, sem_eq_zero_of_no_sems (by decide) r.2⟩)
    (Cert.Reference9Ideal.Value.run m g)

end Cert.Proof.GradLeft

end
-- ==== Proof.GradRight.lean ====
/- The gradient of a square weight whose cotangent the call reads in full precision and casts tile by tile: the product of the
   transposed input with the cotangent, accumulated over the rows, is the gradient of `a @ w`. -/
module

public import proofs.«01_k».proof.Defs
public import proofs.«01_k».proof.Proof.GradSquare
public import proofs.«01_k».proof.Proof.Gen.Kernel10Ideal.Value
public import proofs.«01_k».proof.Proof.Gen.Reference10Ideal.Run
public import proofs.«01_k».proof.Proof.Gen.Reference10Ideal.Read

@[expose] public section

set_option maxRecDepth 16384

noncomputable section

namespace Cert.Kernel10Ideal.Grad

open Cert.Kernel10Ideal Cert.Kernel10Ideal.Gen Cert.Kernel10Ideal.Value Idealize.ShloMosaic Idealize.ShloMosaic.TcCoe Cert.Sums

theorem pay2_apply (acc : Vec Ideal S1x1024x1024 .f32) (x0 : Vec Ideal S1024x1024 .bf16)
    (x1 : Vec Ideal S1024x1024 .f32) (y : S1x1024x1024.Idx) :
    k0_pay2 (F := Ideal) acc x0 x1 y = acc y + ∑ r : Fin 1024, x0 (ix2 r (y 1)) * x1 (ix2 r (y 2)) := by
  pointwise [k0_pay2]

theorem pay1_apply (y : S1x1024x1024.Idx) : k0_pay1 (F := Ideal) y = 0 := by
  pointwise [k0_pay1]

variable (m : (ℓ : Loc nD τ sig) → Buf (Elt Ideal) ℓ)

/-- The input of the product. -/
abbrev inp (c : Dev nD) : Vec Ideal S16384x1024 .f32 := m ((c : Thread nD τ).loc main_arg0)
/-- The cotangent. -/
abbrev cot (c : Dev nD) : Vec Ideal S16384x1024 .f32 := m ((c : Thread nD τ).loc main_arg2)

theorem entry_inp (c : Dev nD) (i : S16384x1024.Idx) : (V m c main_v0 : Vec Ideal S16384x1024 .bf16) i = inp m c i := by
  simp only [V, hostOps0, List.flatten_cons, List.flatten_nil, List.cons_append, List.nil_append, List.append_nil]
  entry_read
  pointwise

theorem entry_cot (c : Dev nD) (i : S16384x1024.Idx) : (V m c main_arg2 : Vec Ideal S16384x1024 .f32) i = cot m c i := by
  simp only [V, hostOps0, List.flatten_cons, List.flatten_nil, List.cons_append, List.nil_append, List.append_nil]
  entry_read
  rfl

theorem idx0 : ∀ t : Fin cfg0.N, win0_0.index t = ![t.val % 16, 0] := by decide +kernel
theorem idx1 : ∀ t : Fin cfg0.N, win0_1.index t = ![t.val % 16, 0] := by decide +kernel

theorem blk0 (c : Dev nD) (t : Fin cfg0.N) (i : S1024x1024.Idx) :
    (iblk m c 0 t : Vec Ideal S1024x1024 .bf16) i = inp m c (ix2 (tileRow t.val (i 0)) (i 1)) := by
  have e : (iblk m c 0 t : Vec Ideal S1024x1024 .bf16) i = (V m c main_v0 : Vec Ideal S16384x1024 .bf16) (ix2 (tileRow t.val (i 0)) (i 1)) := by
    blk_ext [iblk, idx0 t, tileRow]
  rw [e]
  exact entry_inp m c _

theorem blk1 (c : Dev nD) (t : Fin cfg0.N) (i : S1024x1024.Idx) :
    (iblk m c 1 t : Vec Ideal S1024x1024 .f32) i = cot m c (ix2 (tileRow t.val (i 0)) (i 1)) := by
  have e : (iblk m c 1 t : Vec Ideal S1024x1024 .f32) i = (V m c main_arg2 : Vec Ideal S16384x1024 .f32) (ix2 (tileRow t.val (i 0)) (i 1)) := by
    blk_ext [iblk, idx1 t, tileRow]
  rw [e]
  exact entry_cot m c _

theorem final (c : Dev nD) : G2 m c = Kernel4Ideal.Grad.grad (inp m c) (cot m c) := by
  funext i
  unfold G2
  have h0 : (i 0).val < 1 := (i 0).isLt
  have h1 : (i 1).val < 1024 := (i 1).isLt
  have h2 : (i 2).val < 1024 := (i 2).isLt
  have hq : run2Of i = 0 := by unfold run2Of; omega
  rw [dif_pos (by rw [hq]; decide)]
  refine (sweep (reset2 m c) (step2 m c) (run2Of i) (fun y s => inp m c (ix2 s (y 1)) * cot m c (ix2 s (y 2)))
    (fun n h y _ => ?_) (fun n h acc y _ => ?_) _ (loc2Of i)).trans ?_
  · unfold reset2
    rw [pay2_apply, pay1_apply, zero_add]
    exact Finset.sum_congr rfl fun r _ => congrArg₂ (· * ·) (blk0 m c ⟨n, h⟩ _) (blk1 m c ⟨n, h⟩ _)
  · unfold step2
    rw [pay2_apply]
    exact congrArg (acc y + ·) (Finset.sum_congr rfl fun r _ => congrArg₂ (· * ·) (blk0 m c ⟨n, h⟩ _) (blk1 m c ⟨n, h⟩ _))
  · have e1 : loc2Of i 1 = i 1 := Fin.ext (Nat.mod_eq_of_lt h1)
    have e2 : loc2Of i 2 = i 2 := Fin.ext (Nat.mod_eq_of_lt h2)
    rw [e1, e2]
    rfl

end Cert.Kernel10Ideal.Grad

namespace Cert.Proof.GradRight

open Idealize.ShloMosaic Idealize.ShloMosaic.TcCoe Idealize.SL.Sem Cert.Reference10Ideal Cert.Reference10Ideal.Gen Cert.Reference10Ideal.Read

theorem reference (a d : Vec Ideal S16384x1024 .f32) : val_main_v3 (F := Ideal) a d = Cert.Kernel4Ideal.Grad.grad a d :=
  GradSquare.reference a d

theorem algebraic : Cert.algebraic_Kernel10Ideal_Reference10Ideal (hKernel10Ideal := Cert.Kernel10Ideal.Gen.facts)
    (hReference10Ideal := Cert.Reference10Ideal.Gen.facts) := by
  intro m g m' g' _ hag
  refine ⟨fun c => Cert.Kernel4Ideal.Grad.grad (Cert.Kernel10Ideal.Grad.inp m c) (Cert.Kernel10Ideal.Grad.cot m c), ?_, ?_⟩
  · refine (θ_run Cert.Kernel10Ideal.defs _ _).mono (fun r h c => ?_) (Cert.Kernel10Ideal.Value.run m g)
    exact ⟨(h c).1.trans (Cert.Kernel10Ideal.Grad.final m c), (h c).2⟩
  · refine (θ_run Cert.Reference10Ideal.defs _ _).mono (fun r h c => ?_) (Cert.Reference10Ideal.Value.run m' g')
    refine ⟨((h c).1.trans (val_main_v3_eq _ _)).trans ((reference _ _).trans ?_), (h c).2⟩
    exact congrArg₂ Cert.Kernel4Ideal.Grad.grad (hag c).1 (hag c).2.2

theorem reference_frame : Cert.quiescent_Reference10Ideal (hReference10Ideal := Cert.Reference10Ideal.Gen.facts) :=
  fun m g _ => (θ_run _ _ _).mono (fun r h => ⟨fun c => (h c).2, sem_eq_zero_of_no_sems (by decide) r.2⟩)
    (Cert.Reference10Ideal.Value.run m g)

end Cert.Proof.GradRight

end
-- ==== Proof.FfnLoss.lean ====
/- The feed-forward's second call in the last layer, where it also takes the loss: from the pair of pre-activations the activation,
   the residual row, of that row the layer norm, and of its distance to the target the loss and the loss's gradient. -/
module

public import proofs.«01_k».proof.Proof.FfnOut
public import proofs.«01_k».proof.Proof.Sums
public import proofs.«01_k».proof.Proof.Gen.Kernel11Ideal.Value
public import proofs.«01_k».proof.Proof.Gen.Reference11Ideal.Run
public import proofs.«01_k».proof.Proof.Gen.Reference11Ideal.Read
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Kernel11Ideal.FfnLoss

open Cert.Kernel11Ideal Cert.Kernel11Ideal.Gen Idealize.ShloMosaic Idealize.ShloMosaic.TcCoe
open Cert.Kernel8Ideal.FfnOut (half_tanh norm mean var blkAct blkAct_at row idx_ext res out act)

/-- One half and the row's length, as extended reals. -/
abbrev half : EReal := ((1 / 2 : ℝ) : EReal)
abbrev len : EReal := ((1024 : ℝ) : EReal)

theorem pay22_apply (r : Vec Ideal S256x1024 .f32) (g b : Vec Ideal S1x1024 .f32) (tg : Vec Ideal S256x1024 .f32) (y : S256x1024.Idx) :
    k0_pay22 (F := Ideal) r g b tg y
      = norm (fun k => r (ix2 (y 0) k)) (fun k => g (ix2 0 k)) (fun k => b (ix2 0 k)) (y 1) - tg y := by
  obtain ⟨p, q, rfl⟩ : ∃ p q, y = ix2 p q := ⟨y 0, y 1, (idx_ext rfl rfl).symm⟩
  pointwise [k0_pay22]
  simp only [Reals.lit_1024, Reals.lit_eps]
  rfl

theorem pay20_apply (x : Vec Ideal S256x1024 .f32) (a : Vec Ideal S256x2816 .bf16) (w : Vec Ideal S2816x1024 .bf16)
    (y : S256x1024.Idx) :
    k0_pay20 (F := Ideal) x a w y = ((Reals.alpha : ℝ) : EReal) * x y + ∑ k : Fin 2816, a (ix2 (y 0) k) * w (ix2 k (y 1)) := by
  pointwise [k0_pay20]
  simp only [Reals.lit_alpha]

theorem pay23_apply (r : Vec Ideal S256x1024 .f32) (g b : Vec Ideal S1x1024 .f32) (tg : Vec Ideal S256x1024 .f32) (y : S256x1024.Idx) :
    k0_pay23 (F := Ideal) r g b tg y = Ideal.div (k0_pay22 (F := Ideal) r g b tg y) len := by
  pointwise [k0_pay23]
  simp only [Reals.lit_1024]

theorem pay1_apply (a : Vec Ideal S1x1 .f32) (r : Vec Ideal S256x1024 .f32) (g b : Vec Ideal S1x1024 .f32)
    (tg : Vec Ideal S256x1024 .f32) (y : S1x1.Idx) :
    k0_pay1 (F := Ideal) (k0_pay24 a) (k0_pay25 r g b tg) y
      = a y + half * ∑ s : Fin 256, Ideal.div (∑ j : Fin 1024, k0_pay22 (F := Ideal) r g b tg (ix2 s j)
          * k0_pay22 (F := Ideal) r g b tg (ix2 s j)) len := by
  pointwise [k0_pay1, k0_pay24, k0_pay25]
  simp only [Reals.lit_1024, Reals.lit_half]

section
variable (c : Dev nD) (i : grid0.Coords) (a1 : Memref sig .tc .vmem S256x1024 .f32) (w1 : a1.IsWhole)
  (a2 : Memref sig .tc .vmem S256x5632 .f32) (w2 : a2.IsWhole) (a3 : Memref sig .tc .vmem S2816x1024 .bf16) (w3 : a3.IsWhole)
  (a4 : Memref sig .tc .vmem S24x1024 .f32) (w4 : a4.IsWhole) (a5 : Memref sig .tc .vmem S256x1024 .f32) (w5 : a5.IsWhole)
  (a6 : Memref sig .tc .vmem S256x1024 .f32) (w6 : a6.IsWhole) (a7 : Memref sig .tc .vmem S256x1024 .f32) (w7 : a7.IsWhole)
  (a8 : Memref sig .tc .vmem S256x2816 .bf16) (w8 : a8.IsWhole) (a9 : Memref sig .tc .vmem S1x1 .f32) (w9 : a9.IsWhole)
  (x0 : Vec Ideal S256x1024 .f32) (x1 : Vec Ideal S256x5632 .f32) (x2 : Vec Ideal S2816x1024 .bf16) (x3 : Vec Ideal S24x1024 .f32)
  (x4 : Vec Ideal S256x1024 .f32)

/-- A block's residual row, and its distance to the target. -/
def blkRes (r : Fin 256) (j : Fin 1024) : EReal :=
  ((Reals.alpha : ℝ) : EReal) * x0 (ix2 r j) + ∑ k : Fin 2816, blkAct x1 r k * x2 (ix2 k j)
def blkErr (r : Fin 256) (j : Fin 1024) : EReal :=
  norm (blkRes x0 x1 x2 r) (fun j => x3 (ix2 14 j)) (fun j => x3 (ix2 17 j)) j - x4 (ix2 r j)

/-- A block's part of the loss. -/
def blkLoss : EReal := half * ∑ r : Fin 256, Ideal.div (∑ j : Fin 1024, blkErr x0 x1 x2 x3 x4 r j * blkErr x0 x1 x2 x3 x4 r j) len

/-- What a grid point stores, at the first point and at the others alike. -/
theorem out7 (y : S256x2816.Idx) :
    (∀ hc, out0_A_7 c i a1 w1 a2 w2 a3 w3 a4 w4 a5 w5 a6 w6 a7 w7 a8 w8 a9 w9 hc x0 x1 x2 x3 x4 y = blkAct x1 (y 0) (y 1))
    ∧ ∀ hc xo, out0_B_7 c i a1 w1 a2 w2 a3 w3 a4 w4 a5 w5 a6 w6 a7 w7 a8 w8 a9 w9 hc x0 x1 x2 x3 x4 xo y = blkAct x1 (y 0) (y 1) := by
  constructor
  all_goals
    intros
    frame_out
    canon_tiles x h
    all_goals
      pointwise [k0_pay2, k0_pay3, k0_pay4, k0_pay5, k0_pay6, k0_pay7, k0_pay8, k0_pay9, k0_pay10, k0_pay11, k0_pay12, k0_pay13,
        k0_pay14, k0_pay15, k0_pay16, k0_pay17, k0_pay18, k0_pay19]
      simp only [Reals.lit_half, half_tanh]
      refine blkAct_at x1 _ _ _ _ _ h0 ?_ ?_
      · exact h1
      · first
          | (rw [h1]; done)
          | (rw [h1]; exact (Nat.add_assoc 2816 _ _).symm)

theorem out6 (y : S256x1024.Idx) :
    (∀ hc, out0_A_6 c i a1 w1 a2 w2 a3 w3 a4 w4 a5 w5 a6 w6 a7 w7 a8 w8 a9 w9 hc x0 x1 x2 x3 x4 y = blkRes x0 x1 x2 (y 0) (y 1))
    ∧ ∀ hc xo, out0_B_6 c i a1 w1 a2 w2 a3 w3 a4 w4 a5 w5 a6 w6 a7 w7 a8 w8 a9 w9 hc x0 x1 x2 x3 x4 xo y = blkRes x0 x1 x2 (y 0) (y 1) := by
  constructor
  · intro hc
    have h7 := fun j => (out7 c i a1 w1 a2 w2 a3 w3 a4 w4 a5 w5 a6 w6 a7 w7 a8 w8 a9 w9 x0 x1 x2 x3 x4 j).1 hc
    frame_out at h7
    frame_out
    simp only [View.readCov_eq_canon', h7]
    rw [pay20_apply]
    pointwise
    rw [← idx_ext (i := y) rfl rfl]
    rfl
  · intro hc xo
    have h7 := fun j => (out7 c i a1 w1 a2 w2 a3 w3 a4 w4 a5 w5 a6 w6 a7 w7 a8 w8 a9 w9 x0 x1 x2 x3 x4 j).2 hc xo
    frame_out at h7
    frame_out
    simp only [View.readCov_eq_canon', h7]
    rw [pay20_apply]
    pointwise
    rw [← idx_ext (i := y) rfl rfl]
    rfl

theorem out5 (y : S256x1024.Idx) :
    (∀ hc, out0_A_5 c i a1 w1 a2 w2 a3 w3 a4 w4 a5 w5 a6 w6 a7 w7 a8 w8 a9 w9 hc x0 x1 x2 x3 x4 y = Ideal.div (blkErr x0 x1 x2 x3 x4 (y 0) (y 1)) len)
    ∧ ∀ hc xo, out0_B_5 c i a1 w1 a2 w2 a3 w3 a4 w4 a5 w5 a6 w6 a7 w7 a8 w8 a9 w9 hc x0 x1 x2 x3 x4 xo y = Ideal.div (blkErr x0 x1 x2 x3 x4 (y 0) (y 1)) len := by
  constructor
  · intro hc
    have h7 := fun j => (out7 c i a1 w1 a2 w2 a3 w3 a4 w4 a5 w5 a6 w6 a7 w7 a8 w8 a9 w9 x0 x1 x2 x3 x4 j).1 hc
    frame_out at h7
    frame_out
    simp only [View.readCov_eq_canon', h7]
    rw [pay23_apply, pay22_apply]
    simp only [pay20_apply]
    pointwise
    rw [← idx_ext (i := y) rfl rfl]
    rfl
  · intro hc xo
    have h7 := fun j => (out7 c i a1 w1 a2 w2 a3 w3 a4 w4 a5 w5 a6 w6 a7 w7 a8 w8 a9 w9 x0 x1 x2 x3 x4 j).2 hc xo
    frame_out at h7
    frame_out
    simp only [View.readCov_eq_canon', h7]
    rw [pay23_apply, pay22_apply]
    simp only [pay20_apply]
    pointwise
    rw [← idx_ext (i := y) rfl rfl]
    rfl

theorem out8_A (hc : cond0_0 i) (y : S1x1.Idx) :
    out0_A_8 c i a1 w1 a2 w2 a3 w3 a4 w4 a5 w5 a6 w6 a7 w7 a8 w8 a9 w9 hc x0 x1 x2 x3 x4 y = blkLoss x0 x1 x2 x3 x4 := by
  have h7 := fun j => (out7 c i a1 w1 a2 w2 a3 w3 a4 w4 a5 w5 a6 w6 a7 w7 a8 w8 a9 w9 x0 x1 x2 x3 x4 j).1 hc
  frame_out at h7
  frame_out
  simp only [View.readCov_eq_canon', h7]
  rw [pay1_apply]
  simp only [pay22_apply, pay20_apply]
  pointwise [k0_pay21]
  rfl

theorem out8_B (hc : ¬ cond0_0 i) (xo : Vec Ideal S1x1 .f32) (y : S1x1.Idx) :
    out0_B_8 c i a1 w1 a2 w2 a3 w3 a4 w4 a5 w5 a6 w6 a7 w7 a8 w8 a9 w9 hc x0 x1 x2 x3 x4 xo y = xo y + blkLoss x0 x1 x2 x3 x4 := by
  have h7 := fun j => (out7 c i a1 w1 a2 w2 a3 w3 a4 w4 a5 w5 a6 w6 a7 w7 a8 w8 a9 w9 x0 x1 x2 x3 x4 j).2 hc xo
  frame_out at h7
  frame_out
  simp only [View.readCov_eq_canon', h7]
  rw [pay1_apply]
  simp only [pay22_apply, pay20_apply]
  pointwise
  rfl

end

variable (m : (ℓ : Loc nD τ sig) → Buf (Elt Ideal) ℓ)

/-- The input, the three weights, the norm's scale and shift, and the target. -/
abbrev inp (c : Dev nD) : Gated.Rows := m ((c : Thread nD τ).loc main_arg0)
abbrev wg (c : Dev nD) : Gated.Up := m ((c : Thread nD τ).loc main_arg1)
abbrev wu (c : Dev nD) : Gated.Up := m ((c : Thread nD τ).loc main_arg2)
abbrev wd (c : Dev nD) : Gated.Down := m ((c : Thread nD τ).loc main_arg3)
abbrev scale (c : Dev nD) : Vec Ideal S1024 .f32 := m ((c : Thread nD τ).loc main_arg4)
abbrev shift (c : Dev nD) : Vec Ideal S1024 .f32 := m ((c : Thread nD τ).loc main_arg5)
abbrev goal (c : Dev nD) : Gated.Rows := m ((c : Thread nD τ).loc main_arg6)

theorem entry_pair (c : Dev nD) (i : S16384x5632.Idx) :
    (V m c main_v2 : Vec Ideal S16384x5632 .f32) i
      = if h : (i 1).val < 2816 then Gated.pre (inp m c) (wg m c) (i 0) ⟨(i 1).val, h⟩
        else Gated.pre (inp m c) (wu m c) (i 0) ⟨(i 1).val - 2816, by have : (i 1).val < 5632 := (i 1).isLt; omega⟩ := by
  simp only [V, hostOps0, List.flatten_cons, List.flatten_nil, List.cons_append, List.nil_append, List.append_nil]
  entry_read
  pointwise
  split <;> rfl

theorem entry_wd (c : Dev nD) (i : S2816x1024.Idx) : (V m c main_v8 : Vec Ideal S2816x1024 .bf16) i = wd m c i := by
  simp only [V, hostOps0, List.flatten_cons, List.flatten_nil, List.cons_append, List.nil_append, List.append_nil]
  entry_read
  pointwise

theorem entry_scale (c : Dev nD) (j : Fin 1024) : (V m c main_v7 : Vec Ideal S24x1024 .f32) (ix2 14 j) = scale m c (ix1 j) := by
  simp only [V, hostOps0, List.flatten_cons, List.flatten_nil, List.cons_append, List.nil_append, List.append_nil]
  entry_read
  exact (Cert.KernelIdeal.Ffn.scatter_other _ 17#32 _ (ix2 14 j) (show ((14 : Fin 24).val : Int) ≠ (17#32).toInt by decide)).trans
    (Cert.KernelIdeal.Ffn.scatter_row _ 14#32 _ (ix2 14 j) (show ((14 : Fin 24).val : Int) = (14#32).toInt by decide))

theorem entry_shift (c : Dev nD) (j : Fin 1024) : (V m c main_v7 : Vec Ideal S24x1024 .f32) (ix2 17 j) = shift m c (ix1 j) := by
  simp only [V, hostOps0, List.flatten_cons, List.flatten_nil, List.cons_append, List.nil_append, List.append_nil]
  entry_read
  exact Cert.KernelIdeal.Ffn.scatter_row _ 17#32 _ (ix2 17 j) (show ((17 : Fin 24).val : Int) = (17#32).toInt by decide)

theorem idx0 : ∀ t : Fin cfg0.N, win0_0.index t = ![t.val % 64, 0] := by decide +kernel
theorem idx1 : ∀ t : Fin cfg0.N, win0_1.index t = ![t.val % 64, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![t.val % 64, 0] := by decide +kernel
theorem idx5 : ∀ t : Fin cfg0.N, win0_5.index t = ![t.val % 64, 0] := by decide +kernel
theorem idx6 : ∀ t : Fin cfg0.N, win0_6.index t = ![t.val % 64, 0] := by decide +kernel
theorem idx7 : ∀ t : Fin cfg0.N, win0_7.index t = ![t.val % 64, 0] := by decide +kernel

theorem blk0 (c : Dev nD) (t : Fin cfg0.N) (i : S256x1024.Idx) :
    (iblk m c 0 t : Vec Ideal S256x1024 .f32) i = inp m c (ix2 (row t.val (i 0)) (i 1)) := by
  have e : (iblk m c 0 t : Vec Ideal S256x1024 .f32) i
      = (V m c main_arg0 : Vec Ideal S16384x1024 .f32) (ix2 (row t.val (i 0)) (i 1)) := by
    blk_ext [iblk, idx0 t, row]
  rw [e]
  exact congrFun (V_main_arg0 m c) _

theorem blk4 (c : Dev nD) (t : Fin cfg0.N) (i : S256x1024.Idx) :
    (iblk m c 4 t : Vec Ideal S256x1024 .f32) i = goal m c (ix2 (row t.val (i 0)) (i 1)) := by
  have e : (iblk m c 4 t : Vec Ideal S256x1024 .f32) i
      = (V m c main_arg6 : Vec Ideal S16384x1024 .f32) (ix2 (row t.val (i 0)) (i 1)) := by
    blk_ext [iblk, idx4 t, row]
  rw [e]
  exact congrFun (V_main_arg6 m c) _

theorem blk1 (c : Dev nD) (t : Fin cfg0.N) (r : Fin 256) (k : Fin 2816) :
    blkAct (iblk m c 1 t : Vec Ideal S256x5632 .f32) r k = Gated.act (inp m c) (wg m c) (wu m c) (row t.val r) k := by
  have e (i : S256x5632.Idx) : (iblk m c 1 t : Vec Ideal S256x5632 .f32) i
      = (V m c main_v2 : Vec Ideal S16384x5632 .f32) (ix2 (row t.val (i 0)) (i 1)) := by
    blk_ext [iblk, idx1 t, row]
  have elo : (iblk m c 1 t : Vec Ideal S256x5632 .f32) (ix2 r ⟨k.val, by omega⟩) = Gated.pre (inp m c) (wg m c) (row t.val r) k :=
    (e _).trans ((entry_pair m c _).trans (dif_pos k.isLt))
  have ehi : (iblk m c 1 t : Vec Ideal S256x5632 .f32) (ix2 r ⟨2816 + k.val, by omega⟩) = Gated.pre (inp m c) (wu m c) (row t.val r) k := by
    refine (e _).trans ((entry_pair m c _).trans ((dif_neg (Nat.not_lt.mpr (Nat.le_add_right 2816 k.val))).trans ?_))
    exact congrArg (Gated.pre (inp m c) (wu m c) (row t.val r)) (Fin.ext (Nat.add_sub_cancel_left 2816 k.val))
  unfold blkAct
  rw [elo, ehi]
  rfl

theorem blk2 (c : Dev nD) (t : Fin cfg0.N) (i : S2816x1024.Idx) :
    (iblk m c 2 t : Vec Ideal S2816x1024 .bf16) i = wd m c i := by
  have e : (iblk m c 2 t : Vec Ideal S2816x1024 .bf16) i = (V m c main_v8 : Vec Ideal S2816x1024 .bf16) i := by
    blk_ext [iblk, idx2 t, row]
  rw [e]
  exact entry_wd m c _

theorem blk3 (c : Dev nD) (t : Fin cfg0.N) (i : S24x1024.Idx) :
    (iblk m c 3 t : Vec Ideal S24x1024 .f32) i = (V m c main_v7 : Vec Ideal S24x1024 .f32) i := by
  blk_ext [iblk, idx3 t, row]

/-- A row's distance to the target, the loss's gradient there, and the loss. -/
def err (x : Gated.Rows) (wg wu : Gated.Up) (wd : Gated.Down) (g b : Vec Ideal S1024 .f32) (tg : Gated.Rows) (s : Fin 16384) (j : Fin 1024) : EReal :=
  out x wg wu wd g b (ix2 s j) - tg (ix2 s j)
def lossGrad (x : Gated.Rows) (wg wu : Gated.Up) (wd : Gated.Down) (g b : Vec Ideal S1024 .f32) (tg : Gated.Rows) : Vec Ideal S16384x1024 .f32 := fun i =>
  Ideal.div (err x wg wu wd g b tg (i 0) (i 1)) len
def token (x : Gated.Rows) (wg wu : Gated.Up) (wd : Gated.Down) (g b : Vec Ideal S1024 .f32) (tg : Gated.Rows) (s : Fin 16384) : EReal :=
  Ideal.div (∑ j : Fin 1024, err x wg wu wd g b tg s j * err x wg wu wd g b tg s j) len
def loss (x : Gated.Rows) (wg wu : Gated.Up) (wd : Gated.Down) (g b : Vec Ideal S1024 .f32) (tg : Gated.Rows) : Vec Ideal S1x1 .f32 := fun _ =>
  half * ∑ s : Fin 16384, token x wg wu wd g b tg s

theorem res_at (c : Dev nD) (t : Fin cfg0.N) (r : Fin 256) (j : Fin 1024) :
    blkRes (iblk m c 0 t : Vec Ideal S256x1024 .f32) (iblk m c 1 t : Vec Ideal S256x5632 .f32)
        (iblk m c 2 t : Vec Ideal S2816x1024 .bf16) r j
      = res (inp m c) (wg m c) (wu m c) (wd m c) (ix2 (row t.val r) j) := by
  refine congrArg₂ (· + ·) (congrArg (((Reals.alpha : ℝ) : EReal) * ·) (blk0 m c t _)) ?_
  exact Finset.sum_congr rfl fun k _ => congrArg₂ (· * ·) (blk1 m c t r k) (blk2 m c t _)

theorem err_at (c : Dev nD) (t : Fin cfg0.N) (r : Fin 256) (j : Fin 1024) :
    blkErr (iblk m c 0 t : Vec Ideal S256x1024 .f32) (iblk m c 1 t : Vec Ideal S256x5632 .f32)
        (iblk m c 2 t : Vec Ideal S2816x1024 .bf16) (iblk m c 3 t : Vec Ideal S24x1024 .f32) (iblk m c 4 t : Vec Ideal S256x1024 .f32) r j
      = err (inp m c) (wg m c) (wu m c) (wd m c) (scale m c) (shift m c) (goal m c) (row t.val r) j := by
  have e1 := funext (res_at m c t r)
  have e2 := funext fun j => (blk3 m c t (ix2 14 j)).trans (entry_scale m c j)
  have e3 := funext fun j => (blk3 m c t (ix2 17 j)).trans (entry_shift m c j)
  unfold blkErr
  rw [e1, e2, e3, blk4]
  rfl

/-- One grid point's part of the loss. -/
def part (c : Dev nD) (t : Fin cfg0.N) : EReal :=
  half * ∑ r : Fin 256, token (inp m c) (wg m c) (wu m c) (wd m c) (scale m c) (shift m c) (goal m c) (row t.val r)

theorem loss_at (c : Dev nD) (t : Fin cfg0.N) :
    blkLoss (iblk m c 0 t : Vec Ideal S256x1024 .f32) (iblk m c 1 t : Vec Ideal S256x5632 .f32)
        (iblk m c 2 t : Vec Ideal S2816x1024 .bf16) (iblk m c 3 t : Vec Ideal S24x1024 .f32) (iblk m c 4 t : Vec Ideal S256x1024 .f32)
      = part m c t := by
  unfold blkLoss part token
  simp only [err_at]

theorem half_mul_sum {ι : Type*} (s : Finset ι) (f : ι → EReal) : half * ∑ i ∈ s, f i = ∑ i ∈ s, half * f i := by
  classical
  have hh : (0 : EReal) ≤ half := by rw [← EReal.coe_zero, EReal.coe_le_coe_iff]; norm_num
  induction s using Finset.induction_on with
  | empty => simp
  | insert a s ha ih => rw [Finset.sum_insert ha, Finset.sum_insert ha, EReal.left_distrib_of_nonneg_of_ne_top hh (EReal.coe_ne_top _), ih]

theorem part_sum (c : Dev nD) :
    ∑ t, part m c t = loss (inp m c) (wg m c) (wu m c) (wd m c) (scale m c) (shift m c) (goal m c) (ix2 0 0) := by
  unfold part loss
  rw [← half_mul_sum]
  refine congrArg (half * ·) (Sums.sum_tiles cfg0.N 256 16384 rfl _ (fun t r => row t.val r) fun t r => ?_)
  have : t.val < 64 := t.isLt
  show t.val % 64 * 256 + r.val = _
  omega

theorem point7 (c : Dev nD) (t : Fin cfg0.N) (y : S256x2816.Idx) :
    (outsAt0 m c t.val t.isLt).2.2.1 y = act (inp m c) (wg m c) (wu m c) (ix2 (row t.val (y 0)) (y 1)) := by
  by_cases h0 : t.val % 64 = 0
  · rw [outsAt0_A m c t h0]
    dsimp only
    rw [(out7 _ _ _ _ _ _ _ _ _ _ _ _ _ _ _ _ _ _ _ _ _ _ _ _ _ y).1]
    exact blk1 m c t _ _
  · rw [outsAt0_B m c t h0]
    dsimp only
    rw [(out7 _ _ _ _ _ _ _ _ _ _ _ _ _ _ _ _ _ _ _ _ _ _ _ _ _ y).2]
    exact blk1 m c t _ _

theorem point6 (c : Dev nD) (t : Fin cfg0.N) (y : S256x1024.Idx) :
    (outsAt0 m c t.val t.isLt).2.1 y = res (inp m c) (wg m c) (wu m c) (wd m c) (ix2 (row t.val (y 0)) (y 1)) := by
  by_cases h0 : t.val % 64 = 0
  · rw [outsAt0_A m c t h0]
    dsimp only
    rw [(out6 _ _ _ _ _ _ _ _ _ _ _ _ _ _ _ _ _ _ _ _ _ _ _ _ _ y).1]
    exact res_at m c t _ _
  · rw [outsAt0_B m c t h0]
    dsimp only
    rw [(out6 _ _ _ _ _ _ _ _ _ _ _ _ _ _ _ _ _ _ _ _ _ _ _ _ _ y).2]
    exact res_at m c t _ _

theorem point5 (c : Dev nD) (t : Fin cfg0.N) (y : S256x1024.Idx) :
    (outsAt0 m c t.val t.isLt).1 y
      = lossGrad (inp m c) (wg m c) (wu m c) (wd m c) (scale m c) (shift m c) (goal m c) (ix2 (row t.val (y 0)) (y 1)) := by
  by_cases h0 : t.val % 64 = 0
  · rw [outsAt0_A m c t h0]
    dsimp only
    rw [(out5 _ _ _ _ _ _ _ _ _ _ _ _ _ _ _ _ _ _ _ _ _ _ _ _ _ y).1]
    exact congrArg (Ideal.div · len) (err_at m c t _ _)
  · rw [outsAt0_B m c t h0]
    dsimp only
    rw [(out5 _ _ _ _ _ _ _ _ _ _ _ _ _ _ _ _ _ _ _ _ _ _ _ _ _ y).2]
    exact congrArg (Ideal.div · len) (err_at m c t _ _)

theorem final7 (c : Dev nD) : (dats m 0 c).arrAt 7 cfg0.N = act (inp m c) (wg m c) (wu m c) := by
  refine (dats m 0 c).arrAt_eq_of_covers 7 _ (by decide +kernel) fun t hf y => ?_
  blk_simp
  rw [after0_7]
  refine (point7 m c t y).trans (congrArg _ (idx_ext ?_ ?_)) <;> blk_simp [idx7 t, row]

theorem final6 (c : Dev nD) : (dats m 0 c).arrAt 6 cfg0.N = res (inp m c) (wg m c) (wu m c) (wd m c) := by
  refine (dats m 0 c).arrAt_eq_of_covers 6 _ (by decide +kernel) fun t hf y => ?_
  blk_simp
  rw [after0_6]
  refine (point6 m c t y).trans (congrArg _ (idx_ext ?_ ?_)) <;> blk_simp [idx6 t, row]

theorem final5 (c : Dev nD) :
    (dats m 0 c).arrAt 5 cfg0.N = lossGrad (inp m c) (wg m c) (wu m c) (wd m c) (scale m c) (shift m c) (goal m c) := by
  refine (dats m 0 c).arrAt_eq_of_covers 5 _ (by decide +kernel) fun t hf y => ?_
  blk_simp
  rw [after0_5]
  refine (point5 m c t y).trans (congrArg _ (idx_ext ?_ ?_)) <;> blk_simp [idx5 t, row]

/-- The last grid point. -/
def last : Fin cfg0.N := ⟨63, by decide⟩

theorem final8 (c : Dev nD) :
    (dats m 0 c).arrAt 8 cfg0.N = loss (inp m c) (wg m c) (wu m c) (wd m c) (scale m c) (shift m c) (goal m c) := by
  have acc := Pipeline.eq_sum_fin_of_reset_step_last (fun n hn => ((outsAt0 m c n hn).2.2.2 : S1x1.Idx → EReal)) 64 0
    (fun t _ => part m c t)
    (fun t h0 => by
      show (outsAt0 m c t.val t.isLt).2.2.2 = _
      rw [zero_add, outsAt0_A m c t h0]
      dsimp only
      exact funext fun y => (out8_A _ _ _ _ _ _ _ _ _ _ _ _ _ _ _ _ _ _ _ _ _ _ _ _ _ _ y).trans (loss_at m c t))
    (fun t h0 => by
      show (outsAt0 m c t.val t.isLt).2.2.2 = _
      rw [outsAt0_B m c t h0]
      dsimp only
      exact funext fun y => (out8_B _ _ _ _ _ _ _ _ _ _ _ _ _ _ _ _ _ _ _ _ _ _ _ _ _ _ _ y).trans (congrArg (_ + ·) (loss_at m c t)))
    (le_refl 64)
  refine (dats m 0 c).arrAt_eq_of_after_last 8 last (by decide +kernel) _ fun j => ?_
  blk_simp
  rw [after0_8]
  refine (congrFun (acc last rfl) j).trans ?_
  rw [zero_add, Finset.sum_apply]
  exact part_sum m c

end Cert.Kernel11Ideal.FfnLoss

namespace Cert.Proof.FfnLoss

open Idealize.ShloMosaic Idealize.ShloMosaic.TcCoe Idealize.SL.Sem Cert.Reference11Ideal Cert.Reference11Ideal.Gen
  Cert.Reference11Ideal.Read
open Cert.Proof.FfnOut (ix2_eq)
open Cert.Kernel8Ideal.FfnOut (res out act)
open Cert.Kernel11Ideal.FfnLoss (err lossGrad token loss half len)

variable (x : Gated.Rows) (wg wu : Gated.Up) (wd : Gated.Down) (g b : Vec Ideal S1024 .f32) (tg : Gated.Rows)

/-- The reference's lines up to the layer norm are those of the same call without the loss. -/
theorem reference_act : val_main_v51 (F := Ideal) x wg wu = act x wg wu := Cert.Proof.FfnOut.reference_act x wg wu
theorem reference_res : val_main_v11 (F := Ideal) x wg wu wd = res x wg wu wd := Cert.Proof.FfnOut.reference_res x wg wu wd
theorem reference_out : val_main_v35 (F := Ideal) x wg wu wd g b = out x wg wu wd g b := Cert.Proof.FfnOut.reference_out x wg wu wd g b

theorem reference_err (i : S16384x1024.Idx) :
    val_main_v36 (F := Ideal) x wg wu wd g b tg i = err x wg wu wd g b tg (i 0) (i 1) := by
  obtain ⟨s, j, rfl⟩ : ∃ (s : Fin 16384) (j : Fin 1024), i = ix2 s j := ⟨i 0, i 1, ix2_eq i _ _ rfl rfl⟩
  rw [val_main_v36_apply, reference_out]
  rfl

theorem reference_lossGrad : val_main_v50 (F := Ideal) x wg wu wd g b tg = lossGrad x wg wu wd g b tg := by
  funext i
  simp only [val_main_v50_apply, val_main_v49_apply, val_main_v48_apply, val_main_v47_apply, val_main_v46_apply, val_main_v45_apply,
    val_main_v39_apply, val_main_v38_apply, reference_err]
  pointwise [val_main_cst_5, val_main_cst_10, val_main_cst_11, val_main_cst_12]
  simp only [Reals.lit_half, Reals.lit_one, Reals.lit_two, Reals.lit_1024]
  unfold lossGrad
  rw [Reals.div_1024, ← mul_assoc, ← EReal.coe_mul, mul_comm]
  unfold Ideal.div
  rw [if_neg (by rw [← EReal.coe_zero]; exact fun h => absurd (EReal.coe_eq_coe_iff.mp h) (by norm_num)), ← EReal.coe_inv]
  norm_num

theorem reference_loss : val_main_v52 (F := Ideal) x wg wu wd g b tg = loss x wg wu wd g b tg := by
  funext i
  unfold val_main_v52
  pointwise
  simp only [val_main_v44_apply, val_main_v43_apply, val_main_v42_apply, val_main_v41_apply, val_main_v40_apply, val_main_v37_apply,
    reference_err]
  pointwise [val_main_cst_6, val_main_cst_7, val_main_cst_8, val_main_cst_9]
  simp only [Reals.lit_half, Reals.lit_zero, zero_add, Reals.lit_1024]
  refine congrArg (half * ·) ?_
  refine (Fintype.sum_equiv (Equiv.mk (fun s : Fin 16384 => (ix1 s : S16384.Idx)) (fun i => i 0) (fun _ => rfl) fun i => ?_) _ _ fun s => ?_).symm
  · funext a
    match a with
    | ⟨0, _⟩ => rfl
  · rfl

theorem algebraic : Cert.algebraic_Kernel11Ideal_Reference11Ideal (hKernel11Ideal := Cert.Kernel11Ideal.Gen.facts)
    (hReference11Ideal := Cert.Reference11Ideal.Gen.facts) := by
  intro m g m' g' _ hag
  refine ⟨fun c => lossGrad (Cert.Kernel11Ideal.FfnLoss.inp m c) (Cert.Kernel11Ideal.FfnLoss.wg m c) (Cert.Kernel11Ideal.FfnLoss.wu m c)
      (Cert.Kernel11Ideal.FfnLoss.wd m c) (Cert.Kernel11Ideal.FfnLoss.scale m c) (Cert.Kernel11Ideal.FfnLoss.shift m c)
      (Cert.Kernel11Ideal.FfnLoss.goal m c),
    fun c => res (Cert.Kernel11Ideal.FfnLoss.inp m c) (Cert.Kernel11Ideal.FfnLoss.wg m c) (Cert.Kernel11Ideal.FfnLoss.wu m c)
      (Cert.Kernel11Ideal.FfnLoss.wd m c),
    fun c => act (Cert.Kernel11Ideal.FfnLoss.inp m c) (Cert.Kernel11Ideal.FfnLoss.wg m c) (Cert.Kernel11Ideal.FfnLoss.wu m c),
    fun c => loss (Cert.Kernel11Ideal.FfnLoss.inp m c) (Cert.Kernel11Ideal.FfnLoss.wg m c) (Cert.Kernel11Ideal.FfnLoss.wu m c)
      (Cert.Kernel11Ideal.FfnLoss.wd m c) (Cert.Kernel11Ideal.FfnLoss.scale m c) (Cert.Kernel11Ideal.FfnLoss.shift m c)
      (Cert.Kernel11Ideal.FfnLoss.goal m c), ?_, ?_⟩
  · refine (θ_run Cert.Kernel11Ideal.defs _ _).mono (fun r h c => ?_) (Cert.Kernel11Ideal.Value.run_blocks m g)
    obtain ⟨h5, h6, h7, h8, hargs⟩ := h c
    exact ⟨h5.trans (Cert.Kernel11Ideal.FfnLoss.final5 m c), h6.trans (Cert.Kernel11Ideal.FfnLoss.final6 m c),
      h7.trans (Cert.Kernel11Ideal.FfnLoss.final7 m c), h8.trans (Cert.Kernel11Ideal.FfnLoss.final8 m c), hargs⟩
  · refine (θ_run Cert.Reference11Ideal.defs _ _).mono (fun r h c => ?_) (Cert.Reference11Ideal.Value.run m' g')
    obtain ⟨h5, h6, h7, h8, hargs⟩ := h c
    obtain ⟨e0, e1, e2, e3, e4, e5, e6⟩ := hag c
    refine ⟨(h5.trans (val_main_v50_eq m' c)).trans ((reference_lossGrad _ _ _ _ _ _ _).trans ?_),
      (h6.trans (val_main_v11_eq _ _ _ _)).trans ((reference_res _ _ _ _).trans ?_),
      (h7.trans (val_main_v51_eq _ _ _)).trans ((reference_act _ _ _).trans ?_),
      (h8.trans (val_main_v52_eq m' c)).trans ((reference_loss _ _ _ _ _ _ _).trans ?_), hargs⟩
    · rw [e0, e1, e2, e3, e4, e5, e6]
    · rw [e0, e1, e2, e3]
    · rw [e0, e1, e2]
    · rw [e0, e1, e2, e3, e4, e5, e6]

theorem reference_frame : Cert.quiescent_Reference11Ideal (hReference11Ideal := Cert.Reference11Ideal.Gen.facts) :=
  fun m g _ => (θ_run _ _ _).mono (fun r h => ⟨fun c => (h c).2.2.2.2, sem_eq_zero_of_no_sems (by decide) r.2⟩)
    (Cert.Reference11Ideal.Value.run m g)

end Cert.Proof.FfnLoss

end
-- ==== Proof.AttnReal.lean ====
/- The softmax of a row: with the reciprocal of the sum and with the quotient, and why the two agree on a row of reals. -/
module

public import proofs.«01_k».proof.Proof.Reals
public import Idealize.ShloMosaic.Lib.IdealHost

@[expose] public section

noncomputable section

namespace Cert.Attn

open Idealize.ShloMosaic

/-- The largest element of a row, starting from negative infinity. -/
def peak (f : Fin 256 → EReal) : EReal := (Finset.univ : Finset (Fin 256)).fold max (Ideal.ofBits .f32 0xFF800000#32) f

/-- An element's exponential below the largest, the sum of these, and the softmax by the sum's reciprocal. -/
def below (f : Fin 256 → EReal) (k : Fin 256) : EReal := Ideal.exp (f k - peak f)
def soft (f : Fin 256 → EReal) (k : Fin 256) : EReal := below f k * Ideal.div ((1 : ℝ) : EReal) (∑ l, below f l)

theorem lit_bot : Ideal.ofBits .f32 0xFF800000#32 = ⊥ := by
  simp [Ideal.ofBits, Ideal.ieee]

/-- The largest element again, compared with negative infinity. -/
theorem max_peak (f : Fin 256 → EReal) : max (Ideal.ofBits .f32 0xFF800000#32) (peak f) = peak f := by
  rw [lit_bot]
  exact max_eq_right bot_le

theorem below_nonneg (f : Fin 256 → EReal) (k : Fin 256) : 0 ≤ below f k := by
  unfold below
  induction f k - peak f with
  | bot => exact le_refl _
  | top => exact le_top
  | coe x => exact EReal.coe_nonneg.mpr (Real.exp_pos x).le

/-- Where the row holds reals the largest one is among them, so the sum is not zero. -/
theorem sum_ne_zero (f : Fin 256 → EReal) (h : ∀ k, ∃ r : ℝ, f k = (r : EReal)) : ∑ l, below f l ≠ 0 := by
  obtain ⟨k, -, hk⟩ := Finset.exists_max_image Finset.univ f ⟨(0 : Fin 256), Finset.mem_univ _⟩
  have e : peak f = f k := by
    refine le_antisymm ?_ ?_
    · refine (Finset.fold_max_le _).mpr ⟨?_, fun x hx => hk x hx⟩
      rw [lit_bot]
      exact bot_le
    · exact (Finset.le_fold_max _).mpr (Or.inr ⟨k, Finset.mem_univ _, le_refl _⟩)
  obtain ⟨r, hr⟩ := h k
  have one : below f k = 1 := by
    unfold below
    rw [e, hr, ← EReal.coe_sub, sub_self, Ideal.exp_coe, Real.exp_zero, EReal.coe_one]
  have le := Finset.single_le_sum (fun l _ => below_nonneg f l) (Finset.mem_univ k)
  rw [one] at le
  exact (lt_of_lt_of_le zero_lt_one le).ne'

theorem soft_div (f : Fin 256 → EReal) (h : ∀ k, ∃ r : ℝ, f k = (r : EReal)) (k : Fin 256) :
    Ideal.div (below f k) (∑ l, below f l) = soft f k := by
  unfold soft Ideal.div
  rw [if_neg (sum_ne_zero f h), if_neg (sum_ne_zero f h), EReal.coe_one, one_mul]

/-- A product of reals, and a sum of such products, is a real. -/
theorem real_dot {n : ℕ} (a b : Fin n → EReal) (ha : ∀ k, ∃ r : ℝ, a k = (r : EReal)) (hb : ∀ k, ∃ r : ℝ, b k = (r : EReal)) :
    ∃ r : ℝ, ∑ k, a k * b k = (r : EReal) := by
  choose u hu using ha
  choose v hv using hb
  refine ⟨∑ k, u k * v k, ?_⟩
  rw [← Reals.coe_sum]
  exact Finset.sum_congr rfl fun k _ => by rw [hu, hv, EReal.coe_mul]

end Cert.Attn

end
-- ==== Proof.AttnFwd.lean ====
/- The attention's forward call: per head the softmax of the scaled scores and its product with the values, the residual row of
   the heads' outputs, and of that row the layer norm. -/
module

public import proofs.«01_k».proof.Proof.AttnReal
public import proofs.«01_k».proof.Proof.FfnOut
public import proofs.«01_k».proof.Proof.FfnFinite
public import proofs.«01_k».proof.Proof.Gen.Kernel12Ideal.Value
public import proofs.«01_k».proof.Proof.Gen.Reference12Ideal.Run
public import proofs.«01_k».proof.Proof.Gen.Reference12Ideal.Read
public import Idealize.ShloMosaic.Lib.KernelVsHost

@[expose] public section

set_option maxRecDepth 16384

noncomputable section

namespace Cert.Kernel12Ideal.AttnFwd

open Cert.Kernel12Ideal Cert.Kernel12Ideal.Gen Cert.Kernel12Ideal.Value Idealize.ShloMosaic Idealize.ShloMosaic.TcCoe Cert.Attn
open Cert.Kernel8Ideal.FfnOut (norm idx_ext)

/-- The scale of the scores: one over the square root of the head's width. -/
abbrev sc : EReal := Ideal.ofBits .f32 0x3D800000#32

theorem pay2_apply (x : Vec Ideal S1024x1024 .f32) (w : Vec Ideal S1024x1024 .bf16) (y : S1024x1024.Idx) :
    k0_pay2 (F := Ideal) x w y = ∑ k : Fin 1024, x (ix2 (y 0) k) * w (ix2 k (y 1)) := by
  pointwise [k0_pay2]

theorem pay8_apply (x : Vec Ideal S1024x1024 .f32) (a w : Vec Ideal S1024x1024 .bf16) (y : S1024x1024.Idx) :
    k0_pay8 (F := Ideal) x a w y = ((Reals.alpha : ℝ) : EReal) * x y + ∑ k : Fin 1024, a (ix2 (y 0) k) * w (ix2 k (y 1)) := by
  pointwise [k0_pay8]
  simp only [Reals.lit_alpha]

theorem pay1_apply (r : Vec Ideal S1024x1024 .f32) (g b : Vec Ideal S1x1024 .f32) (y : S1024x1024.Idx) :
    k0_pay1 (F := Ideal) r g b y = norm (fun k => r (ix2 (y 0) k)) (fun k => g (ix2 0 k)) (fun k => b (ix2 0 k)) (y 1) := by
  obtain ⟨p, q, rfl⟩ : ∃ p q, y = ix2 p q := ⟨y 0, y 1, (idx_ext rfl rfl).symm⟩
  pointwise [k0_pay1]
  simp only [Reals.lit_1024, Reals.lit_eps]
  rfl

section
variable (c : Dev nD) (i : grid0.Coords) (a1 : Memref sig .tc .vmem S1024x1024 .f32) (w1 : a1.IsWhole)
  (a2 : Memref sig .tc .vmem S1024x1024 .bf16) (w2 : a2.IsWhole) (a3 : Memref sig .tc .vmem S1024x1024 .bf16) (w3 : a3.IsWhole)
  (a4 : Memref sig .tc .vmem S1024x256 .bf16) (w4 : a4.IsWhole) (a5 : Memref sig .tc .vmem S256x1024 .bf16) (w5 : a5.IsWhole)
  (a6 : Memref sig .tc .vmem S24x1024 .f32) (w6 : a6.IsWhole) (a7 : Memref sig .tc .vmem S1024x1024 .f32) (w7 : a7.IsWhole)
  (a8 : Memref sig .tc .vmem S1024x1024 .f32) (w8 : a8.IsWhole) (a9 : Memref sig .tc .vmem S1024x1024 .bf16) (w9 : a9.IsWhole)
  (a10 : Memref sig .tc .vmem S1024x1024 .bf16) (w10 : a10.IsWhole)
  (x0 : Vec Ideal S1024x1024 .f32) (x1 x2 : Vec Ideal S1024x1024 .bf16) (x3 : Vec Ideal S1024x256 .bf16) (x4 : Vec Ideal S256x1024 .bf16)
  (x5 : Vec Ideal S24x1024 .f32)

/-- Of a block: a query's element, the scaled scores of row `r` under head `h`, and the output of that row's heads at column `j`. -/
def blkQ (x0 : Vec Ideal S1024x1024 .f32) (x1 : Vec Ideal S1024x1024 .bf16) (r j : Fin 1024) : EReal :=
  ∑ k : Fin 1024, x0 (ix2 r k) * x1 (ix2 k j)
def blkScore (x0 : Vec Ideal S1024x1024 .f32) (x1 : Vec Ideal S1024x1024 .bf16) (x3 : Vec Ideal S1024x256 .bf16) (r : Fin 1024)
    (h : Fin 4) (l : Fin 256) : EReal :=
  (∑ d : Fin 256, blkQ x0 x1 r ⟨h.val * 256 + d.val, by omega⟩ * x3 (ix2 ⟨h.val * 256 + d.val, by omega⟩ l)) * sc
def blkHead (x0 : Vec Ideal S1024x1024 .f32) (x1 : Vec Ideal S1024x1024 .bf16) (x3 : Vec Ideal S1024x256 .bf16)
    (x4 : Vec Ideal S256x1024 .bf16) (r j : Fin 1024) : EReal :=
  ∑ k : Fin 256, soft (blkScore x0 x1 x3 r ⟨j.val / 256, by omega⟩) k * x4 (ix2 k j)

theorem blkHead_at (x0 : Vec Ideal S1024x1024 .f32) (x1 : Vec Ideal S1024x1024 .bf16) (x3 : Vec Ideal S1024x256 .bf16)
    (x4 : Vec Ideal S256x1024 .bf16) (e : Fin 256 → Fin 1024) (s r j q : Fin 1024) (hs : r.val = s.val) (hq : j.val = q.val)
    (he : ∀ d, (e d).val = j.val / 256 * 256 + d.val) :
    ∑ k : Fin 256, soft (fun l => (∑ d : Fin 256, blkQ x0 x1 s (e d) * x3 (ix2 (e d) l)) * sc) k * x4 (ix2 k q)
      = blkHead x0 x1 x3 x4 r j := by
  obtain rfl : r = s := Fin.ext hs
  obtain rfl : j = q := Fin.ext hq
  obtain rfl : e = fun d => ⟨j.val / 256 * 256 + d.val, by omega⟩ := funext fun d => Fin.ext (he d)
  rfl

theorem out8 (y : S1024x1024.Idx) :
    out0_A_8 c i a1 w1 a2 w2 a3 w3 a4 w4 a5 w5 a6 w6 a7 w7 a8 w8 a9 w9 a10 w10 x0 x1 x2 x3 x4 x5 y = blkQ x0 x1 (y 0) (y 1) := by
  frame_out
  rw [pay2_apply]
  pointwise
  rfl

theorem out9 (y : S1024x1024.Idx) :
    out0_A_9 c i a1 w1 a2 w2 a3 w3 a4 w4 a5 w5 a6 w6 a7 w7 a8 w8 a9 w9 a10 w10 x0 x1 x2 x3 x4 x5 y = blkHead x0 x1 x3 x4 (y 0) (y 1) := by
  frame_out
  canon_tiles x h
  all_goals
    pointwise [k0_pay2, k0_pay3, k0_pay4, k0_pay5, k0_pay6, k0_pay7]
  · exact blkHead_at x0 x1 x3 x4 (fun d => ⟨768 + d.val, by omega⟩) _ _ _ _ h0 h1 fun d => by
      rw [h1]; show 768 + d.val = (768 + (x 1).val) / 256 * 256 + d.val; omega
  · exact blkHead_at x0 x1 x3 x4 (fun d => ⟨512 + d.val, by omega⟩) _ _ _ _ h0 h1 fun d => by
      rw [h1]; show 512 + d.val = (512 + (x 1).val) / 256 * 256 + d.val; omega
  · exact blkHead_at x0 x1 x3 x4 (fun d => ⟨256 + d.val, by omega⟩) _ _ _ _ h0 h1 fun d => by
      rw [h1]; show 256 + d.val = (256 + (x 1).val) / 256 * 256 + d.val; omega
  · exact blkHead_at x0 x1 x3 x4 (fun d => ⟨d.val, by omega⟩) _ _ _ _ h0 h1 fun d => by
      rw [h1]; show d.val = (x 1).val / 256 * 256 + d.val; omega

theorem out7 (y : S1024x1024.Idx) :
    out0_A_7 c i a1 w1 a2 w2 a3 w3 a4 w4 a5 w5 a6 w6 a7 w7 a8 w8 a9 w9 a10 w10 x0 x1 x2 x3 x4 x5 y
      = ((Reals.alpha : ℝ) : EReal) * x0 y + ∑ k : Fin 1024, blkHead x0 x1 x3 x4 (y 0) k * x2 (ix2 k (y 1)) := by
  have h9 := fun j => out9 c i a1 w1 a2 w2 a3 w3 a4 w4 a5 w5 a6 w6 a7 w7 a8 w8 a9 w9 a10 w10 x0 x1 x2 x3 x4 x5 j
  frame_out at h9
  frame_out
  simp only [View.readCov_eq_canon', h9]
  rw [pay8_apply]
  pointwise

theorem out6 (y : S1024x1024.Idx) :
    out0_A_6 c i a1 w1 a2 w2 a3 w3 a4 w4 a5 w5 a6 w6 a7 w7 a8 w8 a9 w9 a10 w10 x0 x1 x2 x3 x4 x5 y
      = norm (fun j => ((Reals.alpha : ℝ) : EReal) * x0 (ix2 (y 0) j) + ∑ k : Fin 1024, blkHead x0 x1 x3 x4 (y 0) k * x2 (ix2 k j))
        (fun j => x5 (ix2 13 j)) (fun j => x5 (ix2 16 j)) (y 1) := by
  have h9 := fun j => out9 c i a1 w1 a2 w2 a3 w3 a4 w4 a5 w5 a6 w6 a7 w7 a8 w8 a9 w9 a10 w10 x0 x1 x2 x3 x4 x5 j
  frame_out at h9
  frame_out
  simp only [View.readCov_eq_canon', h9]
  rw [pay1_apply]
  simp only [pay8_apply]
  pointwise

end

variable (m : (ℓ : Loc nD τ sig) → Buf (Elt Ideal) ℓ)

/-- The input, the memory, the four weights, and the norm's scale and shift. -/
abbrev inp (c : Dev nD) : Vec Ideal S16384x1024 .f32 := m ((c : Thread nD τ).loc main_arg0)
abbrev mem (c : Dev nD) : Vec Ideal S256x1024 .f32 := m ((c : Thread nD τ).loc main_arg1)
abbrev wq (c : Dev nD) : Vec Ideal S1024x1024 .f32 := m ((c : Thread nD τ).loc main_arg2)
abbrev wk (c : Dev nD) : Vec Ideal S1024x1024 .f32 := m ((c : Thread nD τ).loc main_arg3)
abbrev wv (c : Dev nD) : Vec Ideal S1024x1024 .f32 := m ((c : Thread nD τ).loc main_arg4)
abbrev wo (c : Dev nD) : Vec Ideal S1024x1024 .f32 := m ((c : Thread nD τ).loc main_arg5)
abbrev scale (c : Dev nD) : Vec Ideal S1024 .f32 := m ((c : Thread nD τ).loc main_arg6)
abbrev shift (c : Dev nD) : Vec Ideal S1024 .f32 := m ((c : Thread nD τ).loc main_arg7)

/-- An element of the product of an array of rows with a square weight. -/
def proj {n : ℕ} (x : Vec Ideal ⟨2, ![n, 1024]⟩ .f32) (w : Vec Ideal S1024x1024 .f32) (s : Fin n) (j : Fin 1024) : EReal :=
  ∑ k : Fin 1024, x (ix2 s k) * w (ix2 k j)

/-- The scaled scores of row `s` under head `h`. -/
def score (x : Vec Ideal S16384x1024 .f32) (mem : Vec Ideal S256x1024 .f32) (wq wk : Vec Ideal S1024x1024 .f32) (s : Fin 16384)
    (h : Fin 4) (l : Fin 256) : EReal :=
  (∑ d : Fin 256, proj x wq s ⟨h.val * 256 + d.val, by omega⟩ * proj mem wk l ⟨h.val * 256 + d.val, by omega⟩) * sc

/-- The heads' outputs side by side. -/
def head (x : Vec Ideal S16384x1024 .f32) (mem : Vec Ideal S256x1024 .f32) (wq wk wv : Vec Ideal S1024x1024 .f32) (s : Fin 16384)
    (j : Fin 1024) : EReal :=
  ∑ k : Fin 256, soft (score x mem wq wk s ⟨j.val / 256, by omega⟩) k * proj mem wv k j

theorem entry_wq (c : Dev nD) (i : S1024x1024.Idx) : (V m c main_v8 : Vec Ideal S1024x1024 .bf16) i = wq m c i := by
  simp only [V, hostOps0, List.flatten_cons, List.flatten_nil, List.cons_append, List.nil_append, List.append_nil]
  entry_read
  pointwise

theorem entry_wo (c : Dev nD) (i : S1024x1024.Idx) : (V m c main_v9 : Vec Ideal S1024x1024 .bf16) i = wo m c i := by
  simp only [V, hostOps0, List.flatten_cons, List.flatten_nil, List.cons_append, List.nil_append, List.append_nil]
  entry_read
  pointwise

theorem entry_key (c : Dev nD) (j : Fin 1024) (l : Fin 256) :
    (V m c main_v2 : Vec Ideal S1024x256 .bf16) (ix2 j l) = proj (mem m c) (wk m c) l j := by
  simp only [V, hostOps0, List.flatten_cons, List.flatten_nil, List.cons_append, List.nil_append, List.append_nil]
  entry_read
  pointwise
  rfl

theorem entry_val (c : Dev nD) (l : Fin 256) (j : Fin 1024) :
    (V m c main_v11 : Vec Ideal S256x1024 .bf16) (ix2 l j) = proj (mem m c) (wv m c) l j := by
  simp only [V, hostOps0, List.flatten_cons, List.flatten_nil, List.cons_append, List.nil_append, List.append_nil]
  entry_read
  pointwise
  rfl

theorem entry_scale (c : Dev nD) (j : Fin 1024) : (V m c main_v7 : Vec Ideal S24x1024 .f32) (ix2 13 j) = scale m c (ix1 j) := by
  simp only [V, hostOps0, List.flatten_cons, List.flatten_nil, List.cons_append, List.nil_append, List.append_nil]
  entry_read
  exact (Cert.KernelIdeal.Ffn.scatter_other _ 16#32 _ (ix2 13 j) (show ((13 : Fin 24).val : Int) ≠ (16#32).toInt by decide)).trans
    (Cert.KernelIdeal.Ffn.scatter_row _ 13#32 _ (ix2 13 j) (show ((13 : Fin 24).val : Int) = (13#32).toInt by decide))

theorem entry_shift (c : Dev nD) (j : Fin 1024) : (V m c main_v7 : Vec Ideal S24x1024 .f32) (ix2 16 j) = shift m c (ix1 j) := by
  simp only [V, hostOps0, List.flatten_cons, List.flatten_nil, List.cons_append, List.nil_append, List.append_nil]
  entry_read
  exact Cert.KernelIdeal.Ffn.scatter_row _ 16#32 _ (ix2 16 j) (show ((16 : Fin 24).val : Int) = (16#32).toInt by decide)

/-- A row of the grid point's tile, as a row of the whole array. -/
def row (n : ℕ) (r : Fin 1024) : Fin 16384 := ⟨n % 16 * 1024 + r.val, by omega⟩

theorem idx0 : ∀ t : Fin cfg0.N, win0_0.index t = ![t.val % 16, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![t.val % 16, 0] := by decide +kernel
theorem idx7 : ∀ t : Fin cfg0.N, win0_7.index t = ![t.val % 16, 0] := by decide +kernel
theorem idx8 : ∀ t : Fin cfg0.N, win0_8.index t = ![t.val % 16, 0] := by decide +kernel
theorem idx9 : ∀ t : Fin cfg0.N, win0_9.index t = ![t.val % 16, 0] := by decide +kernel

theorem blk0 (c : Dev nD) (t : Fin cfg0.N) (i : S1024x1024.Idx) :
    (iblk m c 0 t : Vec Ideal S1024x1024 .f32) i = inp m c (ix2 (row t.val (i 0)) (i 1)) := by
  have e : (iblk m c 0 t : Vec Ideal S1024x1024 .f32) i
      = (V m c main_arg0 : Vec Ideal S16384x1024 .f32) (ix2 (row t.val (i 0)) (i 1)) := by
    blk_ext [iblk, idx0 t, row]
  rw [e]
  exact congrFun (V_main_arg0 m c) _

theorem blk1 (c : Dev nD) (t : Fin cfg0.N) (i : S1024x1024.Idx) : (iblk m c 1 t : Vec Ideal S1024x1024 .bf16) i = wq m c i := by
  have e : (iblk m c 1 t : Vec Ideal S1024x1024 .bf16) i = (V m c main_v8 : Vec Ideal S1024x1024 .bf16) i := by
    blk_ext [iblk, idx1 t, row]
  rw [e]
  exact entry_wq m c _

theorem blk2 (c : Dev nD) (t : Fin cfg0.N) (i : S1024x1024.Idx) : (iblk m c 2 t : Vec Ideal S1024x1024 .bf16) i = wo m c i := by
  have e : (iblk m c 2 t : Vec Ideal S1024x1024 .bf16) i = (V m c main_v9 : Vec Ideal S1024x1024 .bf16) i := by
    blk_ext [iblk, idx2 t, row]
  rw [e]
  exact entry_wo m c _

theorem blk3 (c : Dev nD) (t : Fin cfg0.N) (j : Fin 1024) (l : Fin 256) :
    (iblk m c 3 t : Vec Ideal S1024x256 .bf16) (ix2 j l) = proj (mem m c) (wk m c) l j := by
  have e : (iblk m c 3 t : Vec Ideal S1024x256 .bf16) (ix2 j l) = (V m c main_v2 : Vec Ideal S1024x256 .bf16) (ix2 j l) := by
    blk_ext [iblk, idx3 t, row]
  rw [e]
  exact entry_key m c _ _

theorem blk4 (c : Dev nD) (t : Fin cfg0.N) (l : Fin 256) (j : Fin 1024) :
    (iblk m c 4 t : Vec Ideal S256x1024 .bf16) (ix2 l j) = proj (mem m c) (wv m c) l j := by
  have e : (iblk m c 4 t : Vec Ideal S256x1024 .bf16) (ix2 l j) = (V m c main_v11 : Vec Ideal S256x1024 .bf16) (ix2 l j) := by
    blk_ext [iblk, idx4 t, row]
  rw [e]
  exact entry_val m c _ _

theorem blk5 (c : Dev nD) (t : Fin cfg0.N) (i : S24x1024.Idx) :
    (iblk m c 5 t : Vec Ideal S24x1024 .f32) i = (V m c main_v7 : Vec Ideal S24x1024 .f32) i := by
  blk_ext [iblk, idx5 t, row]

theorem query_at (c : Dev nD) (t : Fin cfg0.N) (r j : Fin 1024) :
    blkQ (iblk m c 0 t : Vec Ideal S1024x1024 .f32) (iblk m c 1 t : Vec Ideal S1024x1024 .bf16) r j
      = proj (inp m c) (wq m c) (row t.val r) j :=
  Finset.sum_congr rfl fun _ _ => congrArg₂ (· * ·) (blk0 m c t _) (blk1 m c t _)

theorem score_at (c : Dev nD) (t : Fin cfg0.N) (r : Fin 1024) (h : Fin 4) (l : Fin 256) :
    blkScore (iblk m c 0 t : Vec Ideal S1024x1024 .f32) (iblk m c 1 t : Vec Ideal S1024x1024 .bf16)
        (iblk m c 3 t : Vec Ideal S1024x256 .bf16) r h l
      = score (inp m c) (mem m c) (wq m c) (wk m c) (row t.val r) h l :=
  congrArg (· * sc) (Finset.sum_congr rfl fun _ _ => congrArg₂ (· * ·) (query_at m c t r _) (blk3 m c t _ _))

theorem head_at (c : Dev nD) (t : Fin cfg0.N) (r j : Fin 1024) :
    blkHead (iblk m c 0 t : Vec Ideal S1024x1024 .f32) (iblk m c 1 t : Vec Ideal S1024x1024 .bf16)
        (iblk m c 3 t : Vec Ideal S1024x256 .bf16) (iblk m c 4 t : Vec Ideal S256x1024 .bf16) r j
      = head (inp m c) (mem m c) (wq m c) (wk m c) (wv m c) (row t.val r) j :=
  Finset.sum_congr rfl fun k _ => congrArg₂ (· * ·) (congrArg (fun f => soft f k) (funext fun l => score_at m c t r _ l)) (blk4 m c t _ _)

/-- The queries, the heads' outputs, the residual row and its layer norm. -/
def query (x : Vec Ideal S16384x1024 .f32) (wq : Vec Ideal S1024x1024 .f32) : Vec Ideal S16384x1024 .bf16 := fun i =>
  proj x wq (i 0) (i 1)
def heads (x : Vec Ideal S16384x1024 .f32) (mem : Vec Ideal S256x1024 .f32) (wq wk wv : Vec Ideal S1024x1024 .f32) :
    Vec Ideal S16384x1024 .bf16 := fun i => head x mem wq wk wv (i 0) (i 1)
def res (x : Vec Ideal S16384x1024 .f32) (mem : Vec Ideal S256x1024 .f32) (wq wk wv wo : Vec Ideal S1024x1024 .f32) :
    Vec Ideal S16384x1024 .f32 := fun i =>
  ((Reals.alpha : ℝ) : EReal) * x i + ∑ k : Fin 1024, head x mem wq wk wv (i 0) k * wo (ix2 k (i 1))
def out (x : Vec Ideal S16384x1024 .f32) (mem : Vec Ideal S256x1024 .f32) (wq wk wv wo : Vec Ideal S1024x1024 .f32)
    (g b : Vec Ideal S1024 .f32) : Vec Ideal S16384x1024 .f32 := fun i =>
  norm (fun j => res x mem wq wk wv wo (ix2 (i 0) j)) (fun j => g (ix1 j)) (fun j => b (ix1 j)) (i 1)

theorem res_at (c : Dev nD) (t : Fin cfg0.N) (r j : Fin 1024) :
    ((Reals.alpha : ℝ) : EReal) * (iblk m c 0 t : Vec Ideal S1024x1024 .f32) (ix2 r j)
        + ∑ k : Fin 1024, blkHead (iblk m c 0 t : Vec Ideal S1024x1024 .f32) (iblk m c 1 t : Vec Ideal S1024x1024 .bf16)
          (iblk m c 3 t : Vec Ideal S1024x256 .bf16) (iblk m c 4 t : Vec Ideal S256x1024 .bf16) r k
          * (iblk m c 2 t : Vec Ideal S1024x1024 .bf16) (ix2 k j)
      = res (inp m c) (mem m c) (wq m c) (wk m c) (wv m c) (wo m c) (ix2 (row t.val r) j) := by
  refine congrArg₂ (· + ·) (congrArg (((Reals.alpha : ℝ) : EReal) * ·) (blk0 m c t _)) ?_
  exact Finset.sum_congr rfl fun k _ => congrArg₂ (· * ·) (head_at m c t r k) (blk2 m c t _)

theorem point9 (c : Dev nD) (t : Fin cfg0.N) (y : S1024x1024.Idx) :
    (outsAt0 m c t).2.2.2 y = heads (inp m c) (mem m c) (wq m c) (wk m c) (wv m c) (ix2 (row t.val (y 0)) (y 1)) := by
  simp only [outsAt0]
  rw [out9]
  exact head_at m c t _ _

theorem point8 (c : Dev nD) (t : Fin cfg0.N) (y : S1024x1024.Idx) :
    (outsAt0 m c t).2.2.1 y = query (inp m c) (wq m c) (ix2 (row t.val (y 0)) (y 1)) := by
  simp only [outsAt0]
  rw [out8]
  exact query_at m c t _ _

theorem point7 (c : Dev nD) (t : Fin cfg0.N) (y : S1024x1024.Idx) :
    (outsAt0 m c t).2.1 y
      = res (inp m c) (mem m c) (wq m c) (wk m c) (wv m c) (wo m c) (ix2 (row t.val (y 0)) (y 1)) := by
  simp only [outsAt0]
  rw [out7, ← idx_ext (i := y) rfl rfl]
  exact res_at m c t _ _

theorem point6 (c : Dev nD) (t : Fin cfg0.N) (y : S1024x1024.Idx) :
    (outsAt0 m c t).1 y
      = out (inp m c) (mem m c) (wq m c) (wk m c) (wv m c) (wo m c) (scale m c) (shift m c) (ix2 (row t.val (y 0)) (y 1)) := by
  simp only [outsAt0]
  rw [out6]
  have e1 := funext (res_at m c t (y 0))
  have e2 := funext fun j => (blk5 m c t (ix2 13 j)).trans (entry_scale m c j)
  have e3 := funext fun j => (blk5 m c t (ix2 16 j)).trans (entry_shift m c j)
  rw [e1, e2, e3]
  rfl

theorem final9 (c : Dev nD) : (dats m 0 c).arrAt 9 cfg0.N = heads (inp m c) (mem m c) (wq m c) (wk m c) (wv m c) := by
  refine (dats m 0 c).arrAt_eq_of_covers 9 _ (by decide +kernel) fun t hf y => ?_
  blk_simp
  rw [after0_9]
  refine (point9 m c t y).trans (congrArg _ (idx_ext ?_ ?_)) <;> blk_simp [idx9 t, row]

theorem final8 (c : Dev nD) : (dats m 0 c).arrAt 8 cfg0.N = query (inp m c) (wq m c) := by
  refine (dats m 0 c).arrAt_eq_of_covers 8 _ (by decide +kernel) fun t hf y => ?_
  blk_simp
  rw [after0_8]
  refine (point8 m c t y).trans (congrArg _ (idx_ext ?_ ?_)) <;> blk_simp [idx8 t, row]

theorem final7 (c : Dev nD) :
    (dats m 0 c).arrAt 7 cfg0.N = res (inp m c) (mem m c) (wq m c) (wk m c) (wv m c) (wo m c) := by
  refine (dats m 0 c).arrAt_eq_of_covers 7 _ (by decide +kernel) fun t hf y => ?_
  blk_simp
  rw [after0_7]
  refine (point7 m c t y).trans (congrArg _ (idx_ext ?_ ?_)) <;> blk_simp [idx7 t, row]

theorem final6 (c : Dev nD) :
    (dats m 0 c).arrAt 6 cfg0.N = out (inp m c) (mem m c) (wq m c) (wk m c) (wv m c) (wo m c) (scale m c) (shift m c) := by
  refine (dats m 0 c).arrAt_eq_of_covers 6 _ (by decide +kernel) fun t hf y => ?_
  blk_simp
  rw [after0_6]
  refine (point6 m c t y).trans (congrArg _ (idx_ext ?_ ?_)) <;> blk_simp [idx6 t, row]

end Cert.Kernel12Ideal.AttnFwd

namespace Cert.Pre_finite_scores.Read

open Cert.Pre_finite_scores

theorem facts : Facts where
  bcast_S_S16384x1024 := by decide
  reducesTo_S16384x1024_S_d0_1 := by decide
  h_S_ := by decide
  bcast_S_S256x1024 := by decide
  reducesTo_S256x1024_S_d0_1 := by decide
  bcast_S_S1024x1024 := by decide
  reducesTo_S1024x1024_S_d0_1 := by decide

end Cert.Pre_finite_scores.Read

namespace Cert.Proof.AttnFwd

open Idealize.ShloMosaic Idealize.ShloMosaic.TcCoe Idealize.SL.Sem Cert.Reference12Ideal Cert.Reference12Ideal.Gen
  Cert.Reference12Ideal.Read Cert.Attn
open Cert.Kernel12Ideal.AttnFwd (proj score head sc inp mem wq wk wv wo scale shift)
open Cert.Proof.FfnOut (ix2_eq)

/-- Every element is a real. -/
def Finite {s : Shape} (x : Vec Ideal s .f32) : Prop := ∀ i, ∃ r : ℝ, x i = (r : EReal)

theorem lit_sc : ∃ r : ℝ, sc = (r : EReal) := by
  refine ⟨1 / 16, ?_⟩
  simp [Ideal.ofBits, Ideal.ieee]
  rw [← EReal.coe_mul]; norm_num

/-- On real arguments the scores are reals. -/
theorem score_real (x : Vec Ideal S16384x1024 .f32) (mem : Vec Ideal S256x1024 .f32) (wq wk : Vec Ideal S1024x1024 .f32)
    (hx : Finite x) (hm : Finite mem) (hq : Finite wq) (hk : Finite wk) (s : Fin 16384) (h : Fin 4) (l : Fin 256) :
    ∃ r : ℝ, score x mem wq wk s h l = (r : EReal) := by
  obtain ⟨u, hu⟩ := real_dot (fun d : Fin 256 => proj x wq s ⟨h.val * 256 + d.val, by omega⟩)
    (fun d => proj mem wk l ⟨h.val * 256 + d.val, by omega⟩)
    (fun d => real_dot _ _ (fun k => hx _) (fun k => hq _)) (fun d => real_dot _ _ (fun k => hm _) (fun k => hk _))
  obtain ⟨v, hv⟩ := lit_sc
  exact ⟨u * v, (congrArg₂ (· * ·) hu hv).trans (EReal.coe_mul u v).symm⟩

theorem proj0 (x : Vec Ideal S16384x1024 .f32) (w : Vec Ideal S1024x1024 .f32) (i : S16384x1024.Idx) :
    val_main_v0 (F := Ideal) x w i = proj x w (i 0) (i 1) := by
  rw [val_main_v0_apply]
  exact Finset.sum_congr rfl fun k _ => congrArg₂ (· * ·) (congrArg x (ix2_eq _ _ _ rfl rfl)) (congrArg w (ix2_eq _ _ _ rfl rfl))

theorem proj1 (x : Vec Ideal S256x1024 .f32) (w : Vec Ideal S1024x1024 .f32) (i : S256x1024.Idx) :
    val_main_v1 (F := Ideal) x w i = proj x w (i 0) (i 1) := by
  rw [val_main_v1_apply]
  exact Finset.sum_congr rfl fun k _ => congrArg₂ (· * ·) (congrArg x (ix2_eq _ _ _ rfl rfl)) (congrArg w (ix2_eq _ _ _ rfl rfl))

theorem proj2 (x : Vec Ideal S256x1024 .f32) (w : Vec Ideal S1024x1024 .f32) (i : S256x1024.Idx) :
    val_main_v2 (F := Ideal) x w i = proj x w (i 0) (i 1) := by
  rw [val_main_v2_apply]
  exact Finset.sum_congr rfl fun k _ => congrArg₂ (· * ·) (congrArg x (ix2_eq _ _ _ rfl rfl)) (congrArg w (ix2_eq _ _ _ rfl rfl))

/-- A row of 1024 read as four rows of 256. -/
theorem split_row (a h d : ℕ) (hh : h < 4) (hd : d < 256) : ((a * 4 + h) * 256 + d) / 1024 = a := by omega
theorem split_col (a h d : ℕ) (hh : h < 4) (hd : d < 256) : ((a * 4 + h) * 256 + d) % 1024 = h * 256 + d := by omega

theorem query3 (x : Vec Ideal S16384x1024 .f32) (w : Vec Ideal S1024x1024 .f32) (s : Fin 16384) (h : Fin 4) (d : Fin 256)
    (i : S16384x4x256.Idx) (h0 : i 0 = s) (h1 : i 1 = h) (h2 : i 2 = d) :
    val_main_v3 (F := Ideal) x w i = proj x w s ⟨h.val * 256 + d.val, by omega⟩ := by
  subst h0 h1 h2
  rw [val_main_v3_apply, proj0]
  exact congrArg₂ (proj x w) (Fin.ext (split_row _ _ _ (i 1).isLt (i 2).isLt)) (Fin.ext (split_col _ _ _ (i 1).isLt (i 2).isLt))

theorem key4 (x : Vec Ideal S256x1024 .f32) (w : Vec Ideal S1024x1024 .f32) (s : Fin 256) (h : Fin 4) (d : Fin 256)
    (i : S256x4x256.Idx) (h0 : i 0 = s) (h1 : i 1 = h) (h2 : i 2 = d) :
    val_main_v4 (F := Ideal) x w i = proj x w s ⟨h.val * 256 + d.val, by omega⟩ := by
  subst h0 h1 h2
  rw [val_main_v4_apply, proj1]
  exact congrArg₂ (proj x w) (Fin.ext (split_row _ _ _ (i 1).isLt (i 2).isLt)) (Fin.ext (split_col _ _ _ (i 1).isLt (i 2).isLt))

theorem val5 (x : Vec Ideal S256x1024 .f32) (w : Vec Ideal S1024x1024 .f32) (s : Fin 256) (h : Fin 4) (d : Fin 256)
    (i : S256x4x256.Idx) (h0 : i 0 = s) (h1 : i 1 = h) (h2 : i 2 = d) :
    val_main_v5 (F := Ideal) x w i = proj x w s ⟨h.val * 256 + d.val, by omega⟩ := by
  subst h0 h1 h2
  rw [val_main_v5_apply, proj2]
  exact congrArg₂ (proj x w) (Fin.ext (split_row _ _ _ (i 1).isLt (i 2).isLt)) (Fin.ext (split_col _ _ _ (i 1).isLt (i 2).isLt))

theorem score8 (x : Vec Ideal S16384x1024 .f32) (mem : Vec Ideal S256x1024 .f32) (wq wk : Vec Ideal S1024x1024 .f32)
    (i : S4x16384x256.Idx) : val_main_v8 (F := Ideal) x mem wq wk i = score x mem wq wk (i 1) (i 0) (i 2) := by
  rw [val_main_v8_apply, val_main_v7_apply, val_main_cst_apply, val_main_v6_apply]
  exact congrArg (· * sc) (Finset.sum_congr rfl fun d _ =>
    congrArg₂ (· * ·) (query3 x wq (i 1) (i 0) d _ rfl rfl rfl) (key4 mem wk (i 2) (i 0) d _ rfl rfl rfl))

theorem peak9 (x : Vec Ideal S16384x1024 .f32) (mem : Vec Ideal S256x1024 .f32) (wq wk : Vec Ideal S1024x1024 .f32)
    (i : S4x16384.Idx) : val_main_v9 (F := Ideal) x mem wq wk i = peak (score x mem wq wk (i 1) (i 0)) := by
  unfold val_main_v9 val_main_cst_0
  rw [hostReduce_maximumf_eq_multiReduction _ _ _ _ (by decide) (by decide) (by decide), Ideal.multiReduction_maximumf_single]
  exact congrArg (Finset.univ.fold max (Ideal.ofBits .f32 0xFF800000#32)) (funext fun l => score8 x mem wq wk _)

theorem peak11 (x : Vec Ideal S16384x1024 .f32) (mem : Vec Ideal S256x1024 .f32) (wq wk : Vec Ideal S1024x1024 .f32)
    (i : S4x16384.Idx) : val_main_v11 (F := Ideal) x mem wq wk i = peak (score x mem wq wk (i 1) (i 0)) := by
  rw [val_main_v11_apply, val_main_v10_apply, val_main_cst_1_apply, peak9]
  exact max_peak _

theorem below15 (x : Vec Ideal S16384x1024 .f32) (mem : Vec Ideal S256x1024 .f32) (wq wk : Vec Ideal S1024x1024 .f32)
    (i : S4x16384x256.Idx) : val_main_v15 (F := Ideal) x mem wq wk i = below (score x mem wq wk (i 1) (i 0)) (i 2) := by
  rw [val_main_v15_apply, val_main_v14_apply, val_main_v13_apply, val_main_v12_apply, peak11, score8]
  rfl

theorem soft19 (x : Vec Ideal S16384x1024 .f32) (mem : Vec Ideal S256x1024 .f32) (wq wk : Vec Ideal S1024x1024 .f32)
    (hx : Finite x) (hm : Finite mem) (hq : Finite wq) (hk : Finite wk) (i : S4x16384x256.Idx) :
    val_main_v19 (F := Ideal) x mem wq wk i = soft (score x mem wq wk (i 1) (i 0)) (i 2) := by
  rw [val_main_v19_apply, val_main_v18_apply, val_main_v17_apply, val_main_v16_apply, below15]
  refine Eq.trans ?_ (soft_div (score x mem wq wk (i 1) (i 0)) (fun l => score_real x mem wq wk hx hm hq hk _ _ l) (i 2))
  simp only [below15]
  pointwise [val_main_cst_2]
  rfl

theorem head22 (x : Vec Ideal S16384x1024 .f32) (mem : Vec Ideal S256x1024 .f32) (wq wk wv : Vec Ideal S1024x1024 .f32)
    (hx : Finite x) (hm : Finite mem) (hq : Finite wq) (hk : Finite wk) (i : S16384x1024.Idx) :
    val_main_v22 (F := Ideal) x mem wq wk wv i = head x mem wq wk wv (i 0) (i 1) := by
  obtain ⟨s, j, rfl⟩ : ∃ (s : Fin 16384) (j : Fin 1024), i = ix2 s j := ⟨i 0, i 1, ix2_eq i _ _ rfl rfl⟩
  have es : (s.val * 1024 + j.val) / 1024 = s.val := by omega
  have eh : (s.val * 1024 + j.val) / 256 % 4 = j.val / 256 := by omega
  have ed : (s.val * 1024 + j.val) % 256 = j.val % 256 := by omega
  rw [val_main_v22_apply, val_main_v21_apply, val_main_v20_apply]
  refine Finset.sum_congr rfl fun k _ => ?_
  rw [soft19 x mem wq wk hx hm hq hk, mul_comm]
  refine congrArg₂ (· * ·) ?_ ((val5 mem wv k ⟨j.val / 256, by omega⟩ ⟨j.val % 256, by omega⟩ _ rfl (Fin.ext eh) (Fin.ext ed)).trans ?_)
  · exact congrArg (fun f => soft f k) (congrArg₂ (score x mem wq wk) (Fin.ext es) (Fin.ext eh))
  · exact congrArg (proj mem wv k) (Fin.ext (show j.val / 256 * 256 + j.val % 256 = j.val by omega))

theorem reference_query (x : Vec Ideal S16384x1024 .f32) (wq : Vec Ideal S1024x1024 .f32) :
    val_main_v51 (F := Ideal) x wq = Cert.Kernel12Ideal.AttnFwd.query x wq := by
  funext i
  rw [val_main_v51_apply]
  exact proj0 x wq i

theorem reference_heads (x : Vec Ideal S16384x1024 .f32) (mem : Vec Ideal S256x1024 .f32) (wq wk wv : Vec Ideal S1024x1024 .f32)
    (hx : Finite x) (hm : Finite mem) (hq : Finite wq) (hk : Finite wk) :
    val_main_v52 (F := Ideal) x mem wq wk wv = Cert.Kernel12Ideal.AttnFwd.heads x mem wq wk wv := by
  funext i
  rw [val_main_v52_apply]
  exact head22 x mem wq wk wv hx hm hq hk i

theorem reference_res (x : Vec Ideal S16384x1024 .f32) (mem : Vec Ideal S256x1024 .f32) (wq wk wv wo : Vec Ideal S1024x1024 .f32)
    (hx : Finite x) (hm : Finite mem) (hq : Finite wq) (hk : Finite wk) :
    val_main_v26 (F := Ideal) x mem wq wk wv wo = Cert.Kernel12Ideal.AttnFwd.res x mem wq wk wv wo := by
  funext i
  rw [val_main_v26_apply, val_main_v25_apply, val_main_v24_apply, val_main_v23_apply]
  simp only [head22 x mem wq wk wv hx hm hq hk]
  pointwise [val_main_cst_3]
  simp only [Reals.lit_alpha]
  refine congrArg (((Reals.alpha : ℝ) : EReal) * x i + ·) (Finset.sum_congr rfl fun k _ => congrArg (_ * ·) (congrArg wo (ix2_eq _ _ _ rfl rfl)))

theorem reference_out (x : Vec Ideal S16384x1024 .f32) (mem : Vec Ideal S256x1024 .f32) (wq wk wv wo : Vec Ideal S1024x1024 .f32)
    (g b : Vec Ideal S1024 .f32) (hx : Finite x) (hm : Finite mem) (hq : Finite wq) (hk : Finite wk) :
    val_main_v50 (F := Ideal) x mem wq wk wv wo g b = Cert.Kernel12Ideal.AttnFwd.out x mem wq wk wv wo g b := by
  funext i
  obtain ⟨s, j, rfl⟩ : ∃ (s : Fin 16384) (j : Fin 1024), i = ix2 s j := ⟨i 0, i 1, ix2_eq i _ _ rfl rfl⟩
  simp only [val_main_v50_apply, val_main_v49_apply, val_main_v48_apply, val_main_v47_apply, val_main_v46_apply, val_main_v45_apply,
    val_main_v44_apply, val_main_v43_apply, val_main_v42_apply, val_main_v41_apply, val_main_v40_apply, val_main_v39_apply,
    val_main_v38_apply, val_main_v37_apply, val_main_v36_apply, val_main_v35_apply, val_main_v34_apply, val_main_v33_apply,
    val_main_v32_apply, val_main_v31_apply, val_main_v30_apply, val_main_v29_apply, val_main_v28_apply, val_main_v27_apply,
    reference_res x mem wq wk wv wo hx hm hq hk]
  pointwise [val_main_cst_4, val_main_cst_5, val_main_cst_6, val_main_cst_7, val_main_cst_8]
  simp only [Reals.lit_1024, Reals.lit_eps]
  have e1 (k : Fin 1024) : idx_main_v27 (idx_main_v28 (idx_main_v38 (ix2 s j))) k = ix2 s k := ix2_eq _ _ _ rfl rfl
  have e2 (k : Fin 1024) : idx_main_v34 (idx_main_v35 (idx_main_v43 (ix2 s j))) k = ix2 s k := ix2_eq _ _ _ rfl rfl
  have e3 (k l : Fin 1024) : idx_main_v27 (idx_main_v28 (idx_main_v31 (ix2 s k))) l = ix2 s l := ix2_eq _ _ _ rfl rfl
  have e4 : idx_main_v45 (idx_main_v46 (ix2 s j)) = ix1 j := by
    funext a
    match a with
    | ⟨0, _⟩ => rfl
  have e5 : idx_main_v48 (idx_main_v49 (ix2 s j)) = ix1 j := by
    funext a
    match a with
    | ⟨0, _⟩ => rfl
  simp only [e1, e2, e3, e4, e5]
  rfl

/-- Where the precondition holds, the input, the memory and the two weights that make the scores hold reals. -/
theorem args (m : (ℓ : Loc Cert.Kernel12Ideal.nD Cert.Kernel12Ideal.τ Cert.Kernel12Ideal.sig) → Buf (Elt Ideal) ℓ)
    (h : Cert.Pre_Kernel12Ideal_finite_scores (hPre_finite_scores := Cert.Pre_finite_scores.Read.facts) m)
    (c : Dev Cert.Kernel12Ideal.nD) : Finite (inp m c) ∧ Finite (mem m c) ∧ Finite (wq m c) ∧ Finite (wk m c) := by
  have k := congrFun (h c) (Shape.Idx.first (s := Cert.Pre_finite_scores.S_) (by decide))
  unfold Cert.Pre_finite_scores.fn Cert.Pre_finite_scores.fn_part1 at k
  dsimp only at k
  have k3 := Cert.Pre_finite.Read.and_right k
  have k' := Cert.Pre_finite.Read.and_left k
  have k2 := Cert.Pre_finite.Read.and_right k'
  have k'' := Cert.Pre_finite.Read.and_left k'
  have k1 := Cert.Pre_finite.Read.and_right k''
  have k0 := Cert.Pre_finite.Read.and_left k''
  exact ⟨fun i => ⟨_, Cert.Pre_finite.Read.real_of_all _ _ _ _ _ k0 i⟩, fun i => ⟨_, Cert.Pre_finite.Read.real_of_all _ _ _ _ _ k1 i⟩,
    fun i => ⟨_, Cert.Pre_finite.Read.real_of_all _ _ _ _ _ k2 i⟩, fun i => ⟨_, Cert.Pre_finite.Read.real_of_all _ _ _ _ _ k3 i⟩⟩

theorem algebraic : Cert.algebraic_Kernel12Ideal_Reference12Ideal_pre_finite_scores (hKernel12Ideal := Cert.Kernel12Ideal.Gen.facts)
    (hReference12Ideal := Cert.Reference12Ideal.Gen.facts) (hPre_finite_scores := Cert.Pre_finite_scores.Read.facts) := by
  intro m g m' g' hpre hag
  refine ⟨fun c => Cert.Kernel12Ideal.AttnFwd.out (inp m c) (mem m c) (wq m c) (wk m c) (wv m c) (wo m c) (scale m c) (shift m c),
    fun c => Cert.Kernel12Ideal.AttnFwd.res (inp m c) (mem m c) (wq m c) (wk m c) (wv m c) (wo m c),
    fun c => Cert.Kernel12Ideal.AttnFwd.query (inp m c) (wq m c),
    fun c => Cert.Kernel12Ideal.AttnFwd.heads (inp m c) (mem m c) (wq m c) (wk m c) (wv m c), ?_, ?_⟩
  · refine (θ_run Cert.Kernel12Ideal.defs _ _).mono (fun r h c => ?_) (Cert.Kernel12Ideal.Value.run_blocks m g)
    obtain ⟨h6, h7, h8, h9, hargs⟩ := h c
    exact ⟨h6.trans (Cert.Kernel12Ideal.AttnFwd.final6 m c), h7.trans (Cert.Kernel12Ideal.AttnFwd.final7 m c),
      h8.trans (Cert.Kernel12Ideal.AttnFwd.final8 m c), h9.trans (Cert.Kernel12Ideal.AttnFwd.final9 m c), hargs⟩
  · refine (θ_run Cert.Reference12Ideal.defs _ _).mono (fun r h c => ?_) (Cert.Reference12Ideal.Value.run m' g')
    obtain ⟨h6, h7, h8, h9, hargs⟩ := h c
    obtain ⟨hx, hm, hq, hk⟩ := args m hpre c
    obtain ⟨e0, e1, e2, e3, e4, e5, e6, e7⟩ := hag c
    refine ⟨(h6.trans (val_main_v50_eq m' c)).trans ?_, (h7.trans (val_main_v26_eq _ _ _ _ _ _)).trans ?_,
      (h8.trans (val_main_v51_eq _ _)).trans ?_, (h9.trans (val_main_v52_eq _ _ _ _ _)).trans ?_, hargs⟩
    · rw [e0, e1, e2, e3, e4, e5, e6, e7]
      exact reference_out _ _ _ _ _ _ _ _ hx hm hq hk
    · rw [e0, e1, e2, e3, e4, e5]
      exact reference_res _ _ _ _ _ _ hx hm hq hk
    · rw [e0, e2]
      exact reference_query _ _
    · rw [e0, e1, e2, e3, e4]
      exact reference_heads _ _ _ _ _ hx hm hq hk

theorem reference_frame : Cert.quiescent_Reference12Ideal (hReference12Ideal := Cert.Reference12Ideal.Gen.facts) :=
  fun m g _ => (θ_run _ _ _).mono (fun r h => ⟨fun c => (h c).2.2.2.2, sem_eq_zero_of_no_sems (by decide) r.2⟩)
    (Cert.Reference12Ideal.Value.run m g)

end Cert.Proof.AttnFwd

end
-- ==== Proof.Adam.lean ====
/- The optimiser's step on the feed-forward weights: the eight parts of the gradient added up, and from their sum the update
   of the weight and the two new moments. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Claim
public import Idealize.ShloMosaic.Lib.IdealHost
public import Idealize.ShloMosaic.Lib.Quiescent
public import Idealize.ShloMosaic.Lib.Pointwise.Index
public import Idealize.ShloMosaic.Lib.Pipeline.ValueKit
public import Idealize.ShloMosaic.Lib.Pipeline.ReadBack

@[expose] public section

set_option maxRecDepth 16384

noncomputable section

namespace Cert.Kernel14Ideal.Adam

open Cert.Kernel14Ideal Cert.Kernel14Ideal.Gen Cert.Kernel14Ideal.Value Idealize.ShloMosaic Idealize.ShloMosaic.TcCoe

/-- A literal of the programs. -/
abbrev lit (b : BitVec 32) : EReal := Ideal.ofBits .f32 b

/-- The new first moment, the new second moment, and the weight's update, from the gradient. -/
def moment1 (g m : EReal) : EReal := lit 0x3F666666#32 * m + lit 0x3DCCCCCD#32 * g
def moment2 (g v : EReal) : EReal := lit 0x3F7FBE77#32 * v + lit 0x3A83126F#32 * (g * g)
def delta (g w m v : EReal) : EReal :=
  lit 0xBA83126F#32 * (Ideal.div (Ideal.div (moment1 g m) (lit 0x3F26BD02#32))
    (Ideal.sqrt (Ideal.div (moment2 g v) (lit 0x3C231ACC#32)) + lit 0x322BCC77#32) + lit 0x3C23D70A#32 * w)

section
variable (x0 : Vec Ideal S8x176x1024 .bf16) (x1 x2 x3 : Vec Ideal S176x1024 .f32)

/-- The gradient at one place of a block: the sum of the eight parts. -/
def blkGrad (x0 : Vec Ideal S8x176x1024 .bf16) (y : S176x1024.Idx) : EReal := ∑ k : Fin 8, x0 (ix3 k (y 0) (y 1))

theorem pay5 (y : S176x1024.Idx) : k0_pay5 (F := Ideal) x0 x1 x2 x3 y = blkGrad x0 y := by
  pointwise [k0_pay5, k0_pay4]
  unfold blkGrad
  simp only [Fin.sum_univ_eight]

theorem out4 (y : S176x1024.Idx) : out0_4 x0 x1 x2 x3 y = blkGrad x0 y := by
  frame_out
  exact pay5 x0 x1 x2 x3 y

theorem out6 (y : S176x1024.Idx) : out0_6 x0 x1 x2 x3 y = moment1 (blkGrad x0 y) (x2 y) := by
  frame_out
  pointwise [k0_pay1]
  rw [pay5]
  rfl

theorem out7 (y : S176x1024.Idx) : out0_7 x0 x1 x2 x3 y = moment2 (blkGrad x0 y) (x3 y) := by
  frame_out
  pointwise [k0_pay2]
  rw [pay5]
  rfl

theorem out5 (y : S176x1024.Idx) : out0_5 x0 x1 x2 x3 y = delta (blkGrad x0 y) (x1 y) (x2 y) (x3 y) := by
  frame_out
  pointwise [k0_pay3, k0_pay1, k0_pay2]
  simp only [pay5]
  rfl

end

variable (m : (ℓ : Loc nD τ sig) → Buf (Elt Ideal) ℓ)

/-- The devices' parts of the gradient, the weights, and the two moments. -/
abbrev parts (c : Dev nD) : Vec Ideal S8x1056x1024 .bf16 := m ((c : Thread nD τ).loc main_arg0)
abbrev weight (c : Dev nD) : Vec Ideal S1056x1024 .f32 := m ((c : Thread nD τ).loc main_arg1)
abbrev first (c : Dev nD) : Vec Ideal S1056x1024 .f32 := m ((c : Thread nD τ).loc main_arg2)
abbrev second (c : Dev nD) : Vec Ideal S1056x1024 .f32 := m ((c : Thread nD τ).loc main_arg3)

/-- A row of the grid point's tile, as a row of the whole array. -/
def row (n : ℕ) (r : Fin 176) : Fin 1056 := ⟨n % 6 * 176 + r.val, by omega⟩

theorem idx0 : ∀ t : Fin cfg0.N, win0_0.index t = ![0, t.val % 6, 0] := by decide +kernel
theorem idx1 : ∀ t : Fin cfg0.N, win0_1.index t = ![t.val % 6, 0] := by decide +kernel
theorem idx2 : ∀ t : Fin cfg0.N, win0_2.index t = ![t.val % 6, 0] := by decide +kernel
theorem idx3 : ∀ t : Fin cfg0.N, win0_3.index t = ![t.val % 6, 0] := by decide +kernel
theorem idx4 : ∀ t : Fin cfg0.N, win0_4.index t = ![t.val % 6, 0] := by decide +kernel
theorem idx5 : ∀ t : Fin cfg0.N, win0_5.index t = ![t.val % 6, 0] := by decide +kernel
theorem idx6 : ∀ t : Fin cfg0.N, win0_6.index t = ![t.val % 6, 0] := by decide +kernel
theorem idx7 : ∀ t : Fin cfg0.N, win0_7.index t = ![t.val % 6, 0] := by decide +kernel

/-- The gradient: the sum of the eight parts. -/
def grad (p : Vec Ideal S8x1056x1024 .bf16) : Vec Ideal S1056x1024 .f32 := fun i => ∑ k : Fin 8, p (ix3 k (i 0) (i 1))

theorem blk0 (c : Dev nD) (t : Fin cfg0.N) (y : S176x1024.Idx) :
    blkGrad (iblk m c 0 t : Vec Ideal S8x176x1024 .bf16) y = grad (parts m c) (ix2 (row t.val (y 0)) (y 1)) := by
  refine Finset.sum_congr rfl fun k _ => ?_
  have e : (iblk m c 0 t : Vec Ideal S8x176x1024 .bf16) (ix3 k (y 0) (y 1))
      = (V m c main_arg0 : Vec Ideal S8x1056x1024 .bf16) (ix3 k (row t.val (y 0)) (y 1)) := by
    blk_ext [iblk, idx0 t, row]
  rw [e]
  exact congrFun (V_main_arg0 m c) _

theorem blk1 (c : Dev nD) (t : Fin cfg0.N) (i : S176x1024.Idx) :
    (iblk m c 1 t : Vec Ideal S176x1024 .f32) i = weight m c (ix2 (row t.val (i 0)) (i 1)) := by
  have e : (iblk m c 1 t : Vec Ideal S176x1024 .f32) i
      = (V m c main_arg1 : Vec Ideal S1056x1024 .f32) (ix2 (row t.val (i 0)) (i 1)) := by
    blk_ext [iblk, idx1 t, row]
  rw [e]

theorem blk2 (c : Dev nD) (t : Fin cfg0.N) (i : S176x1024.Idx) :
    (iblk m c 2 t : Vec Ideal S176x1024 .f32) i = first m c (ix2 (row t.val (i 0)) (i 1)) := by
  have e : (iblk m c 2 t : Vec Ideal S176x1024 .f32) i
      = (V m c main_arg2 : Vec Ideal S1056x1024 .f32) (ix2 (row t.val (i 0)) (i 1)) := by
    blk_ext [iblk, idx2 t, row]
  rw [e]

theorem blk3 (c : Dev nD) (t : Fin cfg0.N) (i : S176x1024.Idx) :
    (iblk m c 3 t : Vec Ideal S176x1024 .f32) i = second m c (ix2 (row t.val (i 0)) (i 1)) := by
  have e : (iblk m c 3 t : Vec Ideal S176x1024 .f32) i
      = (V m c main_arg3 : Vec Ideal S1056x1024 .f32) (ix2 (row t.val (i 0)) (i 1)) := by
    blk_ext [iblk, idx3 t, row]
  rw [e]

theorem idx_ext {n k : ℕ} {i : (⟨2, ![n, k]⟩ : Shape).Idx} {p : Fin n} {q : Fin k} (h0 : (i 0).val = p.val) (h1 : (i 1).val = q.val) :
    ix2 p q = i := by
  funext a
  match a with
  | ⟨0, _⟩ => exact Fin.ext h0.symm
  | ⟨1, _⟩ => exact Fin.ext h1.symm

/-- The new first moment, the new second moment, and the weights' update. -/
def new1 (p : Vec Ideal S8x1056x1024 .bf16) (a : Vec Ideal S1056x1024 .f32) : Vec Ideal S1056x1024 .f32 :=
  fun i => moment1 (grad p i) (a i)
def new2 (p : Vec Ideal S8x1056x1024 .bf16) (b : Vec Ideal S1056x1024 .f32) : Vec Ideal S1056x1024 .f32 :=
  fun i => moment2 (grad p i) (b i)
def update (p : Vec Ideal S8x1056x1024 .bf16) (w a b : Vec Ideal S1056x1024 .f32) : Vec Ideal S1056x1024 .f32 :=
  fun i => delta (grad p i) (w i) (a i) (b i)

theorem final4 (c : Dev nD) : (dats m 0 c).arrAt 4 cfg0.N = grad (parts m c) := by
  refine (dats m 0 c).arrAt_eq_of_covers 4 _ (by decide +kernel) fun t hf y => ?_
  blk_simp
  rw [after0_4]
  refine ((out4 _ _ _ _ y).trans (blk0 m c t y)).trans (congrArg _ (idx_ext ?_ ?_)) <;> blk_simp [idx4 t, row]

theorem final5 (c : Dev nD) : (dats m 0 c).arrAt 5 cfg0.N = update (parts m c) (weight m c) (first m c) (second m c) := by
  refine (dats m 0 c).arrAt_eq_of_covers 5 _ (by decide +kernel) fun t hf y => ?_
  blk_simp
  rw [after0_5]
  refine ((out5 _ _ _ _ y).trans (?_ : _ = update (parts m c) (weight m c) (first m c) (second m c) (ix2 (row t.val (y 0)) (y 1)))).trans
    (congrArg _ (idx_ext ?_ ?_))
  · rw [blk0 m c t y, blk1 m c t y, blk2 m c t y, blk3 m c t y]
    rfl
  all_goals blk_simp [idx5 t, row]

theorem final6 (c : Dev nD) : (dats m 0 c).arrAt 6 cfg0.N = new1 (parts m c) (first m c) := by
  refine (dats m 0 c).arrAt_eq_of_covers 6 _ (by decide +kernel) fun t hf y => ?_
  blk_simp
  rw [after0_6]
  refine ((out6 _ _ _ _ y).trans (?_ : _ = new1 (parts m c) (first m c) (ix2 (row t.val (y 0)) (y 1)))).trans
    (congrArg _ (idx_ext ?_ ?_))
  · rw [blk0 m c t y, blk2 m c t y]
    rfl
  all_goals blk_simp [idx6 t, row]

theorem final7 (c : Dev nD) : (dats m 0 c).arrAt 7 cfg0.N = new2 (parts m c) (second m c) := by
  refine (dats m 0 c).arrAt_eq_of_covers 7 _ (by decide +kernel) fun t hf y => ?_
  blk_simp
  rw [after0_7]
  refine ((out7 _ _ _ _ y).trans (?_ : _ = new2 (parts m c) (second m c) (ix2 (row t.val (y 0)) (y 1)))).trans
    (congrArg _ (idx_ext ?_ ?_))
  · rw [blk0 m c t y, blk3 m c t y]
    rfl
  all_goals blk_simp [idx7 t, row]

end Cert.Kernel14Ideal.Adam

namespace Cert.Proof.Adam

open Idealize.ShloMosaic Idealize.ShloMosaic.TcCoe Idealize.SL.Sem Cert.Reference14Ideal Cert.Reference14Ideal.Gen
  Cert.Reference14Ideal.Read Cert.Kernel14Ideal.Adam

variable (p : Vec Ideal S8x1056x1024 .bf16) (w a b : Vec Ideal S1056x1024 .f32)

theorem reference_grad : val_main_v1 (F := Ideal) p = grad p := by
  funext i
  simp only [val_main_v1_apply, val_main_v0_apply, val_main_cst_apply]
  pointwise
  refine Finset.sum_congr rfl fun k _ => congrArg p ?_
  funext d
  match d with
  | ⟨0, _⟩ => rfl
  | ⟨1, _⟩ => rfl
  | ⟨2, _⟩ => rfl

theorem reference_new1 : val_main_v6 (F := Ideal) p a = new1 p a := by
  funext i
  simp only [val_main_v6_apply, val_main_v5_apply, val_main_v4_apply, val_main_v3_apply, val_main_v2_apply, val_main_cst_0_apply,
    val_main_cst_1_apply, reference_grad]
  rfl

theorem reference_new2 : val_main_v12 (F := Ideal) p b = new2 p b := by
  funext i
  simp only [val_main_v12_apply, val_main_v11_apply, val_main_v10_apply, val_main_v9_apply, val_main_v8_apply, val_main_v7_apply,
    val_main_cst_2_apply, val_main_cst_3_apply, reference_grad]
  rfl

theorem reference_update : val_main_v25 (F := Ideal) p w a b = update p w a b := by
  funext i
  simp only [val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, val_main_cst_4_apply, val_main_cst_5_apply, val_main_cst_6_apply, val_main_cst_7_apply,
    val_main_cst_8_apply, reference_new1, reference_new2]
  rfl

theorem algebraic : Cert.algebraic_Kernel14Ideal_Reference14Ideal (hKernel14Ideal := Cert.Kernel14Ideal.Gen.facts)
    (hReference14Ideal := Cert.Reference14Ideal.Gen.facts) := by
  intro m g m' g' _ hag
  refine ⟨fun c => grad (parts m c), fun c => update (parts m c) (weight m c) (first m c) (second m c),
    fun c => new1 (parts m c) (first m c), fun c => new2 (parts m c) (second m c), ?_, ?_⟩
  · refine (θ_run Cert.Kernel14Ideal.defs _ _).mono (fun r h c => ?_) (Cert.Kernel14Ideal.Value.run_blocks m g)
    obtain ⟨h4, h5, h6, h7, hargs⟩ := h c
    exact ⟨h4.trans (final4 m c), h5.trans (final5 m c), h6.trans (final6 m c), h7.trans (final7 m c), hargs⟩
  · refine (θ_run Cert.Reference14Ideal.defs _ _).mono (fun r h c => ?_) (Cert.Reference14Ideal.Value.run m' g')
    obtain ⟨h4, h5, h6, h7, hargs⟩ := h c
    obtain ⟨e0, e1, e2, e3⟩ := hag c
    refine ⟨(h4.trans (val_main_v1_eq _)).trans ((reference_grad _).trans ?_),
      (h5.trans (val_main_v25_eq _ _ _ _)).trans ((reference_update _ _ _ _).trans ?_),
      (h6.trans (val_main_v6_eq _ _)).trans ((reference_new1 _ _).trans ?_),
      (h7.trans (val_main_v12_eq _ _)).trans ((reference_new2 _ _).trans ?_), hargs⟩
    · rw [e0]
    · rw [e0, e1, e2, e3]
    · rw [e0, e2]
    · rw [e0, e3]

theorem reference_frame : Cert.quiescent_Reference14Ideal (hReference14Ideal := Cert.Reference14Ideal.Gen.facts) :=
  fun m g _ => (θ_run _ _ _).mono (fun r h => ⟨fun c => (h c).2.2.2.2, sem_eq_zero_of_no_sems (by decide) r.2⟩)
    (Cert.Reference14Ideal.Value.run m g)

end Cert.Proof.Adam

end
-- ==== Proof.lean ====
/- The claim, assembled: for each program its two frames and its reference's, that the idealised program is the program, and
   that the idealised kernel computes what its reference computes. The feed-forward backward call comes first. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.FfnClaim
public import proofs.«01_k».proof.Proof.GradDown
public import proofs.«01_k».proof.Proof.GradGateUp
public import proofs.«01_k».proof.Proof.GradSquare
public import proofs.«01_k».proof.Proof.GradIn
public import proofs.«01_k».proof.Proof.GradX
public import proofs.«01_k».proof.Proof.FfnIn
public import proofs.«01_k».proof.Proof.FfnOut
public import proofs.«01_k».proof.Proof.GradLeft
public import proofs.«01_k».proof.Proof.GradRight
public import proofs.«01_k».proof.Proof.FfnLoss
public import proofs.«01_k».proof.Proof.AttnFwd
public import proofs.«01_k».proof.Proof.Adam
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The feed-forward reference runs on the host alone: its arguments end unchanged, and it has no semaphores. -/
theorem reference_frame : Cert.quiescent_ReferenceIdeal (hReferenceIdeal := Cert.ReferenceIdeal.Gen.facts) := fun m g _ =>
  (θ_run Cert.ReferenceIdeal.defs _ _).mono (fun r h => ⟨fun c => (h c).2.2.2.2, sem_eq_zero_of_no_sems (by decide) r.2⟩)
    (Cert.ReferenceIdeal.Value.run m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel14.Gen.facts, Cert.Kernel14Ideal.Gen.facts, Cert.Reference14Ideal.Gen.facts,
    Cert.Pre_finite.Read.facts, Cert.Pre_finite_scores.Read.facts,
    fun m g _ => Cert.Kernel.Gen.frame m g, fun m g _ => Cert.KernelIdeal.Gen.frame m g,
    fun m g _ => Cert.KernelIdeal.Gen.frame m g, reference_frame, fun m g _ => reference_frame m g True.intro,
    fun m g _ => Cert.Kernel2.Gen.frame m g, fun m g _ => Cert.Kernel2Ideal.Gen.frame m g, GradDown.reference_frame,
    fun m g _ => Cert.Kernel3.Gen.frame m g, fun m g _ => Cert.Kernel3Ideal.Gen.frame m g, GradGateUp.reference_frame,
    fun m g _ => Cert.Kernel4.Gen.frame m g, fun m g _ => Cert.Kernel4Ideal.Gen.frame m g, GradSquare.reference_frame,
    fun m g _ => Cert.Kernel5.Gen.frame m g, fun m g _ => Cert.Kernel5Ideal.Gen.frame m g, GradIn.reference_frame,
    fun m g _ => Cert.Kernel6.Gen.frame m g, fun m g _ => Cert.Kernel6Ideal.Gen.frame m g, GradX.reference_frame,
    fun m g _ => Cert.Kernel7.Gen.frame m g, fun m g _ => Cert.Kernel7Ideal.Gen.frame m g, FfnIn.reference_frame,
    fun m g _ => Cert.Kernel8.Gen.frame m g, fun m g _ => Cert.Kernel8Ideal.Gen.frame m g, FfnOut.reference_frame,
    fun m g _ => Cert.Kernel9.Gen.frame m g, fun m g _ => Cert.Kernel9Ideal.Gen.frame m g, GradLeft.reference_frame,
    fun m g _ => Cert.Kernel10.Gen.frame m g, fun m g _ => Cert.Kernel10Ideal.Gen.frame m g, GradRight.reference_frame,
    fun m g _ => Cert.Kernel11.Gen.frame m g, fun m g _ => Cert.Kernel11Ideal.Gen.frame m g, FfnLoss.reference_frame,
    fun m g _ => Cert.Kernel12.Gen.frame m g, fun m g _ => Cert.Kernel12Ideal.Gen.frame m g,
    fun m g _ => Cert.Kernel12Ideal.Gen.frame m g, AttnFwd.reference_frame, fun m g _ => AttnFwd.reference_frame m g True.intro,
    fun m g _ => Cert.Kernel14.Gen.frame m g, fun m g _ => Cert.Kernel14Ideal.Gen.frame m g, Adam.reference_frame,
    trivial, Ffn.algebraic,
    trivial, GradDown.algebraic,
    trivial, GradGateUp.algebraic,
    trivial, GradSquare.algebraic,
    trivial, GradIn.algebraic,
    trivial, GradX.algebraic,
    trivial, FfnIn.algebraic,
    trivial, FfnOut.algebraic,
    trivial, GradLeft.algebraic,
    trivial, GradRight.algebraic,
    trivial, FfnLoss.algebraic,
    trivial, AttnFwd.algebraic,
    trivial, Adam.algebraic⟩

end Cert.Proof

end
